-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_na_finite [hPre_na_finite : Cert.Pre_na_finite.Facts] (m : (ℓ : Loc Cert.NaIdeal.nD Cert.NaIdeal.τ Cert.NaIdeal.sig) → Buf (Elt Ideal) ℓ) : Prop :=
  ∀ c : Dev Cert.NaIdeal.nD,
    (Cert.Pre_na_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3)) (m ((c.tc : Thread Cert.NaIdeal.nD Cert.NaIdeal.τ).loc Cert.NaIdeal.main_arg4)) (m ((c.tc : Thread Cert.NaIdeal.nD Cert.NaIdeal.τ).loc Cert.NaIdeal.main_arg5)) (m ((c.tc : Thread Cert.NaIdeal.nD Cert.NaIdeal.τ).loc Cert.NaIdeal.main_arg6)) (m ((c.tc : Thread Cert.NaIdeal.nD Cert.NaIdeal.τ).loc Cert.NaIdeal.main_arg7)) (m ((c.tc : Thread Cert.NaIdeal.nD Cert.NaIdeal.τ).loc Cert.NaIdeal.main_arg8)) (m ((c.tc : Thread Cert.NaIdeal.nD Cert.NaIdeal.τ).loc Cert.NaIdeal.main_arg9)) (m ((c.tc : Thread Cert.NaIdeal.nD Cert.NaIdeal.τ).loc Cert.NaIdeal.main_arg10))) = (fun _ => 1#1)

def Pre_NaRefIdeal (m : (ℓ : Loc Cert.NaRefIdeal.nD Cert.NaRefIdeal.τ Cert.NaRefIdeal.sig) → Buf (Elt Ideal) ℓ) : Prop :=
  True

def Pre_NaRefIdeal_na_finite [hPre_na_finite : Cert.Pre_na_finite.Facts] (m : (ℓ : Loc Cert.NaRefIdeal.nD Cert.NaRefIdeal.τ Cert.NaRefIdeal.sig) → Buf (Elt Ideal) ℓ) : Prop :=
  ∀ c : Dev Cert.NaRefIdeal.nD,
    (Cert.Pre_na_finite.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3)) (m ((c.tc : Thread Cert.NaRefIdeal.nD Cert.NaRefIdeal.τ).loc Cert.NaRefIdeal.main_arg4)) (m ((c.tc : Thread Cert.NaRefIdeal.nD Cert.NaRefIdeal.τ).loc Cert.NaRefIdeal.main_arg5)) (m ((c.tc : Thread Cert.NaRefIdeal.nD Cert.NaRefIdeal.τ).loc Cert.NaRefIdeal.main_arg6)) (m ((c.tc : Thread Cert.NaRefIdeal.nD Cert.NaRefIdeal.τ).loc Cert.NaRefIdeal.main_arg7)) (m ((c.tc : Thread Cert.NaRefIdeal.nD Cert.NaRefIdeal.τ).loc Cert.NaRefIdeal.main_arg8)) (m ((c.tc : Thread Cert.NaRefIdeal.nD Cert.NaRefIdeal.τ).loc Cert.NaRefIdeal.main_arg9)) (m ((c.tc : Thread Cert.NaRefIdeal.nD Cert.NaRefIdeal.τ).loc Cert.NaRefIdeal.main_arg10))) = (fun _ => 1#1)

def Pre_Fourier (m : (ℓ : Loc Cert.Fourier.nD Cert.Fourier.τ Cert.Fourier.sig) → Buf (Elt Bits) ℓ) : Prop :=
  True

def Pre_FourierIdeal (m : (ℓ : Loc Cert.FourierIdeal.nD Cert.FourierIdeal.τ Cert.FourierIdeal.sig) → Buf (Elt Ideal) ℓ) : Prop :=
  True

def Pre_FourierRefIdeal (m : (ℓ : Loc Cert.FourierRefIdeal.nD Cert.FourierRefIdeal.τ Cert.FourierRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1)
      ∧ r.2.mem ((c.tc : Thread Cert.Na.nD Cert.Na.τ).loc Cert.Na.main_arg2) = m ((c.tc : Thread Cert.Na.nD Cert.Na.τ).loc Cert.Na.main_arg2)
      ∧ r.2.mem ((c.tc : Thread Cert.Na.nD Cert.Na.τ).loc Cert.Na.main_arg3) = m ((c.tc : Thread Cert.Na.nD Cert.Na.τ).loc Cert.Na.main_arg3)
      ∧ r.2.mem ((c.tc : Thread Cert.Na.nD Cert.Na.τ).loc Cert.Na.main_arg4) = m ((c.tc : Thread Cert.Na.nD Cert.Na.τ).loc Cert.Na.main_arg4)
      ∧ r.2.mem ((c.tc : Thread Cert.Na.nD Cert.Na.τ).loc Cert.Na.main_arg5) = m ((c.tc : Thread Cert.Na.nD Cert.Na.τ).loc Cert.Na.main_arg5)
      ∧ r.2.mem ((c.tc : Thread Cert.Na.nD Cert.Na.τ).loc Cert.Na.main_arg6) = m ((c.tc : Thread Cert.Na.nD Cert.Na.τ).loc Cert.Na.main_arg6)
      ∧ r.2.mem ((c.tc : Thread Cert.Na.nD Cert.Na.τ).loc Cert.Na.main_arg7) = m ((c.tc : Thread Cert.Na.nD Cert.Na.τ).loc Cert.Na.main_arg7)
      ∧ r.2.mem ((c.tc : Thread Cert.Na.nD Cert.Na.τ).loc Cert.Na.main_arg8) = m ((c.tc : Thread Cert.Na.nD Cert.Na.τ).loc Cert.Na.main_arg8)
      ∧ r.2.mem ((c.tc : Thread Cert.Na.nD Cert.Na.τ).loc Cert.Na.main_arg9) = m ((c.tc : Thread Cert.Na.nD Cert.Na.τ).loc Cert.Na.main_arg9)
      ∧ r.2.mem ((c.tc : Thread Cert.Na.nD Cert.Na.τ).loc Cert.Na.main_arg10) = m ((c.tc : Thread Cert.Na.nD Cert.Na.τ).loc Cert.Na.main_arg10))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3)
      ∧ r.2.mem ((c.tc : Thread Cert.NaIdeal.nD Cert.NaIdeal.τ).loc Cert.NaIdeal.main_arg4) = m ((c.tc : Thread Cert.NaIdeal.nD Cert.NaIdeal.τ).loc Cert.NaIdeal.main_arg4)
      ∧ r.2.mem ((c.tc : Thread Cert.NaIdeal.nD Cert.NaIdeal.τ).loc Cert.NaIdeal.main_arg5) = m ((c.tc : Thread Cert.NaIdeal.nD Cert.NaIdeal.τ).loc Cert.NaIdeal.main_arg5)
      ∧ r.2.mem ((c.tc : Thread Cert.NaIdeal.nD Cert.NaIdeal.τ).loc Cert.NaIdeal.main_arg6) = m ((c.tc : Thread Cert.NaIdeal.nD Cert.NaIdeal.τ).loc Cert.NaIdeal.main_arg6)
      ∧ r.2.mem ((c.tc : Thread Cert.NaIdeal.nD Cert.NaIdeal.τ).loc Cert.NaIdeal.main_arg7) = m ((c.tc : Thread Cert.NaIdeal.nD Cert.NaIdeal.τ).loc Cert.NaIdeal.main_arg7)
      ∧ r.2.mem ((c.tc : Thread Cert.NaIdeal.nD Cert.NaIdeal.τ).loc Cert.NaIdeal.main_arg8) = m ((c.tc : Thread Cert.NaIdeal.nD Cert.NaIdeal.τ).loc Cert.NaIdeal.main_arg8)
      ∧ r.2.mem ((c.tc : Thread Cert.NaIdeal.nD Cert.NaIdeal.τ).loc Cert.NaIdeal.main_arg9) = m ((c.tc : Thread Cert.NaIdeal.nD Cert.NaIdeal.τ).loc Cert.NaIdeal.main_arg9)
      ∧ r.2.mem ((c.tc : Thread Cert.NaIdeal.nD Cert.NaIdeal.τ).loc Cert.NaIdeal.main_arg10) = m ((c.tc : Thread Cert.NaIdeal.nD Cert.NaIdeal.τ).loc Cert.NaIdeal.main_arg10))
      ∧ r.2.sem = fun _ => 0)

def quiescent_NaIdeal_pre_na_finite [hNaIdeal : Cert.NaIdeal.Facts] [hPre_na_finite : Cert.Pre_na_finite.Facts] : Prop :=
  ∀ (m : (ℓ : Loc Cert.NaIdeal.nD Cert.NaIdeal.τ Cert.NaIdeal.sig) → Buf (Elt Ideal) ℓ) (g : Dev Cert.NaIdeal.nD → PrngReg), Pre_NaIdeal_na_finite m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3)
      ∧ r.2.mem ((c.tc : Thread Cert.NaIdeal.nD Cert.NaIdeal.τ).loc Cert.NaIdeal.main_arg4) = m ((c.tc : Thread Cert.NaIdeal.nD Cert.NaIdeal.τ).loc Cert.NaIdeal.main_arg4)
      ∧ r.2.mem ((c.tc : Thread Cert.NaIdeal.nD Cert.NaIdeal.τ).loc Cert.NaIdeal.main_arg5) = m ((c.tc : Thread Cert.NaIdeal.nD Cert.NaIdeal.τ).loc Cert.NaIdeal.main_arg5)
      ∧ r.2.mem ((c.tc : Thread Cert.NaIdeal.nD Cert.NaIdeal.τ).loc Cert.NaIdeal.main_arg6) = m ((c.tc : Thread Cert.NaIdeal.nD Cert.NaIdeal.τ).loc Cert.NaIdeal.main_arg6)
      ∧ r.2.mem ((c.tc : Thread Cert.NaIdeal.nD Cert.NaIdeal.τ).loc Cert.NaIdeal.main_arg7) = m ((c.tc : Thread Cert.NaIdeal.nD Cert.NaIdeal.τ).loc Cert.NaIdeal.main_arg7)
      ∧ r.2.mem ((c.tc : Thread Cert.NaIdeal.nD Cert.NaIdeal.τ).loc Cert.NaIdeal.main_arg8) = m ((c.tc : Thread Cert.NaIdeal.nD Cert.NaIdeal.τ).loc Cert.NaIdeal.main_arg8)
      ∧ r.2.mem ((c.tc : Thread Cert.NaIdeal.nD Cert.NaIdeal.τ).loc Cert.NaIdeal.main_arg9) = m ((c.tc : Thread Cert.NaIdeal.nD Cert.NaIdeal.τ).loc Cert.NaIdeal.main_arg9)
      ∧ r.2.mem ((c.tc : Thread Cert.NaIdeal.nD Cert.NaIdeal.τ).loc Cert.NaIdeal.main_arg10) = m ((c.tc : Thread Cert.NaIdeal.nD Cert.NaIdeal.τ).loc Cert.NaIdeal.main_arg10))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3)
      ∧ r.2.mem ((c.tc : Thread Cert.NaRefIdeal.nD Cert.NaRefIdeal.τ).loc Cert.NaRefIdeal.main_arg4) = m ((c.tc : Thread Cert.NaRefIdeal.nD Cert.NaRefIdeal.τ).loc Cert.NaRefIdeal.main_arg4)
      ∧ r.2.mem ((c.tc : Thread Cert.NaRefIdeal.nD Cert.NaRefIdeal.τ).loc Cert.NaRefIdeal.main_arg5) = m ((c.tc : Thread Cert.NaRefIdeal.nD Cert.NaRefIdeal.τ).loc Cert.NaRefIdeal.main_arg5)
      ∧ r.2.mem ((c.tc : Thread Cert.NaRefIdeal.nD Cert.NaRefIdeal.τ).loc Cert.NaRefIdeal.main_arg6) = m ((c.tc : Thread Cert.NaRefIdeal.nD Cert.NaRefIdeal.τ).loc Cert.NaRefIdeal.main_arg6)
      ∧ r.2.mem ((c.tc : Thread Cert.NaRefIdeal.nD Cert.NaRefIdeal.τ).loc Cert.NaRefIdeal.main_arg7) = m ((c.tc : Thread Cert.NaRefIdeal.nD Cert.NaRefIdeal.τ).loc Cert.NaRefIdeal.main_arg7)
      ∧ r.2.mem ((c.tc : Thread Cert.NaRefIdeal.nD Cert.NaRefIdeal.τ).loc Cert.NaRefIdeal.main_arg8) = m ((c.tc : Thread Cert.NaRefIdeal.nD Cert.NaRefIdeal.τ).loc Cert.NaRefIdeal.main_arg8)
      ∧ r.2.mem ((c.tc : Thread Cert.NaRefIdeal.nD Cert.NaRefIdeal.τ).loc Cert.NaRefIdeal.main_arg9) = m ((c.tc : Thread Cert.NaRefIdeal.nD Cert.NaRefIdeal.τ).loc Cert.NaRefIdeal.main_arg9)
      ∧ r.2.mem ((c.tc : Thread Cert.NaRefIdeal.nD Cert.NaRefIdeal.τ).loc Cert.NaRefIdeal.main_arg10) = m ((c.tc : Thread Cert.NaRefIdeal.nD Cert.NaRefIdeal.τ).loc Cert.NaRefIdeal.main_arg10))
      ∧ r.2.sem = fun _ => 0)

def quiescent_NaRefIdeal_pre_na_finite [hNaRefIdeal : Cert.NaRefIdeal.Facts] [hPre_na_finite : Cert.Pre_na_finite.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal_na_finite m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3)
      ∧ r.2.mem ((c.tc : Thread Cert.NaRefIdeal.nD Cert.NaRefIdeal.τ).loc Cert.NaRefIdeal.main_arg4) = m ((c.tc : Thread Cert.NaRefIdeal.nD Cert.NaRefIdeal.τ).loc Cert.NaRefIdeal.main_arg4)
      ∧ r.2.mem ((c.tc : Thread Cert.NaRefIdeal.nD Cert.NaRefIdeal.τ).loc Cert.NaRefIdeal.main_arg5) = m ((c.tc : Thread Cert.NaRefIdeal.nD Cert.NaRefIdeal.τ).loc Cert.NaRefIdeal.main_arg5)
      ∧ r.2.mem ((c.tc : Thread Cert.NaRefIdeal.nD Cert.NaRefIdeal.τ).loc Cert.NaRefIdeal.main_arg6) = m ((c.tc : Thread Cert.NaRefIdeal.nD Cert.NaRefIdeal.τ).loc Cert.NaRefIdeal.main_arg6)
      ∧ r.2.mem ((c.tc : Thread Cert.NaRefIdeal.nD Cert.NaRefIdeal.τ).loc Cert.NaRefIdeal.main_arg7) = m ((c.tc : Thread Cert.NaRefIdeal.nD Cert.NaRefIdeal.τ).loc Cert.NaRefIdeal.main_arg7)
      ∧ r.2.mem ((c.tc : Thread Cert.NaRefIdeal.nD Cert.NaRefIdeal.τ).loc Cert.NaRefIdeal.main_arg8) = m ((c.tc : Thread Cert.NaRefIdeal.nD Cert.NaRefIdeal.τ).loc Cert.NaRefIdeal.main_arg8)
      ∧ r.2.mem ((c.tc : Thread Cert.NaRefIdeal.nD Cert.NaRefIdeal.τ).loc Cert.NaRefIdeal.main_arg9) = m ((c.tc : Thread Cert.NaRefIdeal.nD Cert.NaRefIdeal.τ).loc Cert.NaRefIdeal.main_arg9)
      ∧ r.2.mem ((c.tc : Thread Cert.NaRefIdeal.nD Cert.NaRefIdeal.τ).loc Cert.NaRefIdeal.main_arg10) = m ((c.tc : Thread Cert.NaRefIdeal.nD Cert.NaRefIdeal.τ).loc Cert.NaRefIdeal.main_arg10))
      ∧ r.2.sem = fun _ => 0)

def quiescent_Fourier [hFourier : Cert.Fourier.Facts] : Prop :=
  ∀ (m : (ℓ : Loc Cert.Fourier.nD Cert.Fourier.τ Cert.Fourier.sig) → Buf (Elt Bits) ℓ) (g : Dev Cert.Fourier.nD → PrngReg), Pre_Fourier m →
    θ_run (Cert.Fourier.defs (F := Bits)) (onTc (τ := Cert.Fourier.τ) (Cert.Fourier.main (F := Bits))) ⟨m, fun _ => 0, g⟩ (fun r => (∀ c : Dev Cert.Fourier.nD,
      r.2.mem ((c.tc : Thread Cert.Fourier.nD Cert.Fourier.τ).loc Cert.Fourier.main_arg0) = m ((c.tc : Thread Cert.Fourier.nD Cert.Fourier.τ).loc Cert.Fourier.main_arg0)
      ∧ r.2.mem ((c.tc : Thread Cert.Fourier.nD Cert.Fourier.τ).loc Cert.Fourier.main_arg1) = m ((c.tc : Thread Cert.Fourier.nD Cert.Fourier.τ).loc Cert.Fourier.main_arg1)
      ∧ r.2.mem ((c.tc : Thread Cert.Fourier.nD Cert.Fourier.τ).loc Cert.Fourier.main_arg2) = m ((c.tc : Thread Cert.Fourier.nD Cert.Fourier.τ).loc Cert.Fourier.main_arg2)
      ∧ r.2.mem ((c.tc : Thread Cert.Fourier.nD Cert.Fourier.τ).loc Cert.Fourier.main_arg3) = m ((c.tc : Thread Cert.Fourier.nD Cert.Fourier.τ).loc Cert.Fourier.main_arg3)
      ∧ r.2.mem ((c.tc : Thread Cert.Fourier.nD Cert.Fourier.τ).loc Cert.Fourier.main_arg4) = m ((c.tc : Thread Cert.Fourier.nD Cert.Fourier.τ).loc Cert.Fourier.main_arg4)
      ∧ r.2.mem ((c.tc : Thread Cert.Fourier.nD Cert.Fourier.τ).loc Cert.Fourier.main_arg5) = m ((c.tc : Thread Cert.Fourier.nD Cert.Fourier.τ).loc Cert.Fourier.main_arg5)
      ∧ r.2.mem ((c.tc : Thread Cert.Fourier.nD Cert.Fourier.τ).loc Cert.Fourier.main_arg6) = m ((c.tc : Thread Cert.Fourier.nD Cert.Fourier.τ).loc Cert.Fourier.main_arg6)
      ∧ r.2.mem ((c.tc : Thread Cert.Fourier.nD Cert.Fourier.τ).loc Cert.Fourier.main_arg7) = m ((c.tc : Thread Cert.Fourier.nD Cert.Fourier.τ).loc Cert.Fourier.main_arg7))
      ∧ r.2.sem = fun _ => 0)

def quiescent_FourierIdeal [hFourierIdeal : Cert.FourierIdeal.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1)
      ∧ r.2.mem ((c.tc : Thread Cert.FourierIdeal.nD Cert.FourierIdeal.τ).loc Cert.FourierIdeal.main_arg2) = m ((c.tc : Thread Cert.FourierIdeal.nD Cert.FourierIdeal.τ).loc Cert.FourierIdeal.main_arg2)
      ∧ r.2.mem ((c.tc : Thread Cert.FourierIdeal.nD Cert.FourierIdeal.τ).loc Cert.FourierIdeal.main_arg3) = m ((c.tc : Thread Cert.FourierIdeal.nD Cert.FourierIdeal.τ).loc Cert.FourierIdeal.main_arg3)
      ∧ r.2.mem ((c.tc : Thread Cert.FourierIdeal.nD Cert.FourierIdeal.τ).loc Cert.FourierIdeal.main_arg4) = m ((c.tc : Thread Cert.FourierIdeal.nD Cert.FourierIdeal.τ).loc Cert.FourierIdeal.main_arg4)
      ∧ r.2.mem ((c.tc : Thread Cert.FourierIdeal.nD Cert.FourierIdeal.τ).loc Cert.FourierIdeal.main_arg5) = m ((c.tc : Thread Cert.FourierIdeal.nD Cert.FourierIdeal.τ).loc Cert.FourierIdeal.main_arg5)
      ∧ r.2.mem ((c.tc : Thread Cert.FourierIdeal.nD Cert.FourierIdeal.τ).loc Cert.FourierIdeal.main_arg6) = m ((c.tc : Thread Cert.FourierIdeal.nD Cert.FourierIdeal.τ).loc Cert.FourierIdeal.main_arg6)
      ∧ r.2.mem ((c.tc : Thread Cert.FourierIdeal.nD Cert.FourierIdeal.τ).loc Cert.FourierIdeal.main_arg7) = m ((c.tc : Thread Cert.FourierIdeal.nD Cert.FourierIdeal.τ).loc Cert.FourierIdeal.main_arg7))
      ∧ r.2.sem = fun _ => 0)

def quiescent_FourierRefIdeal [hFourierRefIdeal : Cert.FourierRefIdeal.Facts] : Prop :=
  ∀ (m : (ℓ : Loc Cert.FourierRefIdeal.nD Cert.FourierRefIdeal.τ Cert.FourierRefIdeal.sig) → Buf (Elt Ideal) ℓ) (g : Dev Cert.FourierRefIdeal.nD → PrngReg), Pre_FourierRefIdeal m →
    θ_run (Cert.FourierRefIdeal.defs (F := Ideal)) (onTc (τ := Cert.FourierRefIdeal.τ) (Cert.FourierRefIdeal.main (F := Ideal))) ⟨m, fun _ => 0, g⟩ (fun r => (∀ c : Dev Cert.FourierRefIdeal.nD,
      r.2.mem ((c.tc : Thread Cert.FourierRefIdeal.nD Cert.FourierRefIdeal.τ).loc Cert.FourierRefIdeal.main_arg0) = m ((c.tc : Thread Cert.FourierRefIdeal.nD Cert.FourierRefIdeal.τ).loc Cert.FourierRefIdeal.main_arg0)
      ∧ r.2.mem ((c.tc : Thread Cert.FourierRefIdeal.nD Cert.FourierRefIdeal.τ).loc Cert.FourierRefIdeal.main_arg1) = m ((c.tc : Thread Cert.FourierRefIdeal.nD Cert.FourierRefIdeal.τ).loc Cert.FourierRefIdeal.main_arg1)
      ∧ r.2.mem ((c.tc : Thread Cert.FourierRefIdeal.nD Cert.FourierRefIdeal.τ).loc Cert.FourierRefIdeal.main_arg2) = m ((c.tc : Thread Cert.FourierRefIdeal.nD Cert.FourierRefIdeal.τ).loc Cert.FourierRefIdeal.main_arg2)
      ∧ r.2.mem ((c.tc : Thread Cert.FourierRefIdeal.nD Cert.FourierRefIdeal.τ).loc Cert.FourierRefIdeal.main_arg3) = m ((c.tc : Thread Cert.FourierRefIdeal.nD Cert.FourierRefIdeal.τ).loc Cert.FourierRefIdeal.main_arg3)
      ∧ r.2.mem ((c.tc : Thread Cert.FourierRefIdeal.nD Cert.FourierRefIdeal.τ).loc Cert.FourierRefIdeal.main_arg4) = m ((c.tc : Thread Cert.FourierRefIdeal.nD Cert.FourierRefIdeal.τ).loc Cert.FourierRefIdeal.main_arg4)
      ∧ r.2.mem ((c.tc : Thread Cert.FourierRefIdeal.nD Cert.FourierRefIdeal.τ).loc Cert.FourierRefIdeal.main_arg5) = m ((c.tc : Thread Cert.FourierRefIdeal.nD Cert.FourierRefIdeal.τ).loc Cert.FourierRefIdeal.main_arg5)
      ∧ r.2.mem ((c.tc : Thread Cert.FourierRefIdeal.nD Cert.FourierRefIdeal.τ).loc Cert.FourierRefIdeal.main_arg6) = m ((c.tc : Thread Cert.FourierRefIdeal.nD Cert.FourierRefIdeal.τ).loc Cert.FourierRefIdeal.main_arg6)
      ∧ r.2.mem ((c.tc : Thread Cert.FourierRefIdeal.nD Cert.FourierRefIdeal.τ).loc Cert.FourierRefIdeal.main_arg7) = m ((c.tc : Thread Cert.FourierRefIdeal.nD Cert.FourierRefIdeal.τ).loc Cert.FourierRefIdeal.main_arg7))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v51) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v2_0)) (v1 : (c : Dev Cert.AttnIdeal.nD) → Buf (Elt Ideal) ((c.tc : Thread Cert.AttnIdeal.nD Cert.AttnIdeal.τ).loc Cert.AttnIdeal.main_v2_1)) (v2 : (c : Dev Cert.AttnIdeal.nD) → Buf (Elt Ideal) ((c.tc : Thread Cert.AttnIdeal.nD Cert.AttnIdeal.τ).loc Cert.AttnIdeal.main_v2_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2_0) = v0 c
          ∧ r.2.mem ((c.tc : Thread Cert.AttnIdeal.nD Cert.AttnIdeal.τ).loc Cert.AttnIdeal.main_v2_1) = v1 c
          ∧ r.2.mem ((c.tc : Thread Cert.AttnIdeal.nD Cert.AttnIdeal.τ).loc Cert.AttnIdeal.main_v2_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v74) = v0 c
          ∧ r.2.mem ((c.tc : Thread Cert.AttnRefIdeal.nD Cert.AttnRefIdeal.τ).loc Cert.AttnRefIdeal.main_v75) = v1 c
          ∧ r.2.mem ((c.tc : Thread Cert.AttnRefIdeal.nD Cert.AttnRefIdeal.τ).loc Cert.AttnRefIdeal.main_v76) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Na_NaIdeal : Prop :=
  True

def algebraic_NaIdeal_NaRefIdeal_pre_na_finite [hNaIdeal : Cert.NaIdeal.Facts] [hNaRefIdeal : Cert.NaRefIdeal.Facts] [hPre_na_finite : Cert.Pre_na_finite.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal_na_finite m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)
      ∧ m' ((c.tc : Thread Cert.NaRefIdeal.nD Cert.NaRefIdeal.τ).loc Cert.NaRefIdeal.main_arg2) = m ((c.tc : Thread Cert.NaIdeal.nD Cert.NaIdeal.τ).loc Cert.NaIdeal.main_arg2)
      ∧ m' ((c.tc : Thread Cert.NaRefIdeal.nD Cert.NaRefIdeal.τ).loc Cert.NaRefIdeal.main_arg3) = m ((c.tc : Thread Cert.NaIdeal.nD Cert.NaIdeal.τ).loc Cert.NaIdeal.main_arg3)
      ∧ m' ((c.tc : Thread Cert.NaRefIdeal.nD Cert.NaRefIdeal.τ).loc Cert.NaRefIdeal.main_arg4) = m ((c.tc : Thread Cert.NaIdeal.nD Cert.NaIdeal.τ).loc Cert.NaIdeal.main_arg4)
      ∧ m' ((c.tc : Thread Cert.NaRefIdeal.nD Cert.NaRefIdeal.τ).loc Cert.NaRefIdeal.main_arg5) = m ((c.tc : Thread Cert.NaIdeal.nD Cert.NaIdeal.τ).loc Cert.NaIdeal.main_arg5)
      ∧ m' ((c.tc : Thread Cert.NaRefIdeal.nD Cert.NaRefIdeal.τ).loc Cert.NaRefIdeal.main_arg6) = m ((c.tc : Thread Cert.NaIdeal.nD Cert.NaIdeal.τ).loc Cert.NaIdeal.main_arg6)
      ∧ m' ((c.tc : Thread Cert.NaRefIdeal.nD Cert.NaRefIdeal.τ).loc Cert.NaRefIdeal.main_arg7) = m ((c.tc : Thread Cert.NaIdeal.nD Cert.NaIdeal.τ).loc Cert.NaIdeal.main_arg7)
      ∧ m' ((c.tc : Thread Cert.NaRefIdeal.nD Cert.NaRefIdeal.τ).loc Cert.NaRefIdeal.main_arg8) = m ((c.tc : Thread Cert.NaIdeal.nD Cert.NaIdeal.τ).loc Cert.NaIdeal.main_arg8)
      ∧ m' ((c.tc : Thread Cert.NaRefIdeal.nD Cert.NaRefIdeal.τ).loc Cert.NaRefIdeal.main_arg9) = m ((c.tc : Thread Cert.NaIdeal.nD Cert.NaIdeal.τ).loc Cert.NaIdeal.main_arg9)
      ∧ m' ((c.tc : Thread Cert.NaRefIdeal.nD Cert.NaRefIdeal.τ).loc Cert.NaRefIdeal.main_arg10) = m ((c.tc : Thread Cert.NaIdeal.nD Cert.NaIdeal.τ).loc Cert.NaIdeal.main_arg10)) →
    ∃ (v0 : (c : Dev Cert.NaIdeal.nD) → Buf (Elt Ideal) ((c.tc : Thread Cert.NaIdeal.nD Cert.NaIdeal.τ).loc Cert.NaIdeal.main_v13)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v13) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
          ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
          ∧ r.2.mem ((c.tc : Thread Cert.NaIdeal.nD Cert.NaIdeal.τ).loc Cert.NaIdeal.main_arg3) = m ((c.tc : Thread Cert.NaIdeal.nD Cert.NaIdeal.τ).loc Cert.NaIdeal.main_arg3)
          ∧ r.2.mem ((c.tc : Thread Cert.NaIdeal.nD Cert.NaIdeal.τ).loc Cert.NaIdeal.main_arg4) = m ((c.tc : Thread Cert.NaIdeal.nD Cert.NaIdeal.τ).loc Cert.NaIdeal.main_arg4)
          ∧ r.2.mem ((c.tc : Thread Cert.NaIdeal.nD Cert.NaIdeal.τ).loc Cert.NaIdeal.main_arg5) = m ((c.tc : Thread Cert.NaIdeal.nD Cert.NaIdeal.τ).loc Cert.NaIdeal.main_arg5)
          ∧ r.2.mem ((c.tc : Thread Cert.NaIdeal.nD Cert.NaIdeal.τ).loc Cert.NaIdeal.main_arg6) = m ((c.tc : Thread Cert.NaIdeal.nD Cert.NaIdeal.τ).loc Cert.NaIdeal.main_arg6)
          ∧ r.2.mem ((c.tc : Thread Cert.NaIdeal.nD Cert.NaIdeal.τ).loc Cert.NaIdeal.main_arg7) = m ((c.tc : Thread Cert.NaIdeal.nD Cert.NaIdeal.τ).loc Cert.NaIdeal.main_arg7)
          ∧ r.2.mem ((c.tc : Thread Cert.NaIdeal.nD Cert.NaIdeal.τ).loc Cert.NaIdeal.main_arg8) = m ((c.tc : Thread Cert.NaIdeal.nD Cert.NaIdeal.τ).loc Cert.NaIdeal.main_arg8)
          ∧ r.2.mem ((c.tc : Thread Cert.NaIdeal.nD Cert.NaIdeal.τ).loc Cert.NaIdeal.main_arg9) = m ((c.tc : Thread Cert.NaIdeal.nD Cert.NaIdeal.τ).loc Cert.NaIdeal.main_arg9)
          ∧ r.2.mem ((c.tc : Thread Cert.NaIdeal.nD Cert.NaIdeal.τ).loc Cert.NaIdeal.main_arg10) = m ((c.tc : Thread Cert.NaIdeal.nD Cert.NaIdeal.τ).loc Cert.NaIdeal.main_arg10))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          r.2.mem ((c.tc : Thread Cert.NaRefIdeal.nD Cert.NaRefIdeal.τ).loc Cert.NaRefIdeal.main_v209) = v0 c
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1)
          ∧ r.2.mem ((c.tc : Thread Cert.NaRefIdeal.nD Cert.NaRefIdeal.τ).loc Cert.NaRefIdeal.main_arg2) = m' ((c.tc : Thread Cert.NaRefIdeal.nD Cert.NaRefIdeal.τ).loc Cert.NaRefIdeal.main_arg2)
          ∧ r.2.mem ((c.tc : Thread Cert.NaRefIdeal.nD Cert.NaRefIdeal.τ).loc Cert.NaRefIdeal.main_arg3) = m' ((c.tc : Thread Cert.NaRefIdeal.nD Cert.NaRefIdeal.τ).loc Cert.NaRefIdeal.main_arg3)
          ∧ r.2.mem ((c.tc : Thread Cert.NaRefIdeal.nD Cert.NaRefIdeal.τ).loc Cert.NaRefIdeal.main_arg4) = m' ((c.tc : Thread Cert.NaRefIdeal.nD Cert.NaRefIdeal.τ).loc Cert.NaRefIdeal.main_arg4)
          ∧ r.2.mem ((c.tc : Thread Cert.NaRefIdeal.nD Cert.NaRefIdeal.τ).loc Cert.NaRefIdeal.main_arg5) = m' ((c.tc : Thread Cert.NaRefIdeal.nD Cert.NaRefIdeal.τ).loc Cert.NaRefIdeal.main_arg5)
          ∧ r.2.mem ((c.tc : Thread Cert.NaRefIdeal.nD Cert.NaRefIdeal.τ).loc Cert.NaRefIdeal.main_arg6) = m' ((c.tc : Thread Cert.NaRefIdeal.nD Cert.NaRefIdeal.τ).loc Cert.NaRefIdeal.main_arg6)
          ∧ r.2.mem ((c.tc : Thread Cert.NaRefIdeal.nD Cert.NaRefIdeal.τ).loc Cert.NaRefIdeal.main_arg7) = m' ((c.tc : Thread Cert.NaRefIdeal.nD Cert.NaRefIdeal.τ).loc Cert.NaRefIdeal.main_arg7)
          ∧ r.2.mem ((c.tc : Thread Cert.NaRefIdeal.nD Cert.NaRefIdeal.τ).loc Cert.NaRefIdeal.main_arg8) = m' ((c.tc : Thread Cert.NaRefIdeal.nD Cert.NaRefIdeal.τ).loc Cert.NaRefIdeal.main_arg8)
          ∧ r.2.mem ((c.tc : Thread Cert.NaRefIdeal.nD Cert.NaRefIdeal.τ).loc Cert.NaRefIdeal.main_arg9) = m' ((c.tc : Thread Cert.NaRefIdeal.nD Cert.NaRefIdeal.τ).loc Cert.NaRefIdeal.main_arg9)
          ∧ r.2.mem ((c.tc : Thread Cert.NaRefIdeal.nD Cert.NaRefIdeal.τ).loc Cert.NaRefIdeal.main_arg10) = m' ((c.tc : Thread Cert.NaRefIdeal.nD Cert.NaRefIdeal.τ).loc Cert.NaRefIdeal.main_arg10))

def preserves_Fourier_FourierIdeal : Prop :=
  True

def algebraic_FourierIdeal_FourierRefIdeal [hFourierIdeal : Cert.FourierIdeal.Facts] [hFourierRefIdeal : Cert.FourierRefIdeal.Facts] : Prop :=
  ∀ (m : (ℓ : Loc Cert.FourierIdeal.nD Cert.FourierIdeal.τ Cert.FourierIdeal.sig) → Buf (Elt Ideal) ℓ) (g : Dev Cert.FourierIdeal.nD → PrngReg)
    (m' : (ℓ : Loc Cert.FourierRefIdeal.nD Cert.FourierRefIdeal.τ Cert.FourierRefIdeal.sig) → Buf (Elt Ideal) ℓ) (g' : Dev Cert.FourierRefIdeal.nD → PrngReg), Pre_FourierIdeal m →
    (∀ c : Dev Cert.FourierIdeal.nD,
      m' ((c.tc : Thread Cert.FourierRefIdeal.nD Cert.FourierRefIdeal.τ).loc Cert.FourierRefIdeal.main_arg0) = m ((c.tc : Thread Cert.FourierIdeal.nD Cert.FourierIdeal.τ).loc Cert.FourierIdeal.main_arg0)
      ∧ m' ((c.tc : Thread Cert.FourierRefIdeal.nD Cert.FourierRefIdeal.τ).loc Cert.FourierRefIdeal.main_arg1) = m ((c.tc : Thread Cert.FourierIdeal.nD Cert.FourierIdeal.τ).loc Cert.FourierIdeal.main_arg1)
      ∧ m' ((c.tc : Thread Cert.FourierRefIdeal.nD Cert.FourierRefIdeal.τ).loc Cert.FourierRefIdeal.main_arg2) = m ((c.tc : Thread Cert.FourierIdeal.nD Cert.FourierIdeal.τ).loc Cert.FourierIdeal.main_arg2)
      ∧ m' ((c.tc : Thread Cert.FourierRefIdeal.nD Cert.FourierRefIdeal.τ).loc Cert.FourierRefIdeal.main_arg3) = m ((c.tc : Thread Cert.FourierIdeal.nD Cert.FourierIdeal.τ).loc Cert.FourierIdeal.main_arg3)
      ∧ m' ((c.tc : Thread Cert.FourierRefIdeal.nD Cert.FourierRefIdeal.τ).loc Cert.FourierRefIdeal.main_arg4) = m ((c.tc : Thread Cert.FourierIdeal.nD Cert.FourierIdeal.τ).loc Cert.FourierIdeal.main_arg4)
      ∧ m' ((c.tc : Thread Cert.FourierRefIdeal.nD Cert.FourierRefIdeal.τ).loc Cert.FourierRefIdeal.main_arg5) = m ((c.tc : Thread Cert.FourierIdeal.nD Cert.FourierIdeal.τ).loc Cert.FourierIdeal.main_arg5)
      ∧ m' ((c.tc : Thread Cert.FourierRefIdeal.nD Cert.FourierRefIdeal.τ).loc Cert.FourierRefIdeal.main_arg6) = m ((c.tc : Thread Cert.FourierIdeal.nD Cert.FourierIdeal.τ).loc Cert.FourierIdeal.main_arg6)
      ∧ m' ((c.tc : Thread Cert.FourierRefIdeal.nD Cert.FourierRefIdeal.τ).loc Cert.FourierRefIdeal.main_arg7) = m ((c.tc : Thread Cert.FourierIdeal.nD Cert.FourierIdeal.τ).loc Cert.FourierIdeal.main_arg7)) →
    ∃ (v0 : (c : Dev Cert.FourierIdeal.nD) → Buf (Elt Ideal) ((c.tc : Thread Cert.FourierIdeal.nD Cert.FourierIdeal.τ).loc Cert.FourierIdeal.main_v6)),
      θ_run (Cert.FourierIdeal.defs (F := Ideal)) (onTc (τ := Cert.FourierIdeal.τ) (Cert.FourierIdeal.main (F := Ideal))) ⟨m, fun _ => 0, g⟩ (fun r => ∀ c : Dev Cert.FourierIdeal.nD,
          r.2.mem ((c.tc : Thread Cert.FourierIdeal.nD Cert.FourierIdeal.τ).loc Cert.FourierIdeal.main_v6) = v0 c
          ∧ r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
          ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1)
          ∧ r.2.mem ((c.tc : Thread Cert.FourierIdeal.nD Cert.FourierIdeal.τ).loc Cert.FourierIdeal.main_arg2) = m ((c.tc : Thread Cert.FourierIdeal.nD Cert.FourierIdeal.τ).loc Cert.FourierIdeal.main_arg2)
          ∧ r.2.mem ((c.tc : Thread Cert.FourierIdeal.nD Cert.FourierIdeal.τ).loc Cert.FourierIdeal.main_arg3) = m ((c.tc : Thread Cert.FourierIdeal.nD Cert.FourierIdeal.τ).loc Cert.FourierIdeal.main_arg3)
          ∧ r.2.mem ((c.tc : Thread Cert.FourierIdeal.nD Cert.FourierIdeal.τ).loc Cert.FourierIdeal.main_arg4) = m ((c.tc : Thread Cert.FourierIdeal.nD Cert.FourierIdeal.τ).loc Cert.FourierIdeal.main_arg4)
          ∧ r.2.mem ((c.tc : Thread Cert.FourierIdeal.nD Cert.FourierIdeal.τ).loc Cert.FourierIdeal.main_arg5) = m ((c.tc : Thread Cert.FourierIdeal.nD Cert.FourierIdeal.τ).loc Cert.FourierIdeal.main_arg5)
          ∧ r.2.mem ((c.tc : Thread Cert.FourierIdeal.nD Cert.FourierIdeal.τ).loc Cert.FourierIdeal.main_arg6) = m ((c.tc : Thread Cert.FourierIdeal.nD Cert.FourierIdeal.τ).loc Cert.FourierIdeal.main_arg6)
          ∧ r.2.mem ((c.tc : Thread Cert.FourierIdeal.nD Cert.FourierIdeal.τ).loc Cert.FourierIdeal.main_arg7) = m ((c.tc : Thread Cert.FourierIdeal.nD Cert.FourierIdeal.τ).loc Cert.FourierIdeal.main_arg7))
      ∧ θ_run (Cert.FourierRefIdeal.defs (F := Ideal)) (onTc (τ := Cert.FourierRefIdeal.τ) (Cert.FourierRefIdeal.main (F := Ideal))) ⟨m', fun _ => 0, g'⟩ (fun r => ∀ c : Dev Cert.FourierRefIdeal.nD,
          r.2.mem ((c.tc : Thread Cert.FourierRefIdeal.nD Cert.FourierRefIdeal.τ).loc Cert.FourierRefIdeal.main_v59) = v0 c
          ∧ r.2.mem ((c.tc : Thread Cert.FourierRefIdeal.nD Cert.FourierRefIdeal.τ).loc Cert.FourierRefIdeal.main_arg0) = m' ((c.tc : Thread Cert.FourierRefIdeal.nD Cert.FourierRefIdeal.τ).loc Cert.FourierRefIdeal.main_arg0)
          ∧ r.2.mem ((c.tc : Thread Cert.FourierRefIdeal.nD Cert.FourierRefIdeal.τ).loc Cert.FourierRefIdeal.main_arg1) = m' ((c.tc : Thread Cert.FourierRefIdeal.nD Cert.FourierRefIdeal.τ).loc Cert.FourierRefIdeal.main_arg1)
          ∧ r.2.mem ((c.tc : Thread Cert.FourierRefIdeal.nD Cert.FourierRefIdeal.τ).loc Cert.FourierRefIdeal.main_arg2) = m' ((c.tc : Thread Cert.FourierRefIdeal.nD Cert.FourierRefIdeal.τ).loc Cert.FourierRefIdeal.main_arg2)
          ∧ r.2.mem ((c.tc : Thread Cert.FourierRefIdeal.nD Cert.FourierRefIdeal.τ).loc Cert.FourierRefIdeal.main_arg3) = m' ((c.tc : Thread Cert.FourierRefIdeal.nD Cert.FourierRefIdeal.τ).loc Cert.FourierRefIdeal.main_arg3)
          ∧ r.2.mem ((c.tc : Thread Cert.FourierRefIdeal.nD Cert.FourierRefIdeal.τ).loc Cert.FourierRefIdeal.main_arg4) = m' ((c.tc : Thread Cert.FourierRefIdeal.nD Cert.FourierRefIdeal.τ).loc Cert.FourierRefIdeal.main_arg4)
          ∧ r.2.mem ((c.tc : Thread Cert.FourierRefIdeal.nD Cert.FourierRefIdeal.τ).loc Cert.FourierRefIdeal.main_arg5) = m' ((c.tc : Thread Cert.FourierRefIdeal.nD Cert.FourierRefIdeal.τ).loc Cert.FourierRefIdeal.main_arg5)
          ∧ r.2.mem ((c.tc : Thread Cert.FourierRefIdeal.nD Cert.FourierRefIdeal.τ).loc Cert.FourierRefIdeal.main_arg6) = m' ((c.tc : Thread Cert.FourierRefIdeal.nD Cert.FourierRefIdeal.τ).loc Cert.FourierRefIdeal.main_arg6)
          ∧ r.2.mem ((c.tc : Thread Cert.FourierRefIdeal.nD Cert.FourierRefIdeal.τ).loc Cert.FourierRefIdeal.main_arg7) = m' ((c.tc : Thread Cert.FourierRefIdeal.nD Cert.FourierRefIdeal.τ).loc Cert.FourierRefIdeal.main_arg7))

def Claim : Prop :=
  ∃ (hFfn : Cert.Ffn.Facts) (hFfnIdeal : Cert.FfnIdeal.Facts) (hFfnRefIdeal : Cert.FfnRefIdeal.Facts) (hAttn : Cert.Attn.Facts) (hAttnIdeal : Cert.AttnIdeal.Facts) (hAttnRefIdeal : Cert.AttnRefIdeal.Facts) (hNa : Cert.Na.Facts) (hNaIdeal : Cert.NaIdeal.Facts) (hNaRefIdeal : Cert.NaRefIdeal.Facts) (hFourier : Cert.Fourier.Facts) (hFourierIdeal : Cert.FourierIdeal.Facts) (hFourierRefIdeal : Cert.FourierRefIdeal.Facts) (hPre_attn_finite : Cert.Pre_attn_finite.Facts) (hPre_na_finite : Cert.Pre_na_finite.Facts),
    quiescent_Ffn (hFfn := hFfn)
    ∧ quiescent_FfnIdeal (hFfnIdeal := hFfnIdeal)
    ∧ quiescent_FfnRefIdeal (hFfnRefIdeal := hFfnRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Na (hNa := hNa)
    ∧ quiescent_NaIdeal (hNaIdeal := hNaIdeal)
    ∧ quiescent_NaIdeal_pre_na_finite (hNaIdeal := hNaIdeal) (hPre_na_finite := hPre_na_finite)
    ∧ quiescent_NaRefIdeal (hNaRefIdeal := hNaRefIdeal)
    ∧ quiescent_NaRefIdeal_pre_na_finite (hNaRefIdeal := hNaRefIdeal) (hPre_na_finite := hPre_na_finite)
    ∧ quiescent_Fourier (hFourier := hFourier)
    ∧ quiescent_FourierIdeal (hFourierIdeal := hFourierIdeal)
    ∧ quiescent_FourierRefIdeal (hFourierRefIdeal := hFourierRefIdeal)
    ∧ preserves_Ffn_FfnIdeal
    ∧ algebraic_FfnIdeal_FfnRefIdeal (hFfnIdeal := hFfnIdeal) (hFfnRefIdeal := hFfnRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Na_NaIdeal
    ∧ algebraic_NaIdeal_NaRefIdeal_pre_na_finite (hNaIdeal := hNaIdeal) (hNaRefIdeal := hNaRefIdeal) (hPre_na_finite := hPre_na_finite)
    ∧ preserves_Fourier_FourierIdeal
    ∧ algebraic_FourierIdeal_FourierRefIdeal (hFourierIdeal := hFourierIdeal) (hFourierRefIdeal := hFourierRefIdeal)
-- ==== Pre_attn_finite.lean ====
abbrev S8192x1024 : Shape := ⟨2, ![8192, 1024]⟩
abbrev S16x1x6144 : Shape := ⟨3, ![16, 1, 6144]⟩
abbrev S4x1024 : Shape := ⟨2, ![4, 1024]⟩
abbrev S1024x3072 : Shape := ⟨2, ![1024, 3072]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S16x1x6144 : S_.BroadcastsInDim S16x1x6144 (![] : Fin 0 → Fin S16x1x6144.rank)
  reducesTo_S16x1x6144_S_d0_1_2 : S16x1x6144.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S1024x3072 : S_.BroadcastsInDim S1024x3072 (![] : Fin 0 → Fin S1024x3072.rank)
  reducesTo_S1024x3072_S_d0_1 : S1024x3072.ReducesTo [0, 1] S_

variable [Facts]

def fn_part1 {F : FTy → Type} [FloatOps F] (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  main_v18

def fn {F : FTy → Type} [FloatOps F] (main_arg0 : FVec F S8192x1024 .f32) (main_arg1 : FVec F S16x1x6144 .f32) (main_arg2 : FVec F S4x1024 .f32) (main_arg3 : FVec F S1024x3072 .f32) (main_arg4 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S16x1x6144 .f32 := Host.absf main_arg1
  let main_cst_0 : FVec F S_ .f32 := constant S_ .f32 0x7F800000#32
  let main_v5 : FVec F S16x1x6144 .f32 := broadcastInDim S16x1x6144 ![] bcast_S_S16x1x6144 main_cst_0
  let main_v6 : IVec S16x1x6144 1 := cmpf .olt main_v4 main_v5
  let main_c_1 : IVec S_ 1 := constantI S_ 1 1#1
  let main_v7 : IVec S_ 1 := (fun x v => Host.reduce IntOp.andi x v reducesTo_S16x1x6144_S_d0_1_2 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_v13 main_v16
-- ==== Pre_na_finite.lean ====
abbrev S4096x1024 : Shape := ⟨2, ![4096, 1024]⟩
abbrev S16x1x6144 : Shape := ⟨3, ![16, 1, 6144]⟩
abbrev S4x1024 : Shape := ⟨2, ![4, 1024]⟩
abbrev S1024x3072 : Shape := ⟨2, ![1024, 3072]⟩
abbrev S2x512x16x64 : Shape := ⟨4, ![2, 512, 16, 64]⟩
abbrev S16x15x128 : Shape := ⟨3, ![16, 15, 128]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16x1x6144 : S_.BroadcastsInDim S16x1x6144 (![] : Fin 0 → Fin S16x1x6144.rank)
  reducesTo_S16x1x6144_S_d0_1_2 : S16x1x6144.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S2x512x16x64 : S_.BroadcastsInDim S2x512x16x64 (![] : Fin 0 → Fin S2x512x16x64.rank)
  reducesTo_S2x512x16x64_S_d0_1_2_3 : S2x512x16x64.ReducesTo [0, 1, 2, 3] S_
  bcast_S_S16x15x128 : S_.BroadcastsInDim S16x15x128 (![] : Fin 0 → Fin S16x15x128.rank)
  reducesTo_S16x15x128_S_d0_1_2 : S16x15x128.ReducesTo [0, 1, 2] S_

variable [Facts]

def fn_part1 {F : FTy → Type} [FloatOps F] (main_arg4 : FVec F S2x512x16x64 .f32) (main_arg6 : FVec F S16x15x128 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S2x512x16x64 .f32 := Host.absf main_arg4
  let main_cst_6 : FVec F S_ .f32 := constant S_ .f32 0x7F800000#32
  let main_v20 : FVec F S2x512x16x64 .f32 := broadcastInDim S2x512x16x64 ![] bcast_S_S2x512x16x64 main_cst_6
  let main_v21 : IVec S2x512x16x64 1 := cmpf .olt main_v19 main_v20
  let main_c_7 : IVec S_ 1 := constantI S_ 1 1#1
  let main_v22 : IVec S_ 1 := (fun x v => Host.reduce IntOp.andi x v reducesTo_S2x512x16x64_S_d0_1_2_3 h_S_) main_v21 main_c_7
  let main_v23 : IVec S_ 1 := andi main_v18 main_v22
  let main_v24 : FVec F S16x15x128 .f32 := Host.absf main_arg6
  let main_cst_8 : FVec F S_ .f32 := constant S_ .f32 0x7F800000#32
  let main_v25 : FVec F S16x15x128 .f32 := broadcastInDim S16x15x128 ![] bcast_S_S16x15x128 main_cst_8
  let main_v26 : IVec S16x15x128 1 := cmpf .olt main_v24 main_v25
  let main_c_9 : IVec S_ 1 := constantI S_ 1 1#1
  let main_v27 : IVec S_ 1 := (fun x v => Host.reduce IntOp.andi x v reducesTo_S16x15x128_S_d0_1_2 h_S_) main_v26 main_c_9
  let main_v28 : IVec S_ 1 := andi main_v23 main_v27
  main_v28

def fn {F : FTy → Type} [FloatOps F] (main_arg0 : FVec F S4096x1024 .f32) (main_arg1 : FVec F S16x1x6144 .f32) (main_arg2 : FVec F S4x1024 .f32) (main_arg3 : FVec F S1024x3072 .f32) (main_arg4 : FVec F S2x512x16x64 .f32) (main_arg5 : FVec F S2x512x16x64 .f32) (main_arg6 : FVec F S16x15x128 .f32) (main_arg7 : FVec F S1024x1024 .f32) (main_arg8 : FVec F S1024x2816 .f32) (main_arg9 : FVec F S1024x2816 .f32) (main_arg10 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S16x1x6144 .f32 := Host.absf main_arg1
  let main_cst_0 : FVec F S_ .f32 := constant S_ .f32 0x7F800000#32
  let main_v5 : FVec F S16x1x6144 .f32 := broadcastInDim S16x1x6144 ![] bcast_S_S16x1x6144 main_cst_0
  let main_v6 : IVec S16x1x6144 1 := cmpf .olt main_v4 main_v5
  let main_c_1 : IVec S_ 1 := constantI S_ 1 1#1
  let main_v7 : IVec S_ 1 := (fun x v => Host.reduce IntOp.andi x v reducesTo_S16x1x6144_S_d0_1_2 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_arg6 main_v13 main_v16
-- ==== Ffn.lean ====
abbrev S8192x1024 : Shape := ⟨2, ![8192, 1024]⟩
abbrev S16x1x6144 : Shape := ⟨3, ![16, 1, 6144]⟩
abbrev S4x1024 : Shape := ⟨2, ![4, 1024]⟩
abbrev S1024x2816 : Shape := ⟨2, ![1024, 2816]⟩
abbrev S2816x1024 : Shape := ⟨2, ![2816, 1024]⟩
abbrev S512x1024 : Shape := ⟨2, ![512, 1024]⟩
abbrev S1x1x6144 : Shape := ⟨3, ![1, 1, 6144]⟩
abbrev S1x6144 : Shape := ⟨2, ![1, 6144]⟩
abbrev S1x1024 : Shape := ⟨2, ![1, 1024]⟩
abbrev S512 : Shape := ⟨1, ![512]⟩
abbrev S512x1 : Shape := ⟨2, ![512, 1]⟩
abbrev S512x2816 : Shape := ⟨2, ![512, 2816]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S16x1x6144, .f32⟩
  | .hbm, ⟨2, _⟩ => ⟨S4x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S4x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S8192x1024 : Shape := ⟨2, ![8192, 1024]⟩
abbrev S16x1x6144 : Shape := ⟨3, ![16, 1, 6144]⟩
abbrev S4x1024 : Shape := ⟨2, ![4, 1024]⟩
abbrev S1024x2816 : Shape := ⟨2, ![1024, 2816]⟩
abbrev S2816x1024 : Shape := ⟨2, ![2816, 1024]⟩
abbrev S1x1x6144 : Shape := ⟨3, ![1, 1, 6144]⟩
abbrev S1x6144 : Shape := ⟨2, ![1, 6144]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x1x6144, .f32⟩
  | .hbm, ⟨2, _⟩ => ⟨S4x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1x6144, .f32⟩
  | .hbm, ⟨7, _⟩ => ⟨S1x6144, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x1024, .f32⟩
  | .hbm, ⟨52, _⟩ => ⟨S1x1024, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Attn.lean ====
abbrev S8192x1024 : Shape := ⟨2, ![8192, 1024]⟩
abbrev S16x1x6144 : Shape := ⟨3, ![16, 1, 6144]⟩
abbrev S4x1024 : Shape := ⟨2, ![4, 1024]⟩
abbrev S1024x3072 : Shape := ⟨2, ![1024, 3072]⟩
abbrev S1024x1024 : Shape := ⟨2, ![1024, 1024]⟩
abbrev S512x1024 : Shape := ⟨2, ![512, 1024]⟩
abbrev S1x1x6144 : Shape := ⟨3, ![1, 1, 6144]⟩
abbrev S1x6144 : Shape := ⟨2, ![1, 6144]⟩
abbrev S1x1024 : Shape := ⟨2, ![1, 1024]⟩
abbrev S512 : Shape := ⟨1, ![512]⟩
abbrev S512x1 : Shape := ⟨2, ![512, 1]⟩
abbrev S512x3072 : Shape := ⟨2, ![512, 3072]⟩
abbrev S256x128 : Shape := ⟨2, ![256, 128]⟩
abbrev S512x128 : Shape := ⟨2, ![512, 128]⟩
abbrev S512x256 : Shape := ⟨2, ![512, 256]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S16x1x6144, .f32⟩
  | .hbm, ⟨2, _⟩ => ⟨S4x1024, .f32⟩
  | .hbm, ⟨3, _⟩ => ⟨S1024x3072, .f32⟩
  | .hbm, ⟨4, _⟩ => ⟨S1024x1024, .f32⟩
  | .hbm, ⟨5, _⟩ => ⟨S1024x3072, .bf16⟩
  | .hbm, ⟨6, _⟩ => ⟨S1024x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S4x1024, .f32⟩
  | .local _ .vmem, ⟨4, _⟩ => ⟨S1024x3072, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnRefIdeal.lean ====
abbrev S8192x1024 : Shape := ⟨2, ![8192, 1024]⟩
abbrev S16x1x6144 : Shape := ⟨3, ![16, 1, 6144]⟩
abbrev S4x1024 : Shape := ⟨2, ![4, 1024]⟩
abbrev S1024x3072 : Shape := ⟨2, ![1024, 3072]⟩
abbrev S1024x1024 : Shape := ⟨2, ![1024, 1024]⟩
abbrev S32x256x1024 : Shape := ⟨3, ![32, 256, 1024]⟩
abbrev S1x1x6144 : Shape := ⟨3, ![1, 1, 6144]⟩
abbrev S1x6144 : Shape := ⟨2, ![1, 6144]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S32x256x3072 : Shape := ⟨3, ![32, 256, 3072]⟩
abbrev S32x256x16x64 : Shape := ⟨4, ![32, 256, 16, 64]⟩
abbrev S32x16x256x256 : Shape := ⟨4, ![32, 16, 256, 256]⟩
abbrev S32x16x256 : Shape := ⟨3, ![32, 16, 256]⟩
abbrev S32x16x256x1 : Shape := ⟨4, ![32, 16, 256, 1]⟩
abbrev S32x16x64x256 : Shape := ⟨4, ![32, 16, 64, 256]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x1x6144, .f32⟩
  | .hbm, ⟨2, _⟩ => ⟨S4x1024, .f32⟩
  | .hbm, ⟨3, _⟩ => ⟨S1024x3072, .f32⟩
  | .hbm, ⟨4, _⟩ => ⟨S1024x1024, .f32⟩
  | .hbm, ⟨5, _⟩ => ⟨S32x256x1024, .f32⟩
  | .hbm, ⟨6, _⟩ => ⟨S1x1x6144, .f32⟩
  | .hbm, ⟨7, _⟩ => ⟨S1x6144, .f32⟩
  | .hbm, ⟨8, _⟩ => ⟨S1x1x6144, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1024, .f32⟩
  | .hbm, ⟨16, _⟩ => ⟨S1024, .f32⟩
  | .hbm, ⟨17, _⟩ => ⟨S32x256x1024, .f32⟩
  | .hbm, ⟨18, _⟩ => ⟨S_, .f32⟩
  | .hbm, ⟨19, _⟩ => ⟨S32x256, .f32⟩
  | .hbm, ⟨20, _⟩ => ⟨S32x256x1, .f32⟩
  | .hbm, ⟨21, _⟩ => ⟨S_, .f32⟩
  | .hbm, ⟨22, _⟩ => ⟨S32x256x1, .f32⟩
  | .hbm, ⟨23, _⟩ => ⟨S32x256x1, .f32⟩
  | .hbm, ⟨24, _⟩ => ⟨S_, .f32⟩
  | .hbm, ⟨25, _⟩ => ⟨S32x256x1, .f32⟩
  | .hbm, ⟨26, _⟩ => ⟨S32x256x1, .f32⟩
  | .hbm, ⟨27, _⟩ => ⟨S32x256x1, .f32⟩
  | .hbm, ⟨28, _⟩ => ⟨S32x256x1024, .f32⟩
  | .hbm, ⟨29, _⟩ => ⟨S32x256x1024, .f32⟩
  | .hbm, ⟨30, _⟩ => ⟨S1x1x1024, .f32⟩
  | .hbm, ⟨31, _⟩ => ⟨S32x256x1024, .f32⟩
  | .hbm, ⟨32, _⟩ => ⟨S32x256x1024, .f32⟩
  | .hbm, ⟨33, _⟩ => ⟨S_, .f32⟩
  | .hbm, ⟨34, _⟩ => ⟨S1x1x1024, .f32⟩
  | .hbm, ⟨35, _⟩ => ⟨S1x1x1024, .f32⟩
  | .hbm, ⟨36, _⟩ => ⟨S32x256x1024, .f32⟩
  | .hbm, ⟨37, _⟩ => ⟨S32x256x1024, .f32⟩
  | .hbm, ⟨38, _⟩ => ⟨S32x256x1024, .f32⟩
  | .hbm, ⟨39, _⟩ => ⟨S32x256x1024, .f32⟩
  | .hbm, ⟨40, _⟩ => ⟨S32x256x3072, .f32⟩
  | .hbm, ⟨41, _⟩ => ⟨S32x256x1024, .f32⟩
  | .hbm, ⟨42, _⟩ => ⟨S32x256x1024, .f32⟩
  | .hbm, ⟨43, _⟩ => ⟨S32x256x1024, .f32⟩
  | .hbm, ⟨44, _⟩ => ⟨S32x256x16x64, .f32⟩
  | .hbm, ⟨45, _⟩ => ⟨S32x256x16x64, .f32⟩
  | .hbm, ⟨46, _⟩ => ⟨S32x256x16x64, .f32⟩
  | .hbm, ⟨47, _⟩ => ⟨S32x16x256x256, .f32⟩
  | .hbm, ⟨48, _⟩ => ⟨S_, .f32⟩
  | .hbm, ⟨49, _⟩ => ⟨S32x16x256x256, .f32⟩
  | .hbm, ⟨50, _⟩ => ⟨S32x16x256x256, .f32⟩
  | .hbm, ⟨51, _⟩ => ⟨S_, .f32⟩
  | .hbm, ⟨52, _⟩ => ⟨S32x16x256, .f32⟩
  | .hbm, ⟨53, _⟩ => ⟨S_, .f32⟩
  | .hbm, ⟨54, _⟩ => ⟨S32x16x256, .f32⟩
  | .hbm, ⟨55, _⟩ => ⟨S32x16x256, .f32⟩
  | .hbm, ⟨56, _⟩ => ⟨S32x16x256x1, .f32⟩
  | .hbm, ⟨57, _⟩ => ⟨S32x16x256x256, .f32⟩
  | .hbm, ⟨58, _⟩ => ⟨S32x16x256x256, .f32⟩
  | .hbm, ⟨59, _⟩ => ⟨S32x16x256x256, .f32⟩
  | .hbm, ⟨60, _⟩ => ⟨S_, .f32⟩
  | .hbm, ⟨61, _⟩ => ⟨S32x16x256, .f32⟩
  | .hbm, ⟨62, _⟩ => ⟨S32x16x256x1, .f32⟩
  | .hbm, ⟨63, _⟩ => ⟨S32x16x256x256, .f32⟩
  | .hbm, ⟨64, _⟩ => ⟨S32x16x256x256, .f32⟩
  | .hbm, ⟨65, _⟩ => ⟨S32x16x64x256, .f32⟩
  | .hbm, ⟨66, _⟩ => ⟨S32x256x16x64, .f32⟩
  | .hbm, ⟨67, _⟩ => ⟨S32x256x1024, .f32⟩
  | .hbm, ⟨68, _⟩ => ⟨S32x256x1024, .f32⟩
  | .hbm, ⟨69, _⟩ => ⟨S1x1024, .f32⟩
  | .hbm, ⟨70, _⟩ => ⟨S1024, .f32⟩
  | .hbm, ⟨71, _⟩ => ⟨S32x256x1024, .f32⟩
  | .hbm, ⟨72, _⟩ => ⟨S_, .f32⟩
  | .hbm, ⟨73, _⟩ => ⟨S32x256, .f32⟩
  | .hbm, ⟨74, _⟩ => ⟨S32x256x1, .f32⟩
  | .hbm, ⟨75, _⟩ => ⟨S_, .f32⟩
  | .hbm, ⟨76, _⟩ => ⟨S32x256x1, .f32⟩
  | .hbm, ⟨77, _⟩ => ⟨S32x256x1, .f32⟩
  | .hbm, ⟨78, _⟩ => ⟨S_, .f32⟩
  | .hbm, ⟨79, _⟩ => ⟨S32x256x1, .f32⟩
  | .hbm, ⟨80, _⟩ => ⟨S32x256x1, .f32⟩
  | .hbm, ⟨81, _⟩ => ⟨S32x256x1, .f32⟩
  | .hbm, ⟨82, _⟩ => ⟨S32x256x1024, .f32⟩
  | .hbm, ⟨83, _⟩ => ⟨S32x256x1024, .f32⟩
  | .hbm, ⟨84, _⟩ => ⟨S1x1x1024, .f32⟩
  | .hbm, ⟨85, _⟩ => ⟨S32x256x1024, .f32⟩
  | .hbm, ⟨86, _⟩ => ⟨S32x256x1024, .f32⟩
  | .hbm, ⟨87, _⟩ => ⟨S32x256x1024, .f32⟩
  | .hbm, ⟨88, _⟩ => ⟨S32x256x1024, .f32⟩
  | .hbm, ⟨89, _⟩ => ⟨S32x256x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_7 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_cst_9 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩

abbrev nD : Nat := 1
abbrev τ : Topo := Topo.v7x

variable {F : FTy → Type} [FloatOps F]
-- ==== Na.lean ====
abbrev S4096x1024 : Shape := ⟨2, ![4096, 1024]⟩
abbrev S16x1x6144 : Shape := ⟨3, ![16, 1, 6144]⟩
abbrev S4x1024 : Shape := ⟨2, ![4, 1024]⟩
abbrev S1024x3072 : Shape := ⟨2, ![1024, 3072]⟩
abbrev S2x512x16x64 : Shape := ⟨4, ![2, 512, 16, 64]⟩
abbrev S16x15x128 : Shape := ⟨3, ![16, 15, 128]⟩
abbrev S1024x1024 : Shape := ⟨2, ![1024, 1024]⟩
abbrev S1024x2816 : Shape := ⟨2, ![1024, 2816]⟩
abbrev S2816x1024 : Shape := ⟨2, ![2816, 1024]⟩
abbrev S512x1024 : Shape := ⟨2, ![512, 1024]⟩
abbrev S1x1x6144 : Shape := ⟨3, ![1, 1, 6144]⟩
abbrev S1x6144 : Shape := ⟨2, ![1, 6144]⟩
abbrev S1x1024 : Shape := ⟨2, ![1, 1024]⟩
abbrev S512 : Shape := ⟨1, ![512]⟩
abbrev S512x1 : Shape := ⟨2, ![512, 1]⟩
abbrev S512x3072 : Shape := ⟨2, ![512, 3072]⟩
abbrev S16x14x64x128 : Shape := ⟨4, ![16, 14, 64, 128]⟩
abbrev S1x15x128 : Shape := ⟨3, ![1, 15, 128]⟩
abbrev S1x14x64x128 : Shape := ⟨4, ![1, 14, 64, 128]⟩
abbrev S64x128 : Shape := ⟨2, ![64, 128]⟩
abbrev S1x1x128 : Shape := ⟨3, ![1, 1, 128]⟩
abbrev S1x128 : Shape := ⟨2, ![1, 128]⟩
abbrev S1x1x64x128 : Shape := ⟨4, ![1, 1, 64, 128]⟩
abbrev S224x64x128 : Shape := ⟨3, ![224, 64, 128]⟩
abbrev S2048x1024 : Shape := ⟨2, ![2048, 1024]⟩
abbrev S128x128 : Shape := ⟨2, ![128, 128]⟩
abbrev S1x64x128 : Shape := ⟨3, ![1, 64, 128]⟩
abbrev S128x512 : Shape := ⟨2, ![128, 512]⟩
abbrev S512x128 : Shape := ⟨2, ![512, 128]⟩
abbrev S128 : Shape := ⟨1, ![128]⟩
abbrev S128x1 : Shape := ⟨2, ![128, 1]⟩
abbrev S512x2816 : Shape := ⟨2, ![512, 2816]⟩

abbrev nBuf : Space → Nat
  | .hbm => 27
  | .vmem => 46
  | .smem => 0
  | _ => 0

abbrev bufTy : (tb : Table) → Fin (tcTables nBuf tb) → BufTy
  | .hbm, ⟨0, _⟩ => ⟨S4096x1024, .f32⟩
  | .hbm, ⟨1, _⟩ => ⟨S16x1x6144, .f32⟩
  | .hbm, ⟨2, _⟩ => ⟨S4x1024, .f32⟩
  | .hbm, ⟨3, _⟩ => ⟨S1024x3072, .f32⟩
  | .hbm, ⟨4, _⟩ => ⟨S2x512x16x64, .f32⟩
  | .hbm, ⟨5, _⟩ => ⟨S2x512x16x64, .f32⟩
  | .hbm, ⟨6, _⟩ => ⟨S16x15x128, .f32⟩
  | .hbm, ⟨7, _⟩ => ⟨S1024x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024x3072, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S16x14x64x128, .f32⟩
  | .hbm, ⟨20, _⟩ => ⟨S224x64x128, .f32⟩
  | .hbm, ⟨21, _⟩ => ⟨S1024x1024, .bf16⟩
  | .hbm, ⟨22, _⟩ => ⟨S4096x1024, .f32⟩
  | .hbm, ⟨23, _⟩ => ⟨S1024x2816, .bf16⟩
  | .hbm, ⟨24, _⟩ => ⟨S1024x2816, .bf16⟩
  | .hbm, ⟨25, _⟩ => ⟨S2816x1024, .bf16⟩
  | .hbm, ⟨26, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S4x1024, .f32⟩
  | .local _ .vmem, ⟨5, _⟩ => ⟨S1024x3072, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x15x128, .f32⟩
  | .local _ .vmem, ⟨13, _⟩ => ⟨S1x15x128, .f32⟩
  | .local _ .vmem, ⟨14, _⟩ => ⟨S1x14x64x128, .f32⟩
  | .local _ .vmem, ⟨15, _⟩ => ⟨S1x14x64x128, .f32⟩
  | .local _ .vmem, ⟨16, _⟩ => ⟨S512x1024, .bf16⟩
  | .local _ .vmem, ⟨17, _⟩ => ⟨S512x1024, .bf16⟩
  | .local _ .vmem, ⟨18, _⟩ => ⟨S2048x1024, .bf16⟩
  | .local _ .vmem, ⟨19, _⟩ => ⟨S2048x1024, .bf16⟩
  | .local _ .vmem, ⟨20, _⟩ => ⟨S2048x1024, .bf16⟩
  | .local _ .vmem, ⟨21, _⟩ => ⟨S2048x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S224x64x128, .f32⟩
  | .local _ .vmem, ⟨27, _⟩ => ⟨S512x1024, .f32⟩
  | .local _ .vmem, ⟨28, _⟩ => ⟨S512x1024, .f32⟩
  | .local _ .vmem, ⟨29, _⟩ => ⟨S1x1x6144, .f32⟩
  | .local _ .vmem, ⟨30, _⟩ => ⟨S1x1x6144, .f32⟩
  | .local _ .vmem, ⟨31, _⟩ => ⟨S4x1024, .f32⟩
  | .local _ .vmem, ⟨32, _⟩ => ⟨S1024x1024, .bf16⟩
  | .local _ .vmem, ⟨33, _⟩ => ⟨S512x1024, .f32⟩
  | .local _ .vmem, ⟨34, _⟩ => ⟨S512x1024, .f32⟩
  | .local _ .vmem, ⟨35, _⟩ => ⟨S512x1024, .bf16⟩
  | .local _ .vmem, ⟨36, _⟩ => ⟨S512x1024, .f32⟩
  | .local _ .vmem, ⟨37, _⟩ => ⟨S512x1024, .f32⟩
  | .local _ .vmem, ⟨38, _⟩ => ⟨S1x1x6144, .f32⟩
  | .local _ .vmem, ⟨39, _⟩ => ⟨S1x1x6144, .f32⟩
  | .local _ .vmem, ⟨40, _⟩ => ⟨S4x1024, .f32⟩
  | .local _ .vmem, ⟨41, _⟩ => ⟨S1024x2816, .bf16⟩
  | .local _ .vmem, ⟨42, _⟩ => ⟨S1024x2816, .bf16⟩
  | .local _ .vmem, ⟨43, _⟩ => ⟨S2816x1024, .bf16⟩
  | .local _ .vmem, ⟨44, _⟩ => ⟨S512x1024, .f32⟩
  | .local _ .vmem, ⟨45, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc2_stg7_0 : Ref sig .tc := ⟨.vmem, 29, rfl⟩
abbrev cc2_stg7_1 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg10_1 : Ref sig .tc := ⟨.vmem, 34, rfl⟩
abbrev cc2_scratch0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg6_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem6_0 : DmaSem sig := 27
abbrev cc2_sem6_1 : DmaSem sig := 28
abbrev cc2_sem7_0 : DmaSem sig := 29
abbrev cc2_sem7_1 : DmaSem sig := 30
abbrev cc2_sem8_0 : DmaSem sig := 31
abbrev cc2_sem9_0 : DmaSem sig := 32
abbrev cc2_sem10_0 : DmaSem sig := 33
abbrev cc2_sem10_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem6_1 : DmaSem sig := 44

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.addi c9_i32 v16
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x15x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x14x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 4], ![false, false]⟩

@[reducible] def k2_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k2_mult1 (k2_t1 : Fin k2_t1_loop.trips) : BitVec 32 :=
  let c0_i32 : BitVec 32 := 0#32
  let c1_i32 : BitVec 32 := 1#32
  let arg14 : BitVec 32 := Scf.iv c0_i32 c1_i32 k2_t1
  let c64_i32_17 : BitVec 32 := 64#32
  let v36 : BitVec 32 := Scalar.muli arg14 c64_i32_17
  v36
def k2_mult2 (i : grid2.Coords) (k2_t1 : Fin k2_t1_loop.trips) : BitVec 32 :=
  let c24_i32 : BitVec 32 := 24#32
  let c0_i32_16 : BitVec 32 := 0#32
  let arg1 : BitVec 32 := BitVec.ofNat 32 (i 1).val
  let c8_i32_15 : BitVec 32 := 8#32
  let v29 : BitVec 32 := Scalar.muli arg1 c8_i32_15
  let c0_i32 : BitVec 32 := 0#32
  let c1_i32 : BitVec 32 := 1#32
  let arg14 : BitVec 32 := Scf.iv c0_i32 c1_i32 k2_t1
  let v30 : BitVec 32 := Scalar.addi v29 arg14
  let c4_i32 : BitVec 32 := 4#32
  let v31 : BitVec 32 := Scalar.subi v30 c4_i32
  let v32 : BitVec 32 := Scalar.maxsi c0_i32_16 v31
  let v33 : BitVec 32 := Scalar.minsi c24_i32 v32
  let c64_i32_18 : BitVec 32 := 64#32
  let v38 : BitVec 32 := Scalar.muli v33 c64_i32_18
  v38
def k2_off1 (k2_t1 : Fin k2_t1_loop.trips) : Fin 2 → Nat :=
  let c0_i32 : BitVec 32 := 0#32
  let c1_i32 : BitVec 32 := 1#32
  let arg14 : BitVec 32 := Scf.iv c0_i32 c1_i32 k2_t1
  let c64_i32_17 : BitVec 32 := 64#32
  let v36 : BitVec 32 := Scalar.muli arg14 c64_i32_17
  let v37 : BitVec 32 := v36
  let v40 : Index := Scalar.indexCast v37
  let c0_19 : Index := 0#32
  ![v40.toNat, 0]
def k2_off2 (i : grid2.Coords) (k2_t1 : Fin k2_t1_loop.trips) (c0_i32_21 : BitVec 32) (c0_i32_22 : BitVec 32) : Fin 3 → Nat :=
  let c24_i32 : BitVec 32 := 24#32
  let c0_i32_16 : BitVec 32 := 0#32
  let arg1 : BitVec 32 := BitVec.ofNat 32 (i 1).val
  let c8_i32_15 : BitVec 32 := 8#32
  let v29 : BitVec 32 := Scalar.muli arg1 c8_i32_15
  let c0_i32 : BitVec 32 := 0#32
  let c1_i32 : BitVec 32 := 1#32
  let arg14 : BitVec 32 := Scf.iv c0_i32 c1_i32 k2_t1
  let v30 : BitVec 32 := Scalar.addi v29 arg14
  let c4_i32 : BitVec 32 := 4#32
  let v31 : BitVec 32 := Scalar.subi v30 c4_i32
  let v32 : BitVec 32 := Scalar.maxsi c0_i32_16 v31
  let v33 : BitVec 32 := Scalar.minsi c24_i32 v32
  let v34 : BitVec 32 := Scalar.subi v33 v30
  let c7_i32 : BitVec 32 := 7#32
  let v35 : BitVec 32 := Scalar.addi v34 c7_i32
  let v47 : BitVec 32 := Scalar.addi c0_i32_21 v35
  let v48 : BitVec 32 := Scalar.addi v47 c0_i32_22
  let v49 : Index := Scalar.indexCast v48
  let c0_23 : Index := 0#32
  let c0_24 : Index := 0#32
  ![v49.toNat, 0, 0]
def k2_off3 (i : grid2.Coords) (k2_t1 : Fin k2_t1_loop.trips) : Fin 2 → Nat :=
  let c24_i32 : BitVec 32 := 24#32
  let c0_i32_16 : BitVec 32 := 0#32
  let arg1 : BitVec 32 := BitVec.ofNat 32 (i 1).val
  let c8_i32_15 : BitVec 32 := 8#32
  let v29 : BitVec 32 := Scalar.muli arg1 c8_i32_15
  let c0_i32 : BitVec 32 := 0#32
  let c1_i32 : BitVec 32 := 1#32
  let arg14 : BitVec 32 := Scf.iv c0_i32 c1_i32 k2_t1
  let v30 : BitVec 32 := Scalar.addi v29 arg14
  let c4_i32 : BitVec 32 := 4#32
  let v31 : BitVec 32 := Scalar.subi v30 c4_i32
  let v32 : BitVec 32 := Scalar.maxsi c0_i32_16 v31
  let v33 : BitVec 32 := Scalar.minsi c24_i32 v32
  let c64_i32_18 : BitVec 32 := 64#32
  let v38 : BitVec 32 := Scalar.muli v33 c64_i32_18
  let v39 : BitVec 32 := v38
  let v92 : Index := Scalar.indexCast v39
  let c0_50 : Index := 0#32
  ![v92.toNat, 0]
def k2_off4 (k2_t1 : Fin k2_t1_loop.trips) : Fin 2 → Nat :=
  let c0_i32 : BitVec 32 := 0#32
  let c1_i32 : BitVec 32 := 1#32
  let arg14 : BitVec 32 := Scf.iv c0_i32 c1_i32 k2_t1
  let c64_i32_17 : BitVec 32 := 64#32
  let v36 : BitVec 32 := Scalar.muli arg14 c64_i32_17
  let v37 : BitVec 32 := v36
  let v136 : Index := Scalar.indexCast v37
  let c128 : Index := 128#32
  ![v136.toNat, 128]
def k2_off5 (i : grid2.Coords) (k2_t1 : Fin k2_t1_loop.trips) : Fin 2 → Nat :=
  let c24_i32 : BitVec 32 := 24#32
  let c0_i32_16 : BitVec 32 := 0#32
  let arg1 : BitVec 32 := BitVec.ofNat 32 (i 1).val
  let c8_i32_15 : BitVec 32 := 8#32
  let v29 : BitVec 32 := Scalar.muli arg1 c8_i32_15
  let c0_i32 : BitVec 32 := 0#32
  let c1_i32 : BitVec 32 := 1#32
  let arg14 : BitVec 32 := Scf.iv c0_i32 c1_i32 k2_t1
  let v30 : BitVec 32 := Scalar.addi v29 arg14
  let c4_i32 : BitVec 32 := 4#32
  let v31 : BitVec 32 := Scalar.subi v30 c4_i32
  let v32 : BitVec 32 := Scalar.maxsi c0_i32_16 v31
  let v33 : BitVec 32 := Scalar.minsi c24_i32 v32
  let c64_i32_18 : BitVec 32 := 64#32
  let v38 : BitVec 32 := Scalar.muli v33 c64_i32_18
  let v39 : BitVec 32 := v38
  let v188 : Index := Scalar.indexCast v39
  let c128_96 : Index := 128#32
  ![v188.toNat, 128]
def k2_off6 (k2_t1 : Fin k2_t1_loop.trips) : Fin 2 → Nat :=
  let c0_i32 : BitVec 32 := 0#32
  let c1_i32 : BitVec 32 := 1#32
  let arg14 : BitVec 32 := Scf.iv c0_i32 c1_i32 k2_t1
  let c64_i32_17 : BitVec 32 := 64#32
  let v36 : BitVec 32 := Scalar.muli arg14 c64_i32_17
  let v37 : BitVec 32 := v36
  let v232 : Index := Scalar.indexCast v37
  let c256 : Index := 256#32
  ![v232.toNat, 256]
def k2_off7 (i : grid2.Coords) (k2_t1 : Fin k2_t1_loop.trips) : Fin 2 → Nat :=
  let c24_i32 : BitVec 32 := 24#32
  let c0_i32_16 : BitVec 32 := 0#32
  let arg1 : BitVec 32 := BitVec.ofNat 32 (i 1).val
  let c8_i32_15 : BitVec 32 := 8#32
  let v29 : BitVec 32 := Scalar.muli arg1 c8_i32_15
  let c0_i32 : BitVec 32 := 0#32
  let c1_i32 : BitVec 32 := 1#32
  let arg14 : BitVec 32 := Scf.iv c0_i32 c1_i32 k2_t1
  let v30 : BitVec 32 := Scalar.addi v29 arg14
  let c4_i32 : BitVec 32 := 4#32
  let v31 : BitVec 32 := Scalar.subi v30 c4_i32
  let v32 : BitVec 32 := Scalar.maxsi c0_i32_16 v31
  let v33 : BitVec 32 := Scalar.minsi c24_i32 v32
  let c64_i32_18 : BitVec 32 := 64#32
  let v38 : BitVec 32 := Scalar.muli v33 c64_i32_18
  let v39 : BitVec 32 := v38
  let v284 : Index := Scalar.indexCast v39
  let c256_142 : Index := 256#32
  ![v284.toNat, 256]
def k2_off8 (k2_t1 : Fin k2_t1_loop.trips) : Fin 2 → Nat :=
  let c0_i32 : BitVec 32 := 0#32
  let c1_i32 : BitVec 32 := 1#32
  let arg14 : BitVec 32 := Scf.iv c0_i32 c1_i32 k2_t1
  let c64_i32_17 : BitVec 32 := 64#32
  let v36 : BitVec 32 := Scalar.muli arg14 c64_i32_17
  let v37 : BitVec 32 := v36
  let v328 : Index := Scalar.indexCast v37
  let c384 : Index := 384#32
  ![v328.toNat, 384]
def k2_off9 (i : grid2.Coords) (k2_t1 : Fin k2_t1_loop.trips) : Fin 2 → Nat :=
  let c24_i32 : BitVec 32 := 24#32
  let c0_i32_16 : BitVec 32 := 0#32
  let arg1 : BitVec 32 := BitVec.ofNat 32 (i 1).val
  let c8_i32_15 : BitVec 32 := 8#32
  let v29 : BitVec 32 := Scalar.muli arg1 c8_i32_15
  let c0_i32 : BitVec 32 := 0#32
  let c1_i32 : BitVec 32 := 1#32
  let arg14 : BitVec 32 := Scf.iv c0_i32 c1_i32 k2_t1
  let v30 : BitVec 32 := Scalar.addi v29 arg14
  let c4_i32 : BitVec 32 := 4#32
  let v31 : BitVec 32 := Scalar.subi v30 c4_i32
  let v32 : BitVec 32 := Scalar.maxsi c0_i32_16 v31
  let v33 : BitVec 32 := Scalar.minsi c24_i32 v32
  let c64_i32_18 : BitVec 32 := 64#32
  let v38 : BitVec 32 := Scalar.muli v33 c64_i32_18
  let v39 : BitVec 32 := v38
  let v380 : Index := Scalar.indexCast v39
  let c384_188 : Index := 384#32
  ![v380.toNat, 384]
def k2_off10 (k2_t1 : Fin k2_t1_loop.trips) : Fin 2 → Nat :=
  let c0_i32 : BitVec 32 := 0#32
  let c1_i32 : BitVec 32 := 1#32
  let arg14 : BitVec 32 := Scf.iv c0_i32 c1_i32 k2_t1
  let c64_i32_17 : BitVec 32 := 64#32
  let v36 : BitVec 32 := Scalar.muli arg14 c64_i32_17
  let v37 : BitVec 32 := v36
  let v424 : Index := Scalar.indexCast v37
  let c512 : Index := 512#32
  ![v424.toNat, 512]
def k2_off11 (i : grid2.Coords) (k2_t1 : Fin k2_t1_loop.trips) : Fin 2 → Nat :=
  let c24_i32 : BitVec 32 := 24#32
  let c0_i32_16 : BitVec 32 := 0#32
  let arg1 : BitVec 32 := BitVec.ofNat 32 (i 1).val
  let c8_i32_15 : BitVec 32 := 8#32
  let v29 : BitVec 32 := Scalar.muli arg1 c8_i32_15
  let c0_i32 : BitVec 32 := 0#32
  let c1_i32 : BitVec 32 := 1#32
  let arg14 : BitVec 32 := Scf.iv c0_i32 c1_i32 k2_t1
  let v30 : BitVec 32 := Scalar.addi v29 arg14
  let c4_i32 : BitVec 32 := 4#32
  let v31 : BitVec 32 := Scalar.subi v30 c4_i32
  let v32 : BitVec 32 := Scalar.maxsi c0_i32_16 v31
  let v33 : BitVec 32 := Scalar.minsi c24_i32 v32
  let c64_i32_18 : BitVec 32 := 64#32
  let v38 : BitVec 32 := Scalar.muli v33 c64_i32_18
  let v39 : BitVec 32 := v38
  let v476 : Index := Scalar.indexCast v39
  let c512_234 : Index := 512#32
  ![v476.toNat, 512]
def k2_off12 (k2_t1 : Fin k2_t1_loop.trips) : Fin 2 → Nat :=
  let c0_i32 : BitVec 32 := 0#32
  let c1_i32 : BitVec 32 := 1#32
  let arg14 : BitVec 32 := Scf.iv c0_i32 c1_i32 k2_t1
  let c64_i32_17 : BitVec 32 := 64#32
  let v36 : BitVec 32 := Scalar.muli arg14 c64_i32_17
  let v37 : BitVec 32 := v36
  let v520 : Index := Scalar.indexCast v37
  let c640 : Index := 640#32
  ![v520.toNat, 640]
def k2_off13 (i : grid2.Coords) (k2_t1 : Fin k2_t1_loop.trips) : Fin 2 → Nat :=
  let c24_i32 : BitVec 32 := 24#32
  let c0_i32_16 : BitVec 32 := 0#32
  let arg1 : BitVec 32 := BitVec.ofNat 32 (i 1).val
  let c8_i32_15 : BitVec 32 := 8#32
  let v29 : BitVec 32 := Scalar.muli arg1 c8_i32_15
  let c0_i32 : BitVec 32 := 0#32
  let c1_i32 : BitVec 32 := 1#32
  let arg14 : BitVec 32 := Scf.iv c0_i32 c1_i32 k2_t1
  let v30 : BitVec 32 := Scalar.addi v29 arg14
  let c4_i32 : BitVec 32 := 4#32
  let v31 : BitVec 32 := Scalar.subi v30 c4_i32
  let v32 : BitVec 32 := Scalar.maxsi c0_i32_16 v31
  let v33 : BitVec 32 := Scalar.minsi c24_i32 v32
  let c64_i32_18 : BitVec 32 := 64#32
  let v38 : BitVec 32 := Scalar.muli v33 c64_i32_18
  let v39 : BitVec 32 := v38
  let v572 : Index := Scalar.indexCast v39
  let c640_280 : Index := 640#32
  ![v572.toNat, 640]
def k2_off14 (k2_t1 : Fin k2_t1_loop.trips) : Fin 2 → Nat :=
  let c0_i32 : BitVec 32 := 0#32
  let c1_i32 : BitVec 32 := 1#32
  let arg14 : BitVec 32 := Scf.iv c0_i32 c1_i32 k2_t1
  let c64_i32_17 : BitVec 32 := 64#32
  let v36 : BitVec 32 := Scalar.muli arg14 c64_i32_17
  let v37 : BitVec 32 := v36
  let v616 : Index := Scalar.indexCast v37
  let c768 : Index := 768#32
  ![v616.toNat, 768]
def k2_off15 (i : grid2.Coords) (k2_t1 : Fin k2_t1_loop.trips) : Fin 2 → Nat :=
  let c24_i32 : BitVec 32 := 24#32
  let c0_i32_16 : BitVec 32 := 0#32
  let arg1 : BitVec 32 := BitVec.ofNat 32 (i 1).val
  let c8_i32_15 : BitVec 32 := 8#32
  let v29 : BitVec 32 := Scalar.muli arg1 c8_i32_15
  let c0_i32 : BitVec 32 := 0#32
  let c1_i32 : BitVec 32 := 1#32
  let arg14 : BitVec 32 := Scf.iv c0_i32 c1_i32 k2_t1
  let v30 : BitVec 32 := Scalar.addi v29 arg14
  let c4_i32 : BitVec 32 := 4#32
  let v31 : BitVec 32 := Scalar.subi v30 c4_i32
  let v32 : BitVec 32 := Scalar.maxsi c0_i32_16 v31
  let v33 : BitVec 32 := Scalar.minsi c24_i32 v32
  let c64_i32_18 : BitVec 32 := 64#32
  let v38 : BitVec 32 := Scalar.muli v33 c64_i32_18
  let v39 : BitVec 32 := v38
  let v668 : Index := Scalar.indexCast v39
  let c768_326 : Index := 768#32
  ![v668.toNat, 768]
def k2_off16 (k2_t1 : Fin k2_t1_loop.trips) : Fin 2 → Nat :=
  let c0_i32 : BitVec 32 := 0#32
  let c1_i32 : BitVec 32 := 1#32
  let arg14 : BitVec 32 := Scf.iv c0_i32 c1_i32 k2_t1
  let c64_i32_17 : BitVec 32 := 64#32
  let v36 : BitVec 32 := Scalar.muli arg14 c64_i32_17
  let v37 : BitVec 32 := v36
  let v712 : Index := Scalar.indexCast v37
  let c896 : Index := 896#32
  ![v712.toNat, 896]
def k2_off17 (i : grid2.Coords) (k2_t1 : Fin k2_t1_loop.trips) : Fin 2 → Nat :=
  let c24_i32 : BitVec 32 := 24#32
  let c0_i32_16 : BitVec 32 := 0#32
  let arg1 : BitVec 32 := BitVec.ofNat 32 (i 1).val
  let c8_i32_15 : BitVec 32 := 8#32
  let v29 : BitVec 32 := Scalar.muli arg1 c8_i32_15
  let c0_i32 : BitVec 32 := 0#32
  let c1_i32 : BitVec 32 := 1#32
  let arg14 : BitVec 32 := Scf.iv c0_i32 c1_i32 k2_t1
  let v30 : BitVec 32 := Scalar.addi v29 arg14
  let c4_i32 : BitVec 32 := 4#32
  let v31 : BitVec 32 := Scalar.subi v30 c4_i32
  let v32 : BitVec 32 := Scalar.maxsi c0_i32_16 v31
  let v33 : BitVec 32 := Scalar.minsi c24_i32 v32
  let c64_i32_18 : BitVec 32 := 64#32
  let v38 : BitVec 32 := Scalar.muli v33 c64_i32_18
  let v39 : BitVec 32 := v38
  let v764 : Index := Scalar.indexCast v39
  let c896_372 : Index := 896#32
  ![v764.toNat, 896]
def cc2_transform_0 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_7 (i : grid2.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  let c0_i32_0 : BitVec 32 := 0#32
  let c0_i32_1 : BitVec 32 := 0#32
  ![v0.toNat, c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2048x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 1 → Memref sig .tc .vmem S224x64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x1x6144 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 1 → Memref sig .tc .vmem S4x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1024x1024 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 2 → Memref sig .tc .vmem S512x1024 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.addi c9_i32 v16
  let c0_i32_4 : BitVec 32 := 0#32
  let c0_i32_5 : BitVec 32 := 0#32
  let c0_i32_6 : BitVec 32 := 0#32
  ![v17.toNat, c0_i32_4.toNat, c0_i32_5.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x6144 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x2816 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024x2816 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S2816x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S512x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]
-- ==== NaRefIdeal.lean ====
abbrev S4096x1024 : Shape := ⟨2, ![4096, 1024]⟩
abbrev S16x1x6144 : Shape := ⟨3, ![16, 1, 6144]⟩
abbrev S4x1024 : Shape := ⟨2, ![4, 1024]⟩
abbrev S1024x3072 : Shape := ⟨2, ![1024, 3072]⟩
abbrev S2x512x16x64 : Shape := ⟨4, ![2, 512, 16, 64]⟩
abbrev S16x15x128 : Shape := ⟨3, ![16, 15, 128]⟩
abbrev S1024x1024 : Shape := ⟨2, ![1024, 1024]⟩
abbrev S1024x2816 : Shape := ⟨2, ![1024, 2816]⟩
abbrev S2816x1024 : Shape := ⟨2, ![2816, 1024]⟩
abbrev S2x2048x1024 : Shape := ⟨3, ![2, 2048, 1024]⟩
abbrev S2x1x6144 : Shape := ⟨3, ![2, 1, 6144]⟩
abbrev S2x1x1024 : Shape := ⟨3, ![2, 1, 1024]⟩
abbrev S1x1024 : Shape := ⟨2, ![1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x3072 : Shape := ⟨3, ![2, 2048, 3072]⟩
abbrev S16x15x31 : Shape := ⟨3, ![16, 15, 31]⟩
abbrev S2x2048x16x64 : Shape := ⟨4, ![2, 2048, 16, 64]⟩
abbrev S2x32x64x16x64 : Shape := ⟨5, ![2, 32, 64, 16, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S2x32x8x64x16x64 : Shape := ⟨6, ![2, 32, 8, 64, 16, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S32x1x8x1 : Shape := ⟨4, ![32, 1, 8, 1]⟩
abbrev S1x64x1x64 : Shape := ⟨4, ![1, 64, 1, 64]⟩
abbrev S32x64x8x64 : Shape := ⟨4, ![32, 64, 8, 64]⟩
abbrev S32x64x8x64x1 : Shape := ⟨5, ![32, 64, 8, 64, 1]⟩
abbrev S32x64x8x64x2 : Shape := ⟨5, ![32, 64, 8, 64, 2]⟩
abbrev S16x32x64x8x64 : Shape := ⟨5, ![16, 32, 64, 8, 64]⟩
abbrev S1x1x64x1x64 : Shape := ⟨5, ![1, 1, 64, 1, 64]⟩
abbrev S2x16x32x64x8x64 : Shape := ⟨6, ![2, 16, 32, 64, 8, 64]⟩
abbrev S1x16x32x64x8x64 : Shape := ⟨6, ![1, 16, 32, 64, 8, 64]⟩
abbrev S2x16x32x64x512 : Shape := ⟨5, ![2, 16, 32, 64, 512]⟩
abbrev S2x16x32x64x1024 : Shape := ⟨5, ![2, 16, 32, 64, 1024]⟩
abbrev S2x16x32x64 : Shape := ⟨4, ![2, 16, 32, 64]⟩
abbrev S2x16x32x64x1 : Shape := ⟨5, ![2, 16, 32, 64, 1]⟩
abbrev S2x32x16x64x64 : Shape := ⟨5, ![2, 32, 16, 64, 64]⟩
abbrev S2x16x64x32x64 : Shape := ⟨5, ![2, 16, 64, 32, 64]⟩
abbrev S2x2048x2816 : Shape := ⟨3, ![2, 2048, 2816]⟩

abbrev nBuf : Space → Nat
  | .hbm => 286
  | .vmem => 0
  | .smem => 0
  | _ => 0

abbrev hbmTy0_0 (i : Nat) : BufTy := match i % 128 with
  | 0 => ⟨S4096x1024, .f32⟩
  | 1 => ⟨S16x1x6144, .f32⟩
  | 2 => ⟨S4x1024, .f32⟩
  | 3 => ⟨S1024x3072, .f32⟩
  | 4 => ⟨S2x512x16x64, .f32⟩
  | 5 => ⟨S2x512x16x64, .f32⟩
  | 6 => ⟨S16x15x128, .f32⟩
  | 7 => ⟨S1024x1024, .f32⟩
  | 8 => ⟨S1024x2816, .f32⟩
  | 9 => ⟨S1024x2816, .f32⟩
  | 10 => ⟨S2816x1024, .f32⟩
  | 11 => ⟨S2x2048x1024, .f32⟩
  | 12 => ⟨S2x1x6144, .f32⟩
  | 13 => ⟨S2x1x1024, .f32⟩
  | 14 => ⟨S2x1x1024, .f32⟩
  | 15 => ⟨S2x1x1024, .f32⟩
  | 16 => ⟨S2x1x1024, .f32⟩
  | 17 => ⟨S2x1x1024, .f32⟩
  | 18 => ⟨S2x1x1024, .f32⟩
  | 19 => ⟨S1x1024, .f32⟩
  | 20 => ⟨S1024, .f32⟩
  | 21 => ⟨S2x2048x1024, .f32⟩
  | 22 => ⟨S_, .f32⟩
  | 23 => ⟨S2x2048, .f32⟩
  | 24 => ⟨S2x2048x1, .f32⟩
  | 25 => ⟨S_, .f32⟩
  | 26 => ⟨S2x2048x1, .f32⟩
  | 27 => ⟨S2x2048x1, .f32⟩
  | 28 => ⟨S_, .f32⟩
  | 29 => ⟨S2x2048x1, .f32⟩
  | 30 => ⟨S2x2048x1, .f32⟩
  | 31 => ⟨S2x2048x1, .f32⟩
  | 32 => ⟨S2x2048x1024, .f32⟩
  | 33 => ⟨S2x2048x1024, .f32⟩
  | 34 => ⟨S1x1x1024, .f32⟩
  | 35 => ⟨S2x2048x1024, .f32⟩
  | 36 => ⟨S2x2048x1024, .f32⟩
  | 37 => ⟨S_, .f32⟩
  | 38 => ⟨S2x1x1024, .f32⟩
  | 39 => ⟨S2x1x1024, .f32⟩
  | 40 => ⟨S2x2048x1024, .f32⟩
  | 41 => ⟨S2x2048x1024, .f32⟩
  | 42 => ⟨S2x2048x1024, .f32⟩
  | 43 => ⟨S2x2048x1024, .f32⟩
  | 44 => ⟨S2x2048x3072, .f32⟩
  | 45 => ⟨S2x2048x1024, .f32⟩
  | 46 => ⟨S2x2048x1024, .f32⟩
  | 47 => ⟨S2x2048x1024, .f32⟩
  | 48 => ⟨S16x15x31, .f32⟩
  | 49 => ⟨S2x2048x16x64, .f32⟩
  | 50 => ⟨S2x2048x16x64, .f32⟩
  | 51 => ⟨S2x2048x16x64, .f32⟩
  | 52 => ⟨S2x32x64x16x64, .f32⟩
  | 53 => ⟨S2x32x64x16x64, .f32⟩
  | 54 => ⟨S2x32x64x16x64, .f32⟩
  | 55 => ⟨S32, .i32⟩
  | 56 => ⟨S_, .i32⟩
  | 57 => ⟨S32, .i32⟩
  | 58 => ⟨S32, .i32⟩
  | 59 => ⟨S_, .i32⟩
  | 60 => ⟨S_, .i32⟩
  | 61 => ⟨S_, .i32⟩
  | 62 => ⟨S32, .i32⟩
  | 63 => ⟨S32, .i32⟩
  | 64 => ⟨S_, .i32⟩
  | 65 => ⟨S32, .i32⟩
  | 66 => ⟨S32, .i32⟩
  | 67 => ⟨S32x1, .i32⟩
  | 68 => ⟨S8, .i32⟩
  | 69 => ⟨S1x8, .i32⟩
  | 70 => ⟨S32x8, .i32⟩
  | 71 => ⟨S32x8, .i32⟩
  | 72 => ⟨S32x8, .i32⟩
  | 73 => ⟨S_, .i32⟩
  | 74 => ⟨S32x8, .i32⟩
  | 75 => ⟨S32x8, .i1⟩
  | 76 => ⟨S_, .i32⟩
  | 77 => ⟨S32x8, .i32⟩
  | 78 => ⟨S32x8, .i32⟩
  | 79 => ⟨S32x8, .i32⟩
  | 80 => ⟨S32x8x1, .i32⟩
  | 81 => ⟨S2x32x8x64x16x64, .f32⟩
  | 82 => ⟨S_, .i32⟩
  | 83 => ⟨S32x8, .i32⟩
  | 84 => ⟨S32x8, .i1⟩
  | 85 => ⟨S_, .i32⟩
  | 86 => ⟨S32x8, .i32⟩
  | 87 => ⟨S32x8, .i32⟩
  | 88 => ⟨S32x8, .i32⟩
  | 89 => ⟨S32x8x1, .i32⟩
  | 90 => ⟨S2x32x8x64x16x64, .f32⟩
  | 91 => ⟨S64, .i32⟩
  | 92 => ⟨S_, .i32⟩
  | 93 => ⟨S64, .i32⟩
  | 94 => ⟨S64, .i32⟩
  | 95 => ⟨S_, .i32⟩
  | 96 => ⟨S_, .i32⟩
  | 97 => ⟨S_, .i32⟩
  | 98 => ⟨S64, .i32⟩
  | 99 => ⟨S64, .i32⟩
  | 100 => ⟨S_, .i32⟩
  | 101 => ⟨S64, .i32⟩
  | 102 => ⟨S64, .i32⟩
  | 103 => ⟨S1x64, .i32⟩
  | 104 => ⟨S64x1, .i32⟩
  | 105 => ⟨S64x64, .i32⟩
  | 106 => ⟨S64x64, .i32⟩
  | 107 => ⟨S64x64, .i1⟩
  | 108 => ⟨S1x64, .i32⟩
  | 109 => ⟨S64x1, .i32⟩
  | 110 => ⟨S_, .i32⟩
  | 111 => ⟨S64x1, .i32⟩
  | 112 => ⟨S64x1, .i32⟩
  | 113 => ⟨S64x64, .i32⟩
  | 114 => ⟨S64x64, .i32⟩
  | 115 => ⟨S64x64, .i1⟩
  | 116 => ⟨S64x64, .i1⟩
  | 117 => ⟨S32x1, .i32⟩
  | 118 => ⟨S32x8, .i32⟩
  | 119 => ⟨S32x8, .i32⟩
  | 120 => ⟨S1x64, .i32⟩
  | 121 => ⟨S64x1, .i32⟩
  | 122 => ⟨S64x64, .i32⟩
  | 123 => ⟨S64x64, .i32⟩
  | 124 => ⟨S64x64, .i32⟩
  | 125 => ⟨S_, .i32⟩
  | 126 => ⟨S_, .i32⟩
  | 127 => ⟨S_, .i32⟩
  | _ => ⟨S4096x1024, .f32⟩

abbrev hbmTy0_1 (i : Nat) : BufTy := match i % 128 with
  | 0 => ⟨S64x64, .i32⟩
  | 1 => ⟨S64x64, .i32⟩
  | 2 => ⟨S_, .i32⟩
  | 3 => ⟨S64x64, .i32⟩
  | 4 => ⟨S64x64, .i32⟩
  | 5 => ⟨S32x1x8x1, .i32⟩
  | 6 => ⟨S_, .i32⟩
  | 7 => ⟨S32x1x8x1, .i32⟩
  | 8 => ⟨S32x1x8x1, .i32⟩
  | 9 => ⟨S1x64x1x64, .i32⟩
  | 10 => ⟨S_, .i32⟩
  | 11 => ⟨S1x64x1x64, .i32⟩
  | 12 => ⟨S1x64x1x64, .i32⟩
  | 13 => ⟨S_, .i32⟩
  | 14 => ⟨S32x1x8x1, .i32⟩
  | 15 => ⟨S32x1x8x1, .i1⟩
  | 16 => ⟨S_, .i32⟩
  | 17 => ⟨S32x1x8x1, .i32⟩
  | 18 => ⟨S32x1x8x1, .i32⟩
  | 19 => ⟨S32x1x8x1, .i32⟩
  | 20 => ⟨S_, .i32⟩
  | 21 => ⟨S1x64x1x64, .i32⟩
  | 22 => ⟨S1x64x1x64, .i1⟩
  | 23 => ⟨S_, .i32⟩
  | 24 => ⟨S1x64x1x64, .i32⟩
  | 25 => ⟨S1x64x1x64, .i32⟩
  | 26 => ⟨S1x64x1x64, .i32⟩
  | 27 => ⟨S32x64x8x64, .i32⟩
  | 28 => ⟨S32x64x8x64, .i32⟩
  | 29 => ⟨S32x64x8x64x1, .i32⟩
  | 30 => ⟨S32x64x8x64x1, .i32⟩
  | 31 => ⟨S32x64x8x64x2, .i32⟩
  | 32 => ⟨S16x32x64x8x64, .f32⟩
  | 33 => ⟨S1x1x64x1x64, .i1⟩
  | 34 => ⟨S_, .f32⟩
  | 35 => ⟨S_, .f32⟩
  | 36 => ⟨S16x32x64x8x64, .i1⟩
  | 37 => ⟨S16x32x64x8x64, .f32⟩
  | 38 => ⟨S16x32x64x8x64, .f32⟩
  | 39 => ⟨S2x16x32x64x8x64, .f32⟩
  | 40 => ⟨S_, .f32⟩
  | 41 => ⟨S2x16x32x64x8x64, .f32⟩
  | 42 => ⟨S2x16x32x64x8x64, .f32⟩
  | 43 => ⟨S1x16x32x64x8x64, .f32⟩
  | 44 => ⟨S2x16x32x64x8x64, .f32⟩
  | 45 => ⟨S2x16x32x64x8x64, .f32⟩
  | 46 => ⟨S2x16x32x64x512, .f32⟩
  | 47 => ⟨S2x16x32x64x512, .f32⟩
  | 48 => ⟨S_, .f32⟩
  | 49 => ⟨S2x16x32x64x512, .f32⟩
  | 50 => ⟨S2x16x32x64x512, .f32⟩
  | 51 => ⟨S2x16x32x64x1024, .f32⟩
  | 52 => ⟨S_, .f32⟩
  | 53 => ⟨S2x16x32x64, .f32⟩
  | 54 => ⟨S_, .f32⟩
  | 55 => ⟨S2x16x32x64, .f32⟩
  | 56 => ⟨S2x16x32x64, .f32⟩
  | 57 => ⟨S2x16x32x64x1, .f32⟩
  | 58 => ⟨S2x16x32x64x1024, .f32⟩
  | 59 => ⟨S2x16x32x64x1024, .f32⟩
  | 60 => ⟨S2x16x32x64x1024, .f32⟩
  | 61 => ⟨S_, .f32⟩
  | 62 => ⟨S2x16x32x64, .f32⟩
  | 63 => ⟨S2x16x32x64x1, .f32⟩
  | 64 => ⟨S2x16x32x64x1024, .f32⟩
  | 65 => ⟨S2x16x32x64x1024, .f32⟩
  | 66 => ⟨S2x16x32x64x512, .f32⟩
  | 67 => ⟨S2x16x32x64x8x64, .f32⟩
  | 68 => ⟨S2x16x32x64x512, .f32⟩
  | 69 => ⟨S2x32x16x64x64, .f32⟩
  | 70 => ⟨S2x32x64x16x64, .f32⟩
  | 71 => ⟨S2x16x64x32x64, .f32⟩
  | 72 => ⟨S2x32x64x16x64, .f32⟩
  | 73 => ⟨S2x32x64x16x64, .f32⟩
  | 74 => ⟨S2x2048x16x64, .f32⟩
  | 75 => ⟨S2x2048x1024, .f32⟩
  | 76 => ⟨S2x2048x1024, .f32⟩
  | 77 => ⟨S1x1024, .f32⟩
  | 78 => ⟨S1024, .f32⟩
  | 79 => ⟨S2x2048x1024, .f32⟩
  | 80 => ⟨S_, .f32⟩
  | 81 => ⟨S2x2048, .f32⟩
  | 82 => ⟨S2x2048x1, .f32⟩
  | 83 => ⟨S_, .f32⟩
  | 84 => ⟨S2x2048x1, .f32⟩
  | 85 => ⟨S2x2048x1, .f32⟩
  | 86 => ⟨S_, .f32⟩
  | 87 => ⟨S2x2048x1, .f32⟩
  | 88 => ⟨S2x2048x1, .f32⟩
  | 89 => ⟨S2x2048x1, .f32⟩
  | 90 => ⟨S2x2048x1024, .f32⟩
  | 91 => ⟨S2x2048x1024, .f32⟩
  | 92 => ⟨S1x1x1024, .f32⟩
  | 93 => ⟨S2x2048x1024, .f32⟩
  | 94 => ⟨S2x2048x1024, .f32⟩
  | 95 => ⟨S2x2048x1024, .f32⟩
  | 96 => ⟨S2x2048x1024, .f32⟩
  | 97 => ⟨S2x2048x1024, .f32⟩
  | 98 => ⟨S1x1024, .f32⟩
  | 99 => ⟨S1024, .f32⟩
  | 100 => ⟨S2x2048x1024, .f32⟩
  | 101 => ⟨S_, .f32⟩
  | 102 => ⟨S2x2048, .f32⟩
  | 103 => ⟨S2x2048x1, .f32⟩
  | 104 => ⟨S_, .f32⟩
  | 105 => ⟨S2x2048x1, .f32⟩
  | 106 => ⟨S2x2048x1, .f32⟩
  | 107 => ⟨S_, .f32⟩
  | 108 => ⟨S2x2048x1, .f32⟩
  | 109 => ⟨S2x2048x1, .f32⟩
  | 110 => ⟨S2x2048x1, .f32⟩
  | 111 => ⟨S2x2048x1024, .f32⟩
  | 112 => ⟨S2x2048x1024, .f32⟩
  | 113 => ⟨S1x1x1024, .f32⟩
  | 114 => ⟨S2x2048x1024, .f32⟩
  | 115 => ⟨S2x2048x1024, .f32⟩
  | 116 => ⟨S_, .f32⟩
  | 117 => ⟨S2x1x1024, .f32⟩
  | 118 => ⟨S2x1x1024, .f32⟩
  | 119 => ⟨S2x2048x1024, .f32⟩
  | 120 => ⟨S2x2048x1024, .f32⟩
  | 121 => ⟨S2x2048x1024, .f32⟩
  | 122 => ⟨S2x2048x1024, .f32⟩
  | 123 => ⟨S2x2048x2816, .f32⟩
  | 124 => ⟨S2x2048x2816, .f32⟩
  | 125 => ⟨S2x2048x2816, .f32⟩
  | 126 => ⟨S_, .f32⟩
  | 127 => ⟨S2x2048x2816, .f32⟩
  | _ => ⟨S4096x1024, .f32⟩

abbrev hbmTy0_2 (i : Nat) : BufTy := match i % 128 with
  | 0 => ⟨S2x2048x2816, .f32⟩
  | 1 => ⟨S_, .f32⟩
  | 2 => ⟨S2x2048x2816, .f32⟩
  | 3 => ⟨S2x2048x2816, .f32⟩
  | 4 => ⟨S2x2048x2816, .f32⟩
  | 5 => ⟨S2x2048x2816, .f32⟩
  | 6 => ⟨S2x2048x2816, .f32⟩
  | 7 => ⟨S2x2048x1024, .f32⟩
  | 8 => ⟨S1x1024, .f32⟩
  | 9 => ⟨S1024, .f32⟩
  | 10 => ⟨S2x2048x1024, .f32⟩
  | 11 => ⟨S_, .f32⟩
  | 12 => ⟨S2x2048, .f32⟩
  | 13 => ⟨S2x2048x1, .f32⟩
  | 14 => ⟨S_, .f32⟩
  | 15 => ⟨S2x2048x1, .f32⟩
  | 16 => ⟨S2x2048x1, .f32⟩
  | 17 => ⟨S_, .f32⟩
  | 18 => ⟨S2x2048x1, .f32⟩
  | 19 => ⟨S2x2048x1, .f32⟩
  | 20 => ⟨S2x2048x1, .f32⟩
  | 21 => ⟨S2x2048x1024, .f32⟩
  | 22 => ⟨S2x2048x1024, .f32⟩
  | 23 => ⟨S1x1x1024, .f32⟩
  | 24 => ⟨S2x2048x1024, .f32⟩
  | 25 => ⟨S2x2048x1024, .f32⟩
  | 26 => ⟨S2x2048x1024, .f32⟩
  | 27 => ⟨S2x2048x1024, .f32⟩
  | 28 => ⟨S2x2048x1024, .f32⟩
  | 29 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_v41 : Ref sig .tc := ⟨.hbm, 57, rfl⟩
abbrev main_v42 : Ref sig .tc := ⟨.hbm, 58, rfl⟩
abbrev main_c_3 : Ref sig .tc := ⟨.hbm, 59, rfl⟩
abbrev main_c_4 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_5 : Ref sig .tc := ⟨.hbm, 73, rfl⟩
abbrev main_v50 : Ref sig .tc := ⟨.hbm, 74, rfl⟩
abbrev main_v51 : Ref sig .tc := ⟨.hbm, 75, rfl⟩
abbrev main_c_6 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_7 : Ref sig .tc := ⟨.hbm, 82, rfl⟩
abbrev main_v57 : Ref sig .tc := ⟨.hbm, 83, rfl⟩
abbrev main_v58 : Ref sig .tc := ⟨.hbm, 84, rfl⟩
abbrev main_c_8 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_9 : Ref sig .tc := ⟨.hbm, 92, rfl⟩
abbrev main_v65 : Ref sig .tc := ⟨.hbm, 93, rfl⟩
abbrev main_v66 : Ref sig .tc := ⟨.hbm, 94, rfl⟩
abbrev main_c_10 : Ref sig .tc := ⟨.hbm, 95, rfl⟩
abbrev main_c_11 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_12 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_13 : Ref sig .tc := ⟨.hbm, 125, rfl⟩
abbrev main_c_14 : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_v89 : Ref sig .tc := ⟨.hbm, 132, rfl⟩
abbrev main_v90 : Ref sig .tc := ⟨.hbm, 133, rfl⟩
abbrev main_c_15 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_c_16 : Ref sig .tc := ⟨.hbm, 138, rfl⟩
abbrev main_v94 : Ref sig .tc := ⟨.hbm, 139, rfl⟩
abbrev main_v95 : Ref sig .tc := ⟨.hbm, 140, rfl⟩
abbrev main_c_17 : Ref sig .tc := ⟨.hbm, 141, rfl⟩
abbrev main_v96 : Ref sig .tc := ⟨.hbm, 142, rfl⟩
abbrev main_v97 : Ref sig .tc := ⟨.hbm, 143, rfl⟩
abbrev main_c_18 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_c_19 : Ref sig .tc := ⟨.hbm, 148, rfl⟩
abbrev main_v101 : Ref sig .tc := ⟨.hbm, 149, rfl⟩
abbrev main_v102 : Ref sig .tc := ⟨.hbm, 150, rfl⟩
abbrev main_c_20 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_21 : Ref sig .tc := ⟨.hbm, 162, rfl⟩
abbrev main_call3_v0 : Ref sig .tc := ⟨.hbm, 163, rfl⟩
abbrev main_call3_v1 : Ref sig .tc := ⟨.hbm, 164, rfl⟩
abbrev main_call3_v2 : Ref sig .tc := ⟨.hbm, 165, rfl⟩
abbrev main_v113 : Ref sig .tc := ⟨.hbm, 166, rfl⟩
abbrev main_v114 : Ref sig .tc := ⟨.hbm, 167, rfl⟩
abbrev main_cst_22 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_23 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_24 : Ref sig .tc := ⟨.hbm, 180, rfl⟩
abbrev main_v125 : Ref sig .tc := ⟨.hbm, 181, rfl⟩
abbrev main_cst_25 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_cst_26 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_cst_27 : Ref sig .tc := ⟨.hbm, 208, rfl⟩
abbrev main_v150 : Ref sig .tc := ⟨.hbm, 209, rfl⟩
abbrev main_v151 : Ref sig .tc := ⟨.hbm, 210, rfl⟩
abbrev main_cst_28 : Ref sig .tc := ⟨.hbm, 211, rfl⟩
abbrev main_v152 : Ref sig .tc := ⟨.hbm, 212, rfl⟩
abbrev main_v153 : Ref sig .tc := ⟨.hbm, 213, rfl⟩
abbrev main_cst_29 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_cst_30 : Ref sig .tc := ⟨.hbm, 229, rfl⟩
abbrev main_v168 : Ref sig .tc := ⟨.hbm, 230, rfl⟩
abbrev main_v169 : Ref sig .tc := ⟨.hbm, 231, rfl⟩
abbrev main_cst_31 : Ref sig .tc := ⟨.hbm, 232, rfl⟩
abbrev main_v170 : Ref sig .tc := ⟨.hbm, 233, rfl⟩
abbrev main_v171 : Ref sig .tc := ⟨.hbm, 234, rfl⟩
abbrev main_cst_32 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_cst_33 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_call4_v0 : Ref sig .tc := ⟨.hbm, 252, rfl⟩
abbrev main_call4_v1 : Ref sig .tc := ⟨.hbm, 253, rfl⟩
abbrev main_call4_cst : Ref sig .tc := ⟨.hbm, 254, rfl⟩
abbrev main_call4_v2 : Ref sig .tc := ⟨.hbm, 255, rfl⟩
abbrev main_call4_v3 : Ref sig .tc := ⟨.hbm, 256, rfl⟩
abbrev main_call4_cst_0 : Ref sig .tc := ⟨.hbm, 257, rfl⟩
abbrev main_call4_v4 : Ref sig .tc := ⟨.hbm, 258, rfl⟩
abbrev main_call4_v5 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_cst_34 : Ref sig .tc := ⟨.hbm, 267, rfl⟩
abbrev main_v194 : Ref sig .tc := ⟨.hbm, 268, rfl⟩
abbrev main_v195 : Ref sig .tc := ⟨.hbm, 269, rfl⟩
abbrev main_cst_35 : Ref sig .tc := ⟨.hbm, 270, rfl⟩
abbrev main_v196 : Ref sig .tc := ⟨.hbm, 271, rfl⟩
abbrev main_v197 : Ref sig .tc := ⟨.hbm, 272, rfl⟩
abbrev main_cst_36 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩

abbrev nD : Nat := 1
abbrev τ : Topo := Topo.v7x

variable {F : FTy → Type} [FloatOps F]
-- ==== Fourier.lean ====
abbrev S8192x1024 : Shape := ⟨2, ![8192, 1024]⟩
abbrev S16x1x6144 : Shape := ⟨3, ![16, 1, 6144]⟩
abbrev S4x1024 : Shape := ⟨2, ![4, 1024]⟩
abbrev S256x256 : Shape := ⟨2, ![256, 256]⟩
abbrev S1024x1024 : Shape := ⟨2, ![1024, 1024]⟩
abbrev S256x512 : Shape := ⟨2, ![256, 512]⟩
abbrev S512x1024 : Shape := ⟨2, ![512, 1024]⟩
abbrev S1x1x6144 : Shape := ⟨3, ![1, 1, 6144]⟩
abbrev S1x6144 : Shape := ⟨2, ![1, 6144]⟩
abbrev S1x1024 : Shape := ⟨2, ![1, 1024]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S16x1x6144, .f32⟩
  | .hbm, ⟨2, _⟩ => ⟨S4x1024, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S1024x1024, .f32⟩
  | .hbm, ⟨8, _⟩ => ⟨S256x512, .f32⟩
  | .hbm, ⟨9, _⟩ => ⟨S256x512, .bf16⟩
  | .hbm, ⟨10, _⟩ => ⟨S8192x1024, .bf16⟩
  | .hbm, ⟨11, _⟩ => ⟨S8192x1024, .bf16⟩
  | .hbm, ⟨12, _⟩ => ⟨S256x256, .bf16⟩
  | .hbm, ⟨13, _⟩ => ⟨S256x256, .bf16⟩
  | .hbm, ⟨14, _⟩ => ⟨S1024x1024, .bf16⟩
  | .hbm, ⟨15, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S4x1024, .f32⟩
  | .local _ .vmem, ⟨4, _⟩ => ⟨S256x512, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S256x256, .bf16⟩
  | .local _ .vmem, ⟨10, _⟩ => ⟨S256x256, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S1x1x6144, .f32⟩
  | .local _ .vmem, ⟨18, _⟩ => ⟨S4x1024, .f32⟩
  | .local _ .vmem, ⟨19, _⟩ => ⟨S1024x1024, .bf16⟩
  | .local _ .vmem, ⟨20, _⟩ => ⟨S256x1024, .f32⟩
  | .local _ .vmem, ⟨21, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![32, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage1_0 : Fin 1 → Memref sig .tc .vmem S256x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S1x1x6144 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S4x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== FourierRefIdeal.lean ====
abbrev S8192x1024 : Shape := ⟨2, ![8192, 1024]⟩
abbrev S16x1x6144 : Shape := ⟨3, ![16, 1, 6144]⟩
abbrev S4x1024 : Shape := ⟨2, ![4, 1024]⟩
abbrev S256x256 : Shape := ⟨2, ![256, 256]⟩
abbrev S1024x1024 : Shape := ⟨2, ![1024, 1024]⟩
abbrev S32x256x1024 : Shape := ⟨3, ![32, 256, 1024]⟩
abbrev S1x1x6144 : Shape := ⟨3, ![1, 1, 6144]⟩
abbrev S1x6144 : Shape := ⟨2, ![1, 6144]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S32x256x4x256 : Shape := ⟨4, ![32, 256, 4, 256]⟩
abbrev S32x4x256x256 : Shape := ⟨4, ![32, 4, 256, 256]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x1x6144, .f32⟩
  | .hbm, ⟨2, _⟩ => ⟨S4x1024, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S1024x1024, .f32⟩
  | .hbm, ⟨8, _⟩ => ⟨S32x256x1024, .f32⟩
  | .hbm, ⟨9, _⟩ => ⟨S1x1x6144, .f32⟩
  | .hbm, ⟨10, _⟩ => ⟨S1x6144, .f32⟩
  | .hbm, ⟨11, _⟩ => ⟨S1x1x6144, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1x1024, .f32⟩
  | .hbm, ⟨19, _⟩ => ⟨S1024, .f32⟩
  | .hbm, ⟨20, _⟩ => ⟨S32x256x1024, .f32⟩
  | .hbm, ⟨21, _⟩ => ⟨S_, .f32⟩
  | .hbm, ⟨22, _⟩ => ⟨S32x256, .f32⟩
  | .hbm, ⟨23, _⟩ => ⟨S32x256x1, .f32⟩
  | .hbm, ⟨24, _⟩ => ⟨S_, .f32⟩
  | .hbm, ⟨25, _⟩ => ⟨S32x256x1, .f32⟩
  | .hbm, ⟨26, _⟩ => ⟨S32x256x1, .f32⟩
  | .hbm, ⟨27, _⟩ => ⟨S_, .f32⟩
  | .hbm, ⟨28, _⟩ => ⟨S32x256x1, .f32⟩
  | .hbm, ⟨29, _⟩ => ⟨S32x256x1, .f32⟩
  | .hbm, ⟨30, _⟩ => ⟨S32x256x1, .f32⟩
  | .hbm, ⟨31, _⟩ => ⟨S32x256x1024, .f32⟩
  | .hbm, ⟨32, _⟩ => ⟨S32x256x1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S_, .f32⟩
  | .hbm, ⟨37, _⟩ => ⟨S1x1x1024, .f32⟩
  | .hbm, ⟨38, _⟩ => ⟨S1x1x1024, .f32⟩
  | .hbm, ⟨39, _⟩ => ⟨S32x256x1024, .f32⟩
  | .hbm, ⟨40, _⟩ => ⟨S32x256x1024, .f32⟩
  | .hbm, ⟨41, _⟩ => ⟨S32x256x1024, .f32⟩
  | .hbm, ⟨42, _⟩ => ⟨S32x256x1024, .f32⟩
  | .hbm, ⟨43, _⟩ => ⟨S32x256x4x256, .f32⟩
  | .hbm, ⟨44, _⟩ => ⟨S32x256x4x256, .f32⟩
  | .hbm, ⟨45, _⟩ => ⟨S32x256x4x256, .f32⟩
  | .hbm, ⟨46, _⟩ => ⟨S32x4x256x256, .f32⟩
  | .hbm, ⟨47, _⟩ => ⟨S32x256x4x256, .f32⟩
  | .hbm, ⟨48, _⟩ => ⟨S32x4x256x256, .f32⟩
  | .hbm, ⟨49, _⟩ => ⟨S32x256x4x256, .f32⟩
  | .hbm, ⟨50, _⟩ => ⟨S32x256x4x256, .f32⟩
  | .hbm, ⟨51, _⟩ => ⟨S32x256x1024, .f32⟩
  | .hbm, ⟨52, _⟩ => ⟨S32x256x1024, .f32⟩
  | .hbm, ⟨53, _⟩ => ⟨S1x1024, .f32⟩
  | .hbm, ⟨54, _⟩ => ⟨S1024, .f32⟩
  | .hbm, ⟨55, _⟩ => ⟨S32x256x1024, .f32⟩
  | .hbm, ⟨56, _⟩ => ⟨S_, .f32⟩
  | .hbm, ⟨57, _⟩ => ⟨S32x256, .f32⟩
  | .hbm, ⟨58, _⟩ => ⟨S32x256x1, .f32⟩
  | .hbm, ⟨59, _⟩ => ⟨S_, .f32⟩
  | .hbm, ⟨60, _⟩ => ⟨S32x256x1, .f32⟩
  | .hbm, ⟨61, _⟩ => ⟨S32x256x1, .f32⟩
  | .hbm, ⟨62, _⟩ => ⟨S_, .f32⟩
  | .hbm, ⟨63, _⟩ => ⟨S32x256x1, .f32⟩
  | .hbm, ⟨64, _⟩ => ⟨S32x256x1, .f32⟩
  | .hbm, ⟨65, _⟩ => ⟨S32x256x1, .f32⟩
  | .hbm, ⟨66, _⟩ => ⟨S32x256x1024, .f32⟩
  | .hbm, ⟨67, _⟩ => ⟨S32x256x1024, .f32⟩
  | .hbm, ⟨68, _⟩ => ⟨S1x1x1024, .f32⟩
  | .hbm, ⟨69, _⟩ => ⟨S32x256x1024, .f32⟩
  | .hbm, ⟨70, _⟩ => ⟨S32x256x1024, .f32⟩
  | .hbm, ⟨71, _⟩ => ⟨S32x256x1024, .f32⟩
  | .hbm, ⟨72, _⟩ => ⟨S32x256x1024, .f32⟩
  | .hbm, ⟨73, _⟩ => ⟨S32x256x1024, .f32⟩
  | .hbm, ⟨74, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Proof.LayerSpec.lean ====
/-
  THE LAYER'S ARITHMETIC, ROW BY ROW, over the extended reals: the root-mean-square scale of a token's 1024 channels,
  the normalised and modulated row, and the feed-forward part of the layer on one token.
-/
module

public import Idealize.ShloMosaic.Lib.Pointwise
public import Idealize.ShloMosaic.Lib.Claim

@[expose] public section

set_option maxRecDepth 16384

noncomputable section

namespace Cert.LayerSpec

open Idealize.ShloMosaic
open scoped BigOperators

/-- The root-mean-square scale of a row: `1 / sqrt (mean of squares + 1e-6)`. -/
def rowScale (x : Fin 1024 → EReal) : EReal :=
  Ideal.rsqrt (Ideal.div (∑ k, x k * x k) (Ideal.ofBits FTy.f32 0x44800000#32) + Ideal.ofBits FTy.f32 0x358637BD#32)

/-- A row normalised with gain `g`, then scaled by `1 + sc` and shifted by `sh`. -/
def normMod (x g sh sc : Fin 1024 → EReal) (k : Fin 1024) : EReal :=
  x k * rowScale x * g k * (1 + sc k) + sh k

/-- The gated activation of the feed-forward part: `silu (f · w_gate) * (f · w_up)` at hidden channel `c`. -/
def ffnAct (f : Fin 1024 → EReal) (wg wu : Fin 1024 → Fin 2816 → EReal) (c : Fin 2816) : EReal :=
  (∑ k, f k * wg k c) * (1 + Ideal.exp (-∑ k, f k * wg k c))⁻¹ * ∑ k, f k * wu k c

/-- A residual row: `x + gt * (y normalised with gain g)`. -/
def gated (x gt g y : Fin 1024 → EReal) (l : Fin 1024) : EReal :=
  x l + gt l * (y l * rowScale y * g l)

/-- The feed-forward part of the layer on one token. -/
def ffnRow (x g2 g3 sh sc gt : Fin 1024 → EReal) (wg wu : Fin 1024 → Fin 2816 → EReal)
    (wd : Fin 2816 → Fin 1024 → EReal) : Fin 1024 → EReal :=
  gated x gt g3 fun l => ∑ c, ffnAct (normMod x g2 sh sc) wg wu c * wd c l

theorem ffnRow_congr {x x' g2 g2' g3 g3' sh sh' sc sc' gt gt' : Fin 1024 → EReal} {wg wg' wu wu' : Fin 1024 → Fin 2816 → EReal}
    {wd wd' : Fin 2816 → Fin 1024 → EReal} (hx : x = x') (h2 : g2 = g2') (h3 : g3 = g3') (hsh : sh = sh') (hsc : sc = sc')
    (hgt : gt = gt') (hwg : wg = wg') (hwu : wu = wu') (hwd : wd = wd') (l : Fin 1024) :
    ffnRow x g2 g3 sh sc gt wg wu wd l = ffnRow x' g2' g3' sh' sc' gt' wg' wu' wd' l := by
  subst hx h2 h3 hsh hsc hgt hwg hwu hwd; rfl

theorem exp_nonneg (x : EReal) : 0 ≤ Ideal.exp x := by
  induction x with
  | bot => exact le_refl (0 : EReal)
  | top => exact (le_top : (0 : EReal) ≤ ⊤)
  | coe r => exact EReal.coe_nonneg.mpr (Real.exp_pos r).le

theorem one_add_exp_ne_zero (x : EReal) : 1 + Ideal.exp x ≠ 0 := by
  have h : (0 : EReal) < 1 + Ideal.exp x :=
    lt_of_lt_of_le zero_lt_one (le_add_of_nonneg_right (exp_nonneg x))
  exact h.ne'

/-- `x / (1 + e^(0 - x))`, the gate as the tile writes it. -/
theorem div_one_add_exp (x : EReal) :
    Ideal.div x (1 + Ideal.exp (0 - x)) = x * (1 + Ideal.exp (-x))⁻¹ := by
  rw [zero_sub]; exact if_neg (one_add_exp_ne_zero _)

theorem one_div_one_add_exp (x : EReal) :
    Ideal.div 1 (1 + Ideal.exp (-x)) = (1 + Ideal.exp (-x))⁻¹ := by
  rw [show Ideal.div 1 (1 + Ideal.exp (-x)) = 1 * (1 + Ideal.exp (-x))⁻¹ from if_neg (one_add_exp_ne_zero _), one_mul]

end Cert.LayerSpec

end
-- ==== Proof.FfnBlock.lean ====
/-
  THE FEED-FORWARD CALL'S TILE, ROW BY ROW: what the kernel's body stores for a row of its tile of 512 tokens is the
  layer's feed-forward part (`ffnRow`) on that row.
-/
module

public import proofs.«01_k».proof.Proof.LayerSpec
public import proofs.«01_k».proof.Proof.Gen.FfnIdeal.Value

@[expose] public section

set_option maxRecDepth 16384

noncomputable section

namespace Cert.FfnTile

open Idealize.ShloMosaic Idealize.ShloMosaic.TcCoe Idealize.SL.Sem
open Idealize.ShloMosaic.Pointwise
open Cert.FfnIdeal Cert.FfnIdeal.Gen Cert.LayerSpec

/-- Entry `o + k` of a modulation row: its six parts of 1024 channels begin at the multiples of 1024. -/
abbrev modAt (md : Vec Ideal S1x1x6144 .f32) (o : Nat) (ho : o + 1024 ≤ 6144 := by decide) (k : Fin 1024) : EReal :=
  md (ix3 0 0 ⟨o + k, by omega⟩)

theorem act_apply (x : Vec Ideal S512x1024 .f32) (md : Vec Ideal S1x1x6144 .f32) (g2 : Vec Ideal S1x1024 .f32)
    (wg wu : Vec Ideal S1024x2816 .bf16) (p : Fin 512) (c : Fin 2816) :
    k0_pay4 (F := Ideal) x md g2 wg wu (ix2 p c)
      = ffnAct (normMod (fun k => x (ix2 p k)) (fun k => g2 (ix2 0 k)) (modAt md 3072) (modAt md 4096))
          (fun k c => wg (ix2 k c)) (fun k c => wu (ix2 k c)) c := by
  pointwise [k0_pay4, k0_pay2]
  rw [div_one_add_exp]
  rfl

theorem res_apply (x : Vec Ideal S512x1024 .f32) (gt : FVec Ideal S1x1024 .f32) (a : FVec Ideal S512x2816 .bf16)
    (wd : Vec Ideal S2816x1024 .bf16) (g3 : Vec Ideal S1x1024 .f32) (p : Fin 512) (l : Fin 1024) :
    k0_pay1 (F := Ideal) x gt a wd g3 (ix2 p l)
      = gated (fun k => x (ix2 p k)) (fun k => gt (ix2 0 k)) (fun k => g3 (ix2 0 k))
          (fun l => ∑ c, a (ix2 p c) * wd (ix2 c l)) l := by
  pointwise [k0_pay1]
  rfl

theorem gt_apply (md : Vec Ideal S1x1x6144 .f32) (l : Fin 1024) :
    k0_pay3 (F := Ideal) md (ix2 0 l) = modAt md 5120 (by decide) l := by
  pointwise [k0_pay3, k0_pay2]
  try rfl

/-- The tile's row `p`: the feed-forward part of the layer on it. -/
theorem tile_apply (x : Vec Ideal S512x1024 .f32) (md : Vec Ideal S1x1x6144 .f32) (g2 g3 : Vec Ideal S1x1024 .f32)
    (wg wu : Vec Ideal S1024x2816 .bf16) (wd : Vec Ideal S2816x1024 .bf16) (p : Fin 512) (l : Fin 1024) :
    k0_pay1 (F := Ideal) x (k0_pay3 md) (k0_pay4 x md g2 wg wu) wd g3 (ix2 p l)
      = ffnRow (fun k => x (ix2 p k)) (fun k => g2 (ix2 0 k)) (fun k => g3 (ix2 0 k))
          (modAt md 3072) (modAt md 4096) (modAt md 5120)
          (fun k c => wg (ix2 k c)) (fun k c => wu (ix2 k c)) (fun c l => wd (ix2 c l)) l := by
  rw [res_apply]
  simp only [act_apply, gt_apply]
  rfl

end Cert.FfnTile

end
-- ==== Proof.FfnRef.lean ====
/-
  THE FEED-FORWARD REFERENCE, ROW BY ROW: row `r` of its result is the layer's feed-forward part on row `r` of the input.
-/
module

public import proofs.«01_k».proof.Proof.LayerSpec
public import proofs.«01_k».proof.Proof.Gen.FfnRefIdeal.Read

@[expose] public section

set_option maxRecDepth 16384

noncomputable section

namespace Cert.FfnRefRows

open Idealize.ShloMosaic Idealize.ShloMosaic.TcCoe Idealize.SL.Sem
open Idealize.ShloMosaic.Pointwise
open Cert.FfnRefIdeal Cert.FfnRefIdeal.Read Cert.LayerSpec

variable (x : Vec Ideal S8192x1024 .f32) (md : Vec Ideal S16x1x6144 .f32) (g : Vec Ideal S4x1024 .f32)
  (wg wu : Vec Ideal S1024x2816 .f32) (wd : Vec Ideal S2816x1024 .f32)

/-- Entry `o + k` of the prompt's modulation row (row 8). -/
abbrev modAt (o : Nat) (ho : o + 1024 ≤ 6144) (k : Fin 1024) : EReal :=
  md (ix3 8 0 ⟨o + k, by omega⟩)

theorem f_apply (r : Fin 8192) (k : Fin 1024) :
    val_main_v28 (F := Ideal) x md g (ix2 r k)
      = normMod (fun k => x (ix2 r k)) (fun k => g (ix2 2 k)) (modAt md 3072 (by decide)) (modAt md 4096 (by decide)) k := by
  pointwise [val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v6, val_main_v5, val_main_v4, val_main_v3, val_main_v2,
    val_main_v1, val_main_v0, val_main_cst, val_main_cst_0, val_main_cst_1, val_main_cst_2]
  rfl

theorem act_apply (r : Fin 8192) (c : Fin 2816) :
    val_main_v32 (F := Ideal) x md g wg wu (ix2 r c)
      = ffnAct (fun k => val_main_v28 (F := Ideal) x md g (ix2 r k)) (fun k c => wg (ix2 k c)) (fun k c => wu (ix2 k c)) c := by
  pointwise [val_main_v32, val_main_v31, val_main_v30, val_main_call0_v5, val_main_call0_v4, val_main_call0_v3,
    val_main_call0_v2, val_main_call0_v1, val_main_call0_v0, val_main_call0_cst, val_main_call0_cst_0, val_main_v29]
  rw [one_div_one_add_exp]
  rfl

theorem res_apply (r : Fin 8192) (l : Fin 1024) :
    val_main_v51 (F := Ideal) x md g wg wu wd (ix2 r l)
      = gated (fun k => x (ix2 r k)) (modAt md 5120 (by decide)) (fun k => g (ix2 3 k))
          (fun l => ∑ c, val_main_v32 (F := Ideal) x md g wg wu (ix2 r c) * wd (ix2 c l)) l := by
  pointwise [val_main_v51, val_main_v50, val_main_v49, val_main_v48, val_main_v47, val_main_v46, val_main_v45, val_main_v44,
    val_main_v43, val_main_v42, val_main_v41, val_main_v40, val_main_v39, val_main_v38, val_main_v37, val_main_v36,
    val_main_v35, val_main_v34, val_main_v33, val_main_v7, val_main_v1, val_main_v0, val_main_cst_3, val_main_cst_4,
    val_main_cst_5]
  rfl

/-- Row `r` of the reference's result. -/
theorem row_apply (r : Fin 8192) (l : Fin 1024) :
    val_main_v51 (F := Ideal) x md g wg wu wd (ix2 r l)
      = ffnRow (fun k => x (ix2 r k)) (fun k => g (ix2 2 k)) (fun k => g (ix2 3 k))
          (modAt md 3072 (by decide)) (modAt md 4096 (by decide)) (modAt md 5120 (by decide))
          (fun k c => wg (ix2 k c)) (fun k c => wu (ix2 k c)) (fun c l => wd (ix2 c l)) l := by
  rw [res_apply]
  simp only [act_apply, f_apply]
  rfl

end Cert.FfnRefRows

end
-- ==== Proof.FfnValue.lean ====
/-
  THE FEED-FORWARD CALL'S RESULT: the kernel leaves, in row `r` of its result, the layer's feed-forward part on row `r`
  of the input, which is what the reference leaves there.
-/
module

public import proofs.«01_k».proof.Defs
public import proofs.«01_k».proof.Proof.FfnBlock
public import proofs.«01_k».proof.Proof.FfnRef
public import Idealize.ShloMosaic.Lib.Pipeline.Value
public import Idealize.ShloMosaic.Lib.Quiescent

@[expose] public section

set_option maxRecDepth 16384

noncomputable section

namespace Cert.FfnValue

open Idealize.ShloMosaic Idealize.ShloMosaic.TcCoe Idealize.SL.Sem
open Idealize.ShloMosaic.Pointwise
open Idealize.ShloMosaic.Pipeline (Dat)
open Cert.FfnIdeal Cert.FfnIdeal.Gen Cert.LayerSpec

variable (m : (ℓ : Loc nD τ sig) → Buf (Elt Ideal) ℓ) (ρ : Dev nD → PrngReg)

/-- The arguments, as launched. -/
abbrev aX (c : Dev nD) : Vec Ideal S8192x1024 .f32 := m ((c : Thread nD τ).loc main_arg0)
abbrev aMod (c : Dev nD) : Vec Ideal S16x1x6144 .f32 := m ((c : Thread nD τ).loc main_arg1)
abbrev aG (c : Dev nD) : Vec Ideal S4x1024 .f32 := m ((c : Thread nD τ).loc main_arg2)
abbrev aGate (c : Dev nD) : Vec Ideal S1024x2816 .f32 := m ((c : Thread nD τ).loc main_arg3)
abbrev aUp (c : Dev nD) : Vec Ideal S1024x2816 .f32 := m ((c : Thread nD τ).loc main_arg4)
abbrev aDown (c : Dev nD) : Vec Ideal S2816x1024 .f32 := m ((c : Thread nD τ).loc main_arg5)

/-- What the result array is shown to hold: the layer's feed-forward part on every row. -/
def out (c : Dev nD) : Vec Ideal S8192x1024 .f32 := fun i =>
  ffnRow (fun k => aX m c (ix2 (i 0) k)) (fun k => aG m c (ix2 2 k)) (fun k => aG m c (ix2 3 k))
    (FfnRefRows.modAt (aMod m c) 3072 (by decide)) (FfnRefRows.modAt (aMod m c) 4096 (by decide))
    (FfnRefRows.modAt (aMod m c) 5120 (by decide))
    (fun k h => aGate m c (ix2 k h)) (fun k h => aUp m c (ix2 k h)) (fun h l => aDown m c (ix2 h l)) (i 1)

/-- The weights reach the kernel converted to the narrow format, which changes nothing over the extended reals. -/
theorem V_gate (c : Dev nD) : V m c main_v0 = aGate m c := by
  show StableHlo.after hostOps0 (fun b => m (c, b)) main_v0 = _
  simp only [hostOps0]
  after_results_simp
  rfl

theorem V_up (c : Dev nD) : V m c main_v1 = aUp m c := by
  show StableHlo.after hostOps0 (fun b => m (c, b)) main_v1 = _
  simp only [hostOps0]
  after_results_simp
  rfl

theorem V_down (c : Dev nD) : V m c main_v2 = aDown m c := by
  show StableHlo.after hostOps0 (fun b => m (c, b)) main_v2 = _
  simp only [hostOps0]
  after_results_simp
  rfl

/-- Row `p` of tile `t`. -/
abbrev row (t : Fin cfg0.N) (p : Fin 512) : Fin 8192 :=
  ⟨t.val * 512 + p.val, by have : t.val < 16 := t.isLt; omega⟩

theorem idx0 : ∀ t : Fin cfg0.N, (win0_0.index t 0 = t.val ∧ win0_0.index t 1 = 0)
    ∧ (win0_6.index t 0 = t.val ∧ win0_6.index t 1 = 0) :=
  (by decide +kernel : ∀ t : Fin grid0.N, (win0_0.index t 0 = t.val ∧ win0_0.index t 1 = 0)
    ∧ (win0_6.index t 0 = t.val ∧ win0_6.index t 1 = 0))

theorem idx1 : ∀ t : Fin cfg0.N, win0_1.index t 0 = 8 ∧ win0_1.index t 1 = 0 ∧ win0_1.index t 2 = 0 :=
  (by decide +kernel : ∀ t : Fin grid0.N, win0_1.index t 0 = 8 ∧ win0_1.index t 1 = 0 ∧ win0_1.index t 2 = 0)

theorem idxW : ∀ t : Fin cfg0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) :=
  (by decide +kernel : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0))

theorem x_blk (c : Dev nD) (t : Fin cfg0.N) (p : Fin 512) (k : Fin 1024) :
    iblk m c 0 t (ix2 p k) = aX m c (ix2 (row t p) k) := by
  rw [aX, ← V_main_arg0 m c]
  refine congrArg (V m c main_arg0) (funext fun a => Fin.ext ?_)
  match a with
  | ⟨0, _⟩ => show win0_0.index t 0 * 512 + 1 * p.val = t.val * 512 + p.val; rw [(idx0 t).1.1]; omega
  | ⟨1, _⟩ => show win0_0.index t 1 * 1024 + 1 * k.val = k.val; rw [(idx0 t).1.2]; omega

theorem mod_blk (c : Dev nD) (t : Fin cfg0.N) (n : Fin 6144) :
    iblk m c 1 t (ix3 0 0 n) = aMod m c (ix3 8 0 n) := by
  rw [aMod, ← V_main_arg1 m c]
  refine congrArg (V m c main_arg1) (funext fun a => Fin.ext ?_)
  match a with
  | ⟨0, _⟩ => show win0_1.index t 0 * 1 + 1 * 0 = 8; rw [(idx1 t).1]
  | ⟨1, _⟩ => show win0_1.index t 1 * 1 + 1 * 0 = 0; rw [(idx1 t).2.1]
  | ⟨2, _⟩ => show win0_1.index t 2 * 6144 + 1 * n.val = n.val; rw [(idx1 t).2.2]; omega

theorem g_blk (c : Dev nD) (t : Fin cfg0.N) (a : Fin 4) (k : Fin 1024) :
    iblk m c 2 t (ix2 a k) = aG m c (ix2 a k) := by
  rw [aG, ← V_main_arg2 m c]
  refine congrArg (V m c main_arg2) (funext fun b => Fin.ext ?_)
  match b with
  | ⟨0, _⟩ => show win0_2.index t 0 * 4 + 1 * a.val = a.val; rw [(idxW t).1.1]; omega
  | ⟨1, _⟩ => show win0_2.index t 1 * 1024 + 1 * k.val = k.val; rw [(idxW t).1.2]; omega

theorem gate_blk (c : Dev nD) (t : Fin cfg0.N) (a : Fin 1024) (k : Fin 2816) :
    iblk m c 3 t (ix2 a k) = aGate m c (ix2 a k) := by
  rw [← V_gate]
  refine congrArg (V m c main_v0) (funext fun b => Fin.ext ?_)
  match b with
  | ⟨0, _⟩ => show win0_3.index t 0 * 1024 + 1 * a.val = a.val; rw [(idxW t).2.1.1]; omega
  | ⟨1, _⟩ => show win0_3.index t 1 * 2816 + 1 * k.val = k.val; rw [(idxW t).2.1.2]; omega

theorem up_blk (c : Dev nD) (t : Fin cfg0.N) (a : Fin 1024) (k : Fin 2816) :
    iblk m c 4 t (ix2 a k) = aUp m c (ix2 a k) := by
  rw [← V_up]
  refine congrArg (V m c main_v1) (funext fun b => Fin.ext ?_)
  match b with
  | ⟨0, _⟩ => show win0_4.index t 0 * 1024 + 1 * a.val = a.val; rw [(idxW t).2.2.1.1]; omega
  | ⟨1, _⟩ => show win0_4.index t 1 * 2816 + 1 * k.val = k.val; rw [(idxW t).2.2.1.2]; omega

theorem down_blk (c : Dev nD) (t : Fin cfg0.N) (a : Fin 2816) (k : Fin 1024) :
    iblk m c 5 t (ix2 a k) = aDown m c (ix2 a k) := by
  rw [← V_down]
  refine congrArg (V m c main_v2) (funext fun b => Fin.ext ?_)
  match b with
  | ⟨0, _⟩ => show win0_5.index t 0 * 2816 + 1 * a.val = a.val; rw [(idxW t).2.2.2.1]; omega
  | ⟨1, _⟩ => show win0_5.index t 1 * 1024 + 1 * k.val = k.val; rw [(idxW t).2.2.2.2]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- A row of the gains, loaded by itself. -/
theorem ld_g2 (x : Vec Ideal S4x1024 .f32) (k : Fin 1024) : View.ld x r0_2 (ix2 0 k) = x (ix2 2 k) := by
  refine congrArg x (funext fun a => Fin.ext ?_)
  match a with
  | ⟨0, _⟩ => rfl
  | ⟨1, _⟩ => show 0 + 1 * k.val = k.val; omega

theorem ld_g3 (x : Vec Ideal S4x1024 .f32) (k : Fin 1024) : View.ld x r0_5 (ix2 0 k) = x (ix2 3 k) := by
  refine congrArg x (funext fun a => Fin.ext ?_)
  match a with
  | ⟨0, _⟩ => rfl
  | ⟨1, _⟩ => show 0 + 1 * k.val = k.val; omega

/-- What point `t` writes back is block `t` of `out`. -/
theorem flushed_eq (c : Dev nD) (t : Fin cfg0.N) :
    (dats m 0 c).flushed 6 t = ((cfg0.win 6).blk t).view.read (Elt Ideal) (out m c) := by
  rw [Cert.FfnIdeal.Value.flushed6]
  unfold out0_6
  rw [View.canon_unit_zero hz2, View.ld_unit_zero hz2, View.ld_unit_zero hz3, View.ld_unit_zero hz2, View.ld_unit_zero hz2,
    View.ld_unit_zero hz2]
  funext j
  obtain ⟨p, l, rfl⟩ : ∃ (p : Fin 512) (l : Fin 1024), j = ix2 p l := ⟨j 0, j 1, eq_ix2 j⟩
  refine (FfnTile.tile_apply _ _ _ _ _ _ _ p l).trans ?_
  have hj : ((cfg0.win 6).blk t).view.read (Elt Ideal) (out m c) (ix2 p l) = out m c (ix2 (row t p) l) := by
    refine congrArg (out m c) (funext fun a => Fin.ext ?_)
    match a with
    | ⟨0, _⟩ => show win0_6.index t 0 * 512 + 1 * p.val = t.val * 512 + p.val; rw [(idx0 t).2.1]; omega
    | ⟨1, _⟩ => show win0_6.index t 1 * 1024 + 1 * l.val = l.val; rw [(idx0 t).2.2]; omega
  rw [hj]
  exact ffnRow_congr (funext fun k => x_blk m c t p k) (funext fun k => (ld_g2 _ k).trans (g_blk m c t 2 k))
    (funext fun k => (ld_g3 _ k).trans (g_blk m c t 3 k)) (funext fun k => mod_blk m c t _) (funext fun k => mod_blk m c t _)
    (funext fun k => mod_blk m c t _) (funext fun k => funext fun h => gate_blk m c t k h)
    (funext fun k => funext fun h => up_blk m c t k h) (funext fun k => funext fun h => down_blk m c t k h) l

/-- An index of the result is in point `t`'s block when its row is one of the tile's 512. -/
theorem mem_blk (t : Fin cfg0.N) (i : S8192x1024.Idx) :
    i ∈ ((cfg0.win 6).blk t).view.set ↔ t.val * 512 ≤ (i 0 : Nat) ∧ (i 0 : Nat) < t.val * 512 + 512 := by
  show i ∈ ((View.whole main_v3).slice (win0_6.rect t)).set ↔ _
  rw [View.set_slice_whole, Rect.mem_set_unit]
  have h1 : (i 1 : Nat) < 1024 := (i 1).isLt
  refine ⟨fun h => ?_, fun h a => ?_⟩
  · have : win0_6.index t 0 * 512 ≤ (i 0 : Nat) ∧ (i 0 : Nat) < win0_6.index t 0 * 512 + 512 := h 0
    rw [(idx0 t).2.1] at this; exact this
  · match a with
    | ⟨0, _⟩ => show win0_6.index t 0 * 512 ≤ (i 0 : Nat) ∧ (i 0 : Nat) < win0_6.index t 0 * 512 + 512
                rw [(idx0 t).2.1]; exact h
    | ⟨1, _⟩ => show win0_6.index t 1 * 1024 ≤ (i 1 : Nat) ∧ (i 1 : Nat) < win0_6.index t 1 * 1024 + 1024
                rw [(idx0 t).2.2]
                exact ⟨Nat.zero_le _, h1⟩

theorem cover (i : S8192x1024.Idx) :
    ∃ t : Fin cfg0.N, (cfg0.win 6).flush t = true ∧ i ∈ ((cfg0.win 6).blk t).view.set := by
  have h0 : (i 0 : Nat) < 8192 := (i 0).isLt
  have hN : cfg0.N = 16 := N_0
  refine ⟨⟨(i 0 : Nat) / 512, by omega⟩, flush0_6 _, ?_⟩
  rw [mem_blk]
  dsimp only
  omega

theorem final (c : Dev nD) : (dats m 0 c).arrAt 6 cfg0.N = out m c :=
  (dats m 0 c).arrAt_eq_of_cover 6 (out m c) (fun t _ => flushed_eq m c t) cover

theorem frame_ref : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

/-- Over the extended reals the kernel and the reference leave the same array. -/
theorem algebraic : Cert.algebraic_FfnIdeal_FfnRefIdeal := by
  intro m ρ m' ρ' _ hagree
  refine ⟨fun c => out m c, ?_, ?_⟩
  · exact (θ_run Cert.FfnIdeal.defs _ _).mono (fun _ h c => ⟨(h c).1.trans (final m c), (h c).2⟩)
      (Cert.FfnIdeal.Value.run_blocks (F := Ideal) m ρ)
  refine (θ_run Cert.FfnRefIdeal.defs _ _).mono (fun _ h c => ⟨(h c).1.trans ?_, (h c).2⟩)
    (Cert.FfnRefIdeal.Value.run (F := Ideal) m' ρ')
  rw [Cert.FfnRefIdeal.Read.val_main_v51_eq, (hagree c).1, (hagree c).2.1, (hagree c).2.2.1, (hagree c).2.2.2.1,
    (hagree c).2.2.2.2.1, (hagree c).2.2.2.2.2]
  funext i
  obtain ⟨r, l, rfl⟩ : ∃ (r : Fin 8192) (l : Fin 1024), i = ix2 r l := ⟨i 0, i 1, eq_ix2 i⟩
  exact FfnRefRows.row_apply _ _ _ _ _ _ r l

end Cert.FfnValue

end
-- ==== Proof.AttnSpec.lean ====
/-
  THE PROMPT'S ATTENTION, over the extended reals: queries, keys and values of a token, the scores of a head against the
  256 tokens of the sequence, their softmax, and the values mixed by it.
-/
module

public import proofs.«01_k».proof.Proof.LayerSpec

@[expose] public section

set_option maxRecDepth 16384

noncomputable section

namespace Cert.AttnSpec

open Idealize.ShloMosaic
open Cert.LayerSpec
open scoped BigOperators

/-- Channel `d` of head `h`. -/
abbrev col (h : Fin 16) (d : Fin 64) : Fin 1024 := ⟨h.val * 64 + d.val, by omega⟩

/-- The head of a channel. -/
abbrev headOf (n : Fin 1024) : Fin 16 := ⟨n.val / 64, by omega⟩

/-- A token's row times a matrix. -/
def proj {k n : Nat} (f : Fin k → EReal) (w : Fin k → Fin n → EReal) (j : Fin n) : EReal := ∑ i, f i * w i j

/-- The score of query `p` against key `k` in head `h`: the scalar product, over the square root of the head's width. -/
def score (Q K : Fin 256 → Fin 1024 → EReal) (h : Fin 16) (p k : Fin 256) : EReal :=
  (∑ d, Q p (col h d) * K k (col h d)) * Ideal.ofBits FTy.f32 0x3E000000#32

/-- The largest of a row of scores. -/
def rowMax {n : Nat} (s : Fin n → EReal) : EReal := Finset.univ.fold max (Ideal.ofBits FTy.f32 0xFF800000#32) s

/-- The softmax of a row of scores. -/
def softmax {n : Nat} (s : Fin n → EReal) (k : Fin n) : EReal :=
  Ideal.div (Ideal.exp (s k - rowMax s)) (∑ k, Ideal.exp (s k - rowMax s))

/-- The values mixed by the softmax of the scores, at token `p` and channel `n`. -/
def att (Q K V : Fin 256 → Fin 1024 → EReal) (p : Fin 256) (n : Fin 1024) : EReal :=
  ∑ k, V k n * softmax (score Q K (headOf n) p) k

/-- A row of values mixed by unnormalised weights, divided by the weights' sum. -/
def mixQuot {n : Nat} (s v : Fin n → EReal) : EReal :=
  Ideal.div (∑ k, Ideal.exp (s k - rowMax s) * v k) (∑ k, Ideal.exp (s k - rowMax s))

/-- The three column ranges of the joint projection. -/
abbrev qCol (n : Fin 1024) : Fin 3072 := ⟨n.val, by omega⟩
abbrev kCol (n : Fin 1024) : Fin 3072 := ⟨1024 + n.val, by omega⟩
abbrev vCol (n : Fin 1024) : Fin 3072 := ⟨2048 + n.val, by omega⟩

/-- Queries, keys or values (by the column range) of the tokens of a sequence. -/
def part (X : Fin 256 → Fin 1024 → EReal) (g sh sc : Fin 1024 → EReal) (w : Fin 1024 → Fin 3072 → EReal)
    (cols : Fin 1024 → Fin 3072) (p : Fin 256) (n : Fin 1024) : EReal :=
  proj (normMod (X p) g sh sc) w (cols n)

/-- The attention part of the layer on token `p` of a sequence. -/
def attnRow (X : Fin 256 → Fin 1024 → EReal) (g g1 sh sc gt : Fin 1024 → EReal) (w : Fin 1024 → Fin 3072 → EReal)
    (wo : Fin 1024 → Fin 1024 → EReal) (p : Fin 256) : Fin 1024 → EReal :=
  gated (X p) gt g1 (proj (att (part X g sh sc w qCol) (part X g sh sc w kCol) (part X g sh sc w vCol) p) wo)

/-! ### Finite values -/

/-- An extended real that is a real number. -/
def IsReal (x : EReal) : Prop := ∃ r : ℝ, x = r

theorem isReal_of_abs_lt {x : EReal} (h : max x (-x) < ⊤) : IsReal x := by
  induction x with
  | bot => exact absurd h (by simp)
  | top => exact absurd h (by simp)
  | coe r => exact ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

theorem isReal_one : IsReal 1 := ⟨1, by simp⟩

theorem eighth_eq : Ideal.ofBits FTy.f32 0x3E000000#32 = ((1 / 8 : ℝ) : EReal) := by
  simp [Ideal.ofBits, Ideal.ieee]; rw [← EReal.coe_mul]; norm_num

theorem isReal_eighth : IsReal (Ideal.ofBits FTy.f32 0x3E000000#32) := ⟨_, eighth_eq⟩

theorem eighth_nonneg : 0 ≤ Ideal.ofBits FTy.f32 0x3E000000#32 := by
  rw [eighth_eq]; exact EReal.coe_nonneg.mpr (by norm_num)

theorem eps_pos : ∃ e : ℝ, 0 < e ∧ Ideal.ofBits FTy.f32 0x358637BD#32 = e := by
  refine ⟨8796093 * ((2 : ℝ) ^ 43)⁻¹, by norm_num, ?_⟩
  simp [Ideal.ofBits, Ideal.ieee]

theorem width_eq : Ideal.ofBits FTy.f32 0x44800000#32 = ((1024 : ℝ) : EReal) := by
  simp [Ideal.ofBits, Ideal.ieee]; rw [← EReal.coe_mul]; norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale of a row of real numbers is a real number: the mean of the squares is at least zero, and the added
    constant positive. -/
theorem isReal_rowScale {x : Fin 1024 → EReal} (h : ∀ k, IsReal (x k)) : IsReal (rowScale x) := by
  choose r hr using h
  obtain ⟨e, he, hE⟩ := eps_pos
  have hs : ∑ k, x k * x k = ((∑ k, r k * r k : ℝ) : EReal) := by
    rw [coe_sum]
    exact Finset.sum_congr rfl fun k _ => by rw [hr k, EReal.coe_mul]
  have hp : 0 < (∑ k, r k * r k) * (1024 : ℝ)⁻¹ + e :=
    add_pos_of_nonneg_of_pos (mul_nonneg (Finset.sum_nonneg fun k _ => mul_self_nonneg _) (by norm_num)) he
  have hd : Ideal.div (∑ k, x k * x k) (Ideal.ofBits FTy.f32 0x44800000#32)
      = (((∑ k, r k * r k) * (1024 : ℝ)⁻¹ : ℝ) : EReal) := by
    rw [hs, width_eq, Ideal.div, if_neg (by norm_num), ← EReal.coe_inv, ← EReal.coe_mul]
  unfold rowScale
  rw [hd, hE, ← EReal.coe_add]
  refine ⟨(Real.sqrt ((∑ k, r k * r k) * (1024 : ℝ)⁻¹ + e))⁻¹, ?_⟩
  rw [Ideal.rsqrt_coe, if_neg (not_lt.mpr hp.le), if_neg hp.ne']

theorem isReal_normMod {x g sh sc : Fin 1024 → EReal} (hx : ∀ k, IsReal (x k)) (hg : ∀ k, IsReal (g k))
    (hsh : ∀ k, IsReal (sh k)) (hsc : ∀ k, IsReal (sc k)) (k : Fin 1024) : IsReal (normMod x g sh sc k) :=
  ((((hx k).mul (isReal_rowScale hx)).mul (hg k)).mul (isReal_one.add (hsc k))).add (hsh k)

theorem isReal_proj {k n : Nat} {f : Fin k → EReal} {w : Fin k → Fin n → EReal} (hf : ∀ i, IsReal (f i))
    (hw : ∀ i j, IsReal (w i j)) (j : Fin n) : IsReal (proj f w j) :=
  IsReal.sum _ fun i => (hf i).mul (hw i j)

theorem isReal_score {Q K : Fin 256 → Fin 1024 → EReal} (hQ : ∀ p n, IsReal (Q p n)) (hK : ∀ p n, IsReal (K p n))
    (h : Fin 16) (p k : Fin 256) : IsReal (score Q K h p k) :=
  (IsReal.sum _ fun d => (hQ p _).mul (hK k _)).mul isReal_eighth

/-! ### The two forms of the softmax -/

theorem sum_mul_const {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

theorem exp_ne_zero {x : EReal} (h : x ≠ ⊥) : Ideal.exp x ≠ 0 := by
  induction x with
  | bot => exact absurd rfl h
  | top => exact EReal.top_ne_zero
  | coe r => exact fun h => (Real.exp_pos r).ne' (EReal.coe_eq_zero.mp h)

/-- The weights of a row of real scores do not sum to zero. -/
theorem sum_exp_ne_zero {n : Nat} {s : Fin (n + 1) → EReal} (h : ∀ k, IsReal (s k)) :
    ∑ k, Ideal.exp (s k - rowMax s) ≠ 0 := by
  have hM : rowMax s < ⊤ := by
    refine (Finset.fold_max_lt _).mpr ⟨?_, fun k _ => ?_⟩
    · simp [Ideal.ofBits, Ideal.ieee]
    · obtain ⟨r, hr⟩ := h k; rw [hr]; exact EReal.coe_lt_top r
  have h0 : Ideal.exp (s 0 - rowMax s) ≠ 0 := by
    refine exp_ne_zero fun hb => ?_
    obtain ⟨r, hr⟩ := h 0
    rw [hr] at hb
    generalize rowMax s = M at hM hb
    induction M with
    | bot => exact absurd hb (by simp)
    | top => exact absurd hM (lt_irrefl _)
    | coe t => exact absurd hb (by rw [← EReal.coe_sub]; exact EReal.coe_ne_bot _)
  intro hz
  exact h0 ((Finset.sum_eq_zero_iff_of_nonneg fun k _ => exp_nonneg _).mp hz 0 (Finset.mem_univ _))

theorem inv_nonneg_ne_top {D : EReal} (h0 : 0 ≤ D) : 0 ≤ D⁻¹ ∧ D⁻¹ ≠ ⊤ := by
  refine ⟨EReal.inv_nonneg_of_nonneg h0, ?_⟩
  induction D with
  | bot => simp
  | top => simp
  | coe r => rw [← EReal.coe_inv]; exact EReal.coe_ne_top _

/-- On real scores, dividing the mixed values by the sum of the weights is mixing by the softmax. -/
theorem mixQuot_eq {n : Nat} {s : Fin (n + 1) → EReal} (v : Fin (n + 1) → EReal) (h : ∀ k, IsReal (s k)) :
    mixQuot s v = ∑ k, v k * softmax s k := by
  have hD := sum_exp_ne_zero h
  obtain ⟨hi, ht⟩ := inv_nonneg_ne_top (Finset.sum_nonneg fun k (_ : k ∈ Finset.univ) => exp_nonneg (s k - rowMax s))
  rw [mixQuot, Ideal.div, if_neg hD, sum_mul_const _ _ hi ht]
  refine Finset.sum_congr rfl fun k _ => ?_
  rw [softmax, Ideal.div, if_neg hD, mul_comm (Ideal.exp _) (v k), mul_assoc]

/-- Scaling the queries scales the scores. -/
theorem score_scaled (Q K : Fin 256 → Fin 1024 → EReal) (h : Fin 16) (p k : Fin 256) :
    ∑ d, Q p (col h d) * Ideal.ofBits FTy.f32 0x3E000000#32 * K k (col h d) = score Q K h p k := by
  obtain ⟨r, hr⟩ := isReal_eighth
  rw [score, sum_mul_const _ _ eighth_nonneg (by rw [hr]; exact EReal.coe_ne_top r)]
  exact Finset.sum_congr rfl fun d _ => by rw [mul_right_comm]

/-- The quotient form with scaled queries is the attention, on real queries and keys. -/
theorem mixQuot_att {Q K V : Fin 256 → Fin 1024 → EReal} (hQ : ∀ p n, IsReal (Q p n)) (hK : ∀ p n, IsReal (K p n))
    (p : Fin 256) (n : Fin 1024) :
    mixQuot (fun k => ∑ d, Q p (col (headOf n) d) * Ideal.ofBits FTy.f32 0x3E000000#32 * K k (col (headOf n) d))
      (fun k => V k n) = att Q K V p n := by
  rw [show (fun k => ∑ d, Q p (col (headOf n) d) * Ideal.ofBits FTy.f32 0x3E000000#32 * K k (col (headOf n) d))
    = score Q K (headOf n) p from funext fun k => score_scaled Q K _ p k]
  exact mixQuot_eq _ (isReal_score hQ hK _ p)

end Cert.AttnSpec

end
-- ==== Proof.AttnBlock.lean ====
/-
  THE ATTENTION CALL'S TILE: the queries, keys and values of its 512 tokens (two sequences of 256), what it leaves for a
  pair of heads, and its residual rows.
-/
module

public import proofs.«01_k».proof.Proof.AttnSpec
public import proofs.«01_k».proof.Proof.Gen.AttnIdeal.Value

@[expose] public section

set_option maxRecDepth 16384

noncomputable section

namespace Cert.AttnTile

open Idealize.ShloMosaic Idealize.ShloMosaic.TcCoe Idealize.SL.Sem
open Idealize.ShloMosaic.Pointwise
open Cert.AttnIdeal Cert.AttnIdeal.Gen Cert.LayerSpec Cert.AttnSpec

/-- Entry `o + k` of a modulation row. -/
abbrev modAt (md : Vec Ideal S1x1x6144 .f32) (o : Nat) (ho : o + 1024 ≤ 6144) (k : Fin 1024) : EReal :=
  md (ix3 0 0 ⟨o + k, by omega⟩)

abbrev shift (md : Vec Ideal S1x1x6144 .f32) (k : Fin 1024) : EReal := md (ix3 0 0 ⟨k.val, by omega⟩)

section Projection

variable (x : Vec Ideal S512x1024 .f32) (md : Vec Ideal S1x1x6144 .f32) (g : Vec Ideal S1x1024 .f32) (w : Vec Ideal S1024x3072 .bf16)

/-- Row `p` of the joint projection, at column `n`. -/
def qkv (p : Fin 512) (n : Fin 3072) : EReal :=
  proj (normMod (fun k => x (ix2 p k)) (fun k => g (ix2 0 k)) (shift md) (modAt md 1024 (by decide))) (fun k n => w (ix2 k n)) n

theorem qkv_apply (p : Fin 512) (n : Fin 3072) : k0_pay5 (F := Ideal) x md g w (ix2 p n) = qkv x md g w p n := by
  pointwise [k0_pay5, k0_pay3]
  rfl

theorem q_apply (p : Fin 512) (n : Fin 1024) :
    k0_pay9 (F := Ideal) (k0_pay8 x md g w) (ix2 p n) = qkv x md g w p (qCol n) * Ideal.ofBits FTy.f32 0x3E000000#32 := by
  rw [← qkv_apply]; pointwise [k0_pay9, k0_pay8]

theorem k_apply (p : Fin 512) (n : Fin 1024) :
    k0_pay6 (F := Ideal) x md g w (ix2 p n) = qkv x md g w p (kCol n) := by
  rw [← qkv_apply]; pointwise [k0_pay6]

theorem v_apply (p : Fin 512) (n : Fin 1024) :
    k0_pay7 (F := Ideal) x md g w (ix2 p n) = qkv x md g w p (vCol n) := by
  rw [← qkv_apply]; pointwise [k0_pay7]

theorem k16_apply (p : Fin 512) (n : Fin 1024) :
    k0_pay10 (F := Ideal) (k0_pay6 x md g w) (ix2 p n) = qkv x md g w p (kCol n) := by
  rw [← k_apply]; pointwise [k0_pay10]

theorem v16_apply (p : Fin 512) (n : Fin 1024) :
    k0_pay11 (F := Ideal) (k0_pay7 x md g w) (ix2 p n) = qkv x md g w p (vCol n) := by
  rw [← v_apply]; pointwise [k0_pay11]

end Projection

theorem res_apply (x : Vec Ideal S512x1024 .f32) (md : Vec Ideal S1x1x6144 .f32) (a : Vec Ideal S512x1024 .bf16)
    (wo : Vec Ideal S1024x1024 .bf16) (g1 : Vec Ideal S1x1024 .f32) (p : Fin 512) (l : Fin 1024) :
    k0_pay2 (F := Ideal) x (k0_pay4 md) a wo g1 (ix2 p l)
      = gated (fun k => x (ix2 p k)) (modAt md 2048 (by decide)) (fun k => g1 (ix2 0 k))
          (proj (fun n => a (ix2 p n)) (fun n l => wo (ix2 n l))) l := by
  pointwise [k0_pay2, k0_pay4, k0_pay3]
  rfl

/-! ### A pair of heads -/

/-- The lane mask is set on the pair's first head. -/
theorem mask_eq : ∀ l : Fin 128, IntOp.cmpi CmpIPredicate.slt (BitVec.ofNat 32 l.val) 64#32 = if l.val < 64 then 1#1 else 0#1 := by
  decide

/-- Channel `d` of the pair's head `a`. -/
abbrev lane (a : Fin 2) (d : Fin 64) : Fin 128 := ⟨a.val * 64 + d.val, by omega⟩

theorem sum_lo (f : Fin 128 → EReal) :
    ∑ c : Fin 128, Scalar.select (IntOp.cmpi CmpIPredicate.slt (BitVec.ofNat 32 c.val) 64#32) (f c) 0 = ∑ d, f (lane 0 d) := by
  refine (Fin.sum_univ_add (a := 64) (b := 64) _).trans ?_
  rw [Finset.sum_eq_zero (s := Finset.univ) (f := fun i : Fin 64 => Scalar.select _ (f (Fin.natAdd 64 i)) (0 : EReal)), add_zero]
  · refine Finset.sum_congr rfl fun d _ => ?_
    rw [mask_eq, if_pos (show (Fin.castAdd 64 d).val < 64 from d.isLt)]
    exact congrArg f (Fin.ext (show d.val = 0 * 64 + d.val by omega))
  · intro d _
    rw [mask_eq, if_neg (show ¬ (Fin.natAdd 64 d).val < 64 by show ¬ (64 + d.val < 64); omega)]
    rfl

theorem sum_hi (f : Fin 128 → EReal) :
    ∑ c : Fin 128, Scalar.select (IntOp.cmpi CmpIPredicate.slt (BitVec.ofNat 32 c.val) 64#32) 0 (f c) = ∑ d, f (lane 1 d) := by
  refine (Fin.sum_univ_add (a := 64) (b := 64) _).trans ?_
  rw [Finset.sum_eq_zero (s := Finset.univ) (f := fun i : Fin 64 => Scalar.select _ (0 : EReal) (f (Fin.castAdd 64 i))), zero_add]
  · refine Finset.sum_congr rfl fun d _ => ?_
    rw [mask_eq, if_neg (show ¬ (Fin.natAdd 64 d).val < 64 by show ¬ (64 + d.val < 64); omega)]
    exact congrArg f (Fin.ext (show 64 + d.val = 1 * 64 + d.val by omega))
  · intro d _
    rw [mask_eq, if_pos (show (Fin.castAdd 64 d).val < 64 from d.isLt)]
    rfl

/-- The head, of the two, of a lane. -/
abbrev half (l : Fin 128) : Fin 2 := ⟨l.val / 64, by omega⟩

/-- What a pair of heads leaves at token `p` and lane `l`. -/
def pair (q k v : Vec Ideal S256x128 .bf16) (p : Fin 256) (l : Fin 128) : EReal :=
  mixQuot (fun j => ∑ d, q (ix2 p (lane (half l) d)) * k (ix2 j (lane (half l) d))) fun j => v (ix2 j l)

theorem pair_apply (q k v : Vec Ideal S256x128 .bf16) (p : Fin 256) (l : Fin 128) :
    k0_pay15 (F := Ideal) k0_pay12 q k v (ix2 p l) = pair q k v p l := by
  pointwise [k0_pay15, k0_pay12]
  simp only [sum_lo (fun c => q (ix2 p c) * k (ix2 _ c)), sum_hi (fun c => q (ix2 p c) * k (ix2 _ c))]
  rw [mask_eq]
  by_cases h : l.val < 64
  · rw [if_pos h, pair, show half l = 0 from Fin.ext (Nat.div_eq_of_lt h)]
    rfl
  · rw [if_neg h, pair, show half l = 1 from Fin.ext (show l.val / 64 = 1 by omega)]
    rfl

end Cert.AttnTile

end
-- ==== Proof.AttnTile.lean ====
/-
  THE ATTENTION CALL'S TILE, WHOLE: the sixteen pairs of heads its body stores one after the other (eight for each of the
  tile's two sequences) are one array, and its residual rows are the attention part of the layer.
-/
module

public import proofs.«01_k».proof.Proof.AttnBlock
public import Idealize.ShloMosaic.Lib.Pipeline.Value
public import Idealize.ShloMosaic.Lib.Pipeline.ReadBack

@[expose] public section

set_option maxRecDepth 16384

noncomputable section

namespace Cert.AttnTile

open Idealize.ShloMosaic Idealize.ShloMosaic.TcCoe Idealize.SL.Sem
open Idealize.ShloMosaic.Pointwise
open Cert.AttnIdeal Cert.AttnIdeal.Gen Cert.LayerSpec Cert.AttnSpec

/-- Token `j` of the sequence that row `p` of the tile belongs to, and the row's own token. -/
abbrev blk (p : Fin 512) (j : Fin 256) : Fin 512 := ⟨p.val / 256 * 256 + j.val, by omega⟩
abbrev tok (p : Fin 512) : Fin 256 := ⟨p.val % 256, by omega⟩

/-- What the tile's heads leave, from its queries, keys and values. -/
def heads (q k v : Vec Ideal S512x1024 .bf16) : Vec Ideal S512x1024 .bf16 := fun i =>
  mixQuot (fun j => ∑ d, q (ix2 (i 0) (col (headOf (i 1)) d)) * k (ix2 (blk (i 0) j) (col (headOf (i 1)) d)))
    fun j => v (ix2 (blk (i 0) j) (i 1))

/-- A load of 256 tokens and a pair of heads, at an index. -/
theorem ld_pair (q : Vec Ideal S512x1024 .bf16) {r0 c0 : Nat} (inb : ∀ a, (![r0, c0] : Fin 2 → Nat) a + (![256, 128] : Fin 2 → Nat) a ≤ S512x1024.size a)
    (p : Fin 256) (l : Fin 128) (P : Fin 512) (L : Fin 1024) (hP : P.val = r0 + p.val) (hL : L.val = c0 + l.val) :
    View.ld q (Rect.unit ![r0, c0] ![256, 128] inb) (ix2 p l) = q (ix2 P L) := by
  refine congrArg q (funext fun a => Fin.ext ?_)
  match a with
  | ⟨0, _⟩ => show r0 + 1 * p.val = P.val; omega
  | ⟨1, _⟩ => show c0 + 1 * l.val = L.val; omega

/-- A stored pair of heads is a block of the whole. -/
theorem pair_piece (q k v : Vec Ideal S512x1024 .bf16) {r0 c0 : Nat} (hr : r0 % 256 = 0) (hc : c0 % 128 = 0)
    (inb : ∀ a, (![r0, c0] : Fin 2 → Nat) a + (![256, 128] : Fin 2 → Nat) a ≤ S512x1024.size a) (x : S256x128.Idx) :
    k0_pay15 (F := Ideal) k0_pay12 (View.ld q (Rect.unit ![r0, c0] ![256, 128] inb)) (View.ld k (Rect.unit ![r0, c0] ![256, 128] inb))
        (View.ld v (Rect.unit ![r0, c0] ![256, 128] inb)) x
      = heads q k v ((Rect.unit (s := S512x1024) ![r0, c0] ![256, 128] inb).emb x) := by
  obtain ⟨p, l, rfl⟩ : ∃ (p : Fin 256) (l : Fin 128), x = ix2 p l := ⟨x 0, x 1, eq_ix2 x⟩
  have hb0 : r0 + 256 ≤ 512 := inb 0
  have hb1 : c0 + 128 ≤ 1024 := inb 1
  have he : (Rect.unit (s := S512x1024) ![r0, c0] ![256, 128] inb).emb (ix2 p l)
      = ix2 (⟨r0 + p.val, by omega⟩ : Fin 512) (⟨c0 + l.val, by omega⟩ : Fin 1024) := by
    refine funext fun a => Fin.ext ?_
    match a with
    | ⟨0, _⟩ => show r0 + 1 * p.val = r0 + p.val; omega
    | ⟨1, _⟩ => show c0 + 1 * l.val = c0 + l.val; omega
  rw [pair_apply, he]
  unfold pair heads
  refine congrArg₂ mixQuot (funext fun j => Finset.sum_congr rfl fun d _ => congrArg₂ (· * ·) ?_ ?_) (funext fun j => ?_)
  · exact ld_pair q inb p _ _ _ rfl (show (c0 + l.val) / 64 * 64 + d.val = c0 + (l.val / 64 * 64 + d.val) by omega)
  · exact ld_pair k inb j _ _ _ (show (r0 + p.val) / 256 * 256 + j.val = r0 + j.val by omega)
      (show (c0 + l.val) / 64 * 64 + d.val = c0 + (l.val / 64 * 64 + d.val) by omega)
  · exact ld_pair v inb j l _ _ (show (r0 + p.val) / 256 * 256 + j.val = r0 + j.val by omega) rfl

theorem hz2 : (![0, 0] : Fin 2 → Nat) = fun _ => 0 := funext fun a => by fin_cases a <;> rfl

/-- Blocks of one array that tile the buffer, loaded whole, are the array. -/
theorem readCov_pieces {sig : RefSig} {κ : Kind} {sp : Space} (v : View sig κ sp S512x1024 .bf16) (G : Vec Ideal S512x1024 .bf16)
    (L : List (View.Piece (Elt Ideal) S512x1024 .bf16)) (h : View.PiecesOf G L) (hc : ∀ y, ∃ p ∈ L, y ∈ p.1.set)
    (inb : ∀ a, (![0, 0] : Fin 2 → Nat) a + (![512, 1024] : Fin 2 → Nat) a ≤ S512x1024.size a) :
    v.readCov L (Rect.unit ![0, 0] ![512, 1024] inb).toLoadRect = G := by
  rw [View.readCov_eq_canon']
  funext j
  rw [View.canon_apply_of_pieces G L h.mem _ (hc _)]
  refine congrArg G (funext fun a => Fin.ext ?_)
  match a with
  | ⟨0, _⟩ => show 0 + 1 * (j 0).val = (j 0).val; omega
  | ⟨1, _⟩ => show 0 + 1 * (j 1).val = (j 1).val; omega

section Rows

variable (x : Vec Ideal S512x1024 .f32) (md : Vec Ideal S1x1x6144 .f32) (g g1 : Vec Ideal S1x1024 .f32)
  (w : Vec Ideal S1024x3072 .bf16) (wo : Vec Ideal S1024x1024 .bf16)

theorem blk_tok (p : Fin 512) : blk p (tok p) = p := Fin.ext (Nat.div_add_mod' p.val 256)

/-- Row `p` of the joint projection is the layer's, on its sequence. -/
theorem qkv_part (p : Fin 512) (j : Fin 256) (cols : Fin 1024 → Fin 3072) (n : Fin 1024) :
    qkv x md g w (blk p j) (cols n)
      = part (fun j k => x (ix2 (blk p j) k)) (fun k => g (ix2 0 k)) (shift md) (modAt md 1024 (by decide)) (fun k n => w (ix2 k n)) cols j n :=
  rfl

theorem key_tile (p : Fin 512) (n : Fin 1024) :
    k0_pay6 (F := Ideal) x md g w (ix2 p n)
      = part (fun j k => x (ix2 (blk p j) k)) (fun k => g (ix2 0 k)) (shift md) (modAt md 1024 (by decide)) (fun k n => w (ix2 k n)) kCol (tok p) n := by
  rw [k_apply, ← qkv_part, blk_tok]

theorem val_tile (p : Fin 512) (n : Fin 1024) :
    k0_pay7 (F := Ideal) x md g w (ix2 p n)
      = part (fun j k => x (ix2 (blk p j) k)) (fun k => g (ix2 0 k)) (shift md) (modAt md 1024 (by decide)) (fun k n => w (ix2 k n)) vCol (tok p) n := by
  rw [v_apply, ← qkv_part, blk_tok]

/-- What the heads leave in row `p`, on finite values: the attention of its token in its sequence. -/
theorem heads_row (hx : ∀ i, IsReal (x i)) (hm : ∀ i, IsReal (md i)) (hg : ∀ i, IsReal (g i)) (hw : ∀ i, IsReal (w i))
    (p : Fin 512) (n : Fin 1024) :
    heads (k0_pay9 (F := Ideal) (k0_pay8 x md g w)) (k0_pay10 (k0_pay6 x md g w)) (k0_pay11 (k0_pay7 x md g w)) (ix2 p n)
      = att (part (fun j k => x (ix2 (blk p j) k)) (fun k => g (ix2 0 k)) (shift md) (modAt md 1024 (by decide)) (fun k n => w (ix2 k n)) qCol)
          (part (fun j k => x (ix2 (blk p j) k)) (fun k => g (ix2 0 k)) (shift md) (modAt md 1024 (by decide)) (fun k n => w (ix2 k n)) kCol)
          (part (fun j k => x (ix2 (blk p j) k)) (fun k => g (ix2 0 k)) (shift md) (modAt md 1024 (by decide)) (fun k n => w (ix2 k n)) vCol)
          (tok p) n := by
  have hr : ∀ (cols : Fin 1024 → Fin 3072) (j : Fin 256) (n : Fin 1024), IsReal (part (fun j k => x (ix2 (blk p j) k))
      (fun k => g (ix2 0 k)) (shift md) (modAt md 1024 (by decide)) (fun k n => w (ix2 k n)) cols j n) := fun cols j n =>
    isReal_proj (isReal_normMod (fun k => hx _) (fun k => hg _) (fun k => hm _) (fun k => hm _)) (fun i j => hw _) _
  rw [← mixQuot_att (hr qCol) (hr kCol)]
  simp only [← qkv_part, blk_tok]
  refine congrArg₂ mixQuot (funext fun j => Finset.sum_congr rfl fun d _ => ?_) (funext fun j => ?_)
  · exact congrArg₂ (· * ·) (q_apply x md g w p _) (k16_apply x md g w _ _)
  · exact v16_apply x md g w _ _

theorem res_tile (hx : ∀ i, IsReal (x i)) (hm : ∀ i, IsReal (md i)) (hg : ∀ i, IsReal (g i)) (hw : ∀ i, IsReal (w i))
    (p : Fin 512) (l : Fin 1024) :
    k0_pay2 (F := Ideal) x (k0_pay4 md)
        (heads (k0_pay9 (F := Ideal) (k0_pay8 x md g w)) (k0_pay10 (k0_pay6 x md g w)) (k0_pay11 (k0_pay7 x md g w))) wo g1 (ix2 p l)
      = attnRow (fun j k => x (ix2 (blk p j) k)) (fun k => g (ix2 0 k)) (fun k => g1 (ix2 0 k)) (shift md) (modAt md 1024 (by decide))
          (modAt md 2048 (by decide)) (fun k n => w (ix2 k n)) (fun n l => wo (ix2 n l)) (tok p) l := by
  rw [res_apply]
  simp only [heads_row x md g w hx hm hg hw]
  unfold attnRow
  simp only [blk_tok]

end Rows

end Cert.AttnTile

end
-- ==== Proof.AttnRef.lean ====
/-
  THE ATTENTION REFERENCE, ROW BY ROW: row `r` of its results is the attention part of the layer on token `r % 256` of
  sequence `r / 256`, that token's keys, and its values.
-/
module

public import proofs.«01_k».proof.Proof.AttnSpec
public import proofs.«01_k».proof.Proof.Gen.AttnRefIdeal.Read

@[expose] public section

set_option maxRecDepth 16384

noncomputable section

namespace Cert.AttnRefRows

open Idealize.ShloMosaic Idealize.ShloMosaic.TcCoe Idealize.SL.Sem
open Idealize.ShloMosaic.Pointwise
open Cert.AttnRefIdeal Cert.AttnRefIdeal.Read Cert.LayerSpec Cert.AttnSpec

variable (x : Vec Ideal S8192x1024 .f32) (md : Vec Ideal S16x1x6144 .f32) (g : Vec Ideal S4x1024 .f32)
  (w : Vec Ideal S1024x3072 .f32) (wo : Vec Ideal S1024x1024 .f32)

/-- Entry `o + k` of the prompt's modulation row (row 8). -/
abbrev modAt (o : Nat) (ho : o + 1024 ≤ 6144) (k : Fin 1024) : EReal :=
  md (ix3 8 0 ⟨o + k, by omega⟩)

/-- Row of token `p` of sequence `b`. -/
abbrev row (b : Fin 32) (p : Fin 256) : Fin 8192 := ⟨b.val * 256 + p.val, by omega⟩

/-- The sequence of a row, and its token there. -/
abbrev sq (r : Fin 8192) : Fin 32 := ⟨r.val / 256, by omega⟩
abbrev tk (r : Fin 8192) : Fin 256 := ⟨r.val % 256, by omega⟩

theorem max_negInf (y : EReal) : max (Ideal.ofBits FTy.f32 0xFF800000#32) y = y := by
  rw [show Ideal.ofBits FTy.f32 0xFF800000#32 = ⊥ by simp [Ideal.ofBits, Ideal.ieee]]
  exact max_eq_right bot_le

theorem f_apply (b : Fin 32) (p : Fin 256) (k : Fin 1024) :
    val_main_v30 (F := Ideal) x md g (ix3 b p k)
      = normMod (fun k => x (ix2 (row b p) k)) (fun k => g (ix2 0 k)) (fun k => md (ix3 8 0 ⟨k.val, by omega⟩)) (modAt md 1024 (by decide)) k := by
  pointwise [val_main_v30, val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v5, val_main_v4, val_main_v3, val_main_v2,
    val_main_v1, val_main_v0, val_main_cst, val_main_cst_0, val_main_cst_1, val_main_cst_2]
  rfl

theorem qkv_apply (b : Fin 32) (p : Fin 256) (n : Fin 3072) :
    val_main_v31 (F := Ideal) x md g w (ix3 b p n)
      = proj (fun k => val_main_v30 (F := Ideal) x md g (ix3 b p k)) (fun k n => w (ix2 k n)) n := by
  pointwise [val_main_v31]
  rfl

theorem score_apply (b : Fin 32) (h : Fin 16) (p k : Fin 256) :
    val_main_v40 (F := Ideal) x md g w (ix4 b h p k)
      = score (fun p n => val_main_v32 (F := Ideal) x md g w (ix3 b p n)) (fun p n => val_main_v33 (F := Ideal) x md g w (ix3 b p n)) h p k := by
  pointwise [val_main_v40, val_main_v39, val_main_cst_3, val_main_v38, val_main_v35, val_main_v36]
  rfl

/-- The maximum over the last axis, at an index. -/
theorem reduce_max (v : FVec Ideal S32x16x256x256 .f32) (c : FVec Ideal S_ .f32) (h' : S32x16x256x256.ReducesTo [3] S32x16x256)
    (hu : 0 < S_.numel) (b : Fin 32) (h : Fin 16) (p : Fin 256) :
    Host.reduce FloatOps.maximumf v c h' hu (ix3 b h p)
      = Finset.univ.fold max (c (Shape.Idx.first hu)) fun k : Fin 256 => v (ix4 b h p k) := by
  simp only [pointwise]

theorem max_apply (b : Fin 32) (h : Fin 16) (p : Fin 256) :
    val_main_v43 (F := Ideal) x md g w (ix3 b h p)
      = rowMax (fun k => val_main_v40 (F := Ideal) x md g w (ix4 b h p k)) := by
  unfold val_main_v43 val_main_v41
  rw [maximumf_apply, reduce_max]
  exact max_negInf _

theorem exp_apply (b : Fin 32) (h : Fin 16) (p k : Fin 256) :
    val_main_v47 (F := Ideal) x md g w (ix4 b h p k)
      = Ideal.exp (val_main_v40 (F := Ideal) x md g w (ix4 b h p k) - val_main_v43 (F := Ideal) x md g w (ix3 b h p)) := by
  pointwise [val_main_v47, val_main_v46, val_main_v45, val_main_v44]

theorem div_apply (b : Fin 32) (h : Fin 16) (p k : Fin 256) :
    val_main_v51 (F := Ideal) x md g w (ix4 b h p k)
      = Ideal.div (val_main_v47 (F := Ideal) x md g w (ix4 b h p k)) (∑ k, val_main_v47 (F := Ideal) x md g w (ix4 b h p k)) := by
  pointwise [val_main_v51, val_main_v50, val_main_v49, val_main_v48, val_main_cst_6]

theorem prob_apply (b : Fin 32) (h : Fin 16) (p k : Fin 256) :
    val_main_v51 (F := Ideal) x md g w (ix4 b h p k)
      = softmax (fun k => val_main_v40 (F := Ideal) x md g w (ix4 b h p k)) k := by
  rw [div_apply]
  simp only [exp_apply, max_apply]
  rfl

theorem att_apply (b : Fin 32) (p : Fin 256) (n : Fin 1024) :
    val_main_v54 (F := Ideal) x md g w (ix3 b p n)
      = ∑ k, val_main_v34 (F := Ideal) x md g w (ix3 b k n) * val_main_v51 (F := Ideal) x md g w (ix4 b (headOf n) p k) := by
  pointwise [val_main_v54, val_main_v53, val_main_v52, val_main_v37]

theorem res_apply (r : Fin 8192) (l : Fin 1024) :
    val_main_v74 (F := Ideal) x md g w wo (ix2 r l)
      = gated (fun k => x (ix2 r k)) (modAt md 2048 (by decide)) (fun k => g (ix2 1 k))
          (proj (fun n => val_main_v54 (F := Ideal) x md g w (ix3 (sq r) (tk r) n)) (fun n l => wo (ix2 n l))) l := by
  pointwise [val_main_v74, val_main_v73, val_main_v72, val_main_v71, val_main_v70, val_main_v69, val_main_v68, val_main_v67, val_main_v66, val_main_v65,
    val_main_v64, val_main_v63, val_main_v62, val_main_v61, val_main_v60, val_main_v59, val_main_v58, val_main_v57, val_main_v56,
    val_main_v55, val_main_v6, val_main_v3, val_main_v2, val_main_v1, val_main_v0, val_main_cst_7, val_main_cst_8, val_main_cst_9]
  rfl

theorem k_apply (r : Fin 8192) (l : Fin 1024) :
    val_main_v75 (F := Ideal) x md g w (ix2 r l) = val_main_v33 (F := Ideal) x md g w (ix3 (sq r) (tk r) l) := by
  pointwise [val_main_v75, val_main_v36]

theorem v_apply (r : Fin 8192) (l : Fin 1024) :
    val_main_v76 (F := Ideal) x md g w (ix2 r l) = val_main_v34 (F := Ideal) x md g w (ix3 (sq r) (tk r) l) := by
  pointwise [val_main_v76, val_main_v37]

theorem q_slice (b : Fin 32) (p : Fin 256) (n : Fin 1024) :
    val_main_v32 (F := Ideal) x md g w (ix3 b p n) = val_main_v31 (F := Ideal) x md g w (ix3 b p (qCol n)) := by
  pointwise [val_main_v32]

theorem k_slice (b : Fin 32) (p : Fin 256) (n : Fin 1024) :
    val_main_v33 (F := Ideal) x md g w (ix3 b p n) = val_main_v31 (F := Ideal) x md g w (ix3 b p (kCol n)) := by
  pointwise [val_main_v33]

theorem v_slice (b : Fin 32) (p : Fin 256) (n : Fin 1024) :
    val_main_v34 (F := Ideal) x md g w (ix3 b p n) = val_main_v31 (F := Ideal) x md g w (ix3 b p (vCol n)) := by
  pointwise [val_main_v34]

/-- The tokens of the sequence that row `r` belongs to. -/
abbrev seqOf (r : Fin 8192) (p : Fin 256) (k : Fin 1024) : EReal := x (ix2 (row (sq r) p) k)

abbrev shift (k : Fin 1024) : EReal := md (ix3 8 0 ⟨k.val, by omega⟩)

/-- A row of the reference's first result: the attention part of the layer on it. -/
theorem row_apply (r : Fin 8192) (l : Fin 1024) :
    val_main_v74 (F := Ideal) x md g w wo (ix2 r l)
      = attnRow (seqOf x r) (fun k => g (ix2 0 k)) (fun k => g (ix2 1 k)) (shift md) (modAt md 1024 (by decide))
          (modAt md 2048 (by decide)) (fun k n => w (ix2 k n)) (fun n l => wo (ix2 n l)) (tk r) l := by
  have hr : row (sq r) (tk r) = r := Fin.ext (Nat.div_add_mod' r.val 256)
  rw [res_apply]
  simp only [att_apply, prob_apply, score_apply, q_slice, k_slice, v_slice, qkv_apply, f_apply]
  unfold attnRow seqOf
  simp only [hr]
  rfl

theorem key_row (r : Fin 8192) (l : Fin 1024) :
    val_main_v75 (F := Ideal) x md g w (ix2 r l)
      = part (seqOf x r) (fun k => g (ix2 0 k)) (shift md) (modAt md 1024 (by decide)) (fun k n => w (ix2 k n)) kCol (tk r) l := by
  rw [k_apply, k_slice, qkv_apply]
  simp only [f_apply]
  rfl

theorem val_row (r : Fin 8192) (l : Fin 1024) :
    val_main_v76 (F := Ideal) x md g w (ix2 r l)
      = part (seqOf x r) (fun k => g (ix2 0 k)) (shift md) (modAt md 1024 (by decide)) (fun k n => w (ix2 k n)) vCol (tk r) l := by
  rw [v_apply, v_slice, qkv_apply]
  simp only [f_apply]
  rfl

end Cert.AttnRefRows

end
-- ==== Proof.AttnValue.lean ====
/-
  THE ATTENTION CALL'S RESULTS: on finite activations, modulation, gains and query/key/value weights the kernel leaves, in
  row `r` of its three results, the attention part of the layer on that token, the token's keys and its values, which is
  what the reference leaves there.
-/
module

public import proofs.«01_k».proof.Defs
public import proofs.«01_k».proof.Proof.AttnTile
public import proofs.«01_k».proof.Proof.AttnRef
public import Idealize.ShloMosaic.Lib.Pipeline.Value
public import Idealize.ShloMosaic.Lib.Pipeline.ValueKit.Acc
public import Idealize.ShloMosaic.Lib.Pipeline.ReadBack
public import Idealize.ShloMosaic.Lib.ReduceAll
public import Idealize.ShloMosaic.Lib.Quiescent

@[expose] public section

set_option maxRecDepth 16384

noncomputable section

namespace Cert.AttnValue

open Idealize.ShloMosaic Idealize.ShloMosaic.TcCoe Idealize.SL.Sem
open Idealize.ShloMosaic.Pointwise Idealize.ShloMosaic.Tactic
open Idealize.ShloMosaic.Pipeline (Dat)
open Cert.AttnIdeal Cert.AttnIdeal.Gen Cert.LayerSpec Cert.AttnSpec

variable (m : (ℓ : Loc nD τ sig) → Buf (Elt Ideal) ℓ) (ρ : Dev nD → PrngReg)

/-- The arguments, as launched. -/
abbrev aX (c : Dev nD) : Vec Ideal S8192x1024 .f32 := m ((c : Thread nD τ).loc main_arg0)
abbrev aMod (c : Dev nD) : Vec Ideal S16x1x6144 .f32 := m ((c : Thread nD τ).loc main_arg1)
abbrev aG (c : Dev nD) : Vec Ideal S4x1024 .f32 := m ((c : Thread nD τ).loc main_arg2)
abbrev aQkv (c : Dev nD) : Vec Ideal S1024x3072 .f32 := m ((c : Thread nD τ).loc main_arg3)
abbrev aOut (c : Dev nD) : Vec Ideal S1024x1024 .f32 := m ((c : Thread nD τ).loc main_arg4)

/-- What the first result is shown to hold: the attention part of the layer on every row. -/
def out (c : Dev nD) : Vec Ideal S8192x1024 .f32 := fun i =>
  attnRow (AttnRefRows.seqOf (aX m c) (i 0)) (fun k => aG m c (ix2 0 k)) (fun k => aG m c (ix2 1 k)) (AttnRefRows.shift (aMod m c))
    (AttnRefRows.modAt (aMod m c) 1024 (by decide)) (AttnRefRows.modAt (aMod m c) 2048 (by decide))
    (fun k n => aQkv m c (ix2 k n)) (fun n l => aOut m c (ix2 n l)) (AttnRefRows.tk (i 0)) (i 1)

/-- The other two: the keys and the values, by their columns. -/
def outPart (c : Dev nD) (cols : Fin 1024 → Fin 3072) : Vec Ideal S8192x1024 .f32 := fun i =>
  part (AttnRefRows.seqOf (aX m c) (i 0)) (fun k => aG m c (ix2 0 k)) (AttnRefRows.shift (aMod m c))
    (AttnRefRows.modAt (aMod m c) 1024 (by decide)) (fun k n => aQkv m c (ix2 k n)) cols (AttnRefRows.tk (i 0)) (i 1)

/-- The precondition, read back: the arrays it names hold real numbers. -/
structure Finite (c : Dev nD) : Prop where
  x : ∀ i, IsReal (aX m c i)
  md : ∀ i, IsReal (aMod m c i)
  g : ∀ i, IsReal (aG m c i)
  w : ∀ i, IsReal (aQkv m c i)

instance : Subsingleton Cert.Pre_attn_finite.S_.Idx := ⟨fun a b => funext fun k => k.elim0⟩

theorem real_of_all {s : Shape} {axes : List (Fin s.rank)} (x : FVec Ideal s .f32) (hb : Cert.Pre_attn_finite.S_.BroadcastsInDim s (![] : Fin 0 → Fin s.rank))
    (h : s.ReducesTo axes Cert.Pre_attn_finite.S_) (hu : 0 < Cert.Pre_attn_finite.S_.numel) (init : IVec Cert.Pre_attn_finite.S_ 1)
    (j : Cert.Pre_attn_finite.S_.Idx)
    (e : Host.reduce IntOp.andi (cmpf .olt (Host.absf x) (broadcastInDim s ![] hb (constant Cert.Pre_attn_finite.S_ .f32 0x7F800000#32))) init h hu j = 1#1)
    (i : s.Idx) : IsReal (x i) := by
  have hi := Host.reduce_andi_all _ _ h hu j e i
  have hlt : Ideal.cmp .olt (max (x i) (-(x i))) (Ideal.ofBits FTy.f32 0x7F800000#32) = 1#1 := hi
  rw [show Ideal.ofBits FTy.f32 0x7F800000#32 = ⊤ by simp [Ideal.ofBits, Ideal.ieee]] at hlt
  refine isReal_of_abs_lt (by_contra fun hn => ?_)
  have : Ideal.cmp .olt (max (x i) (-(x i))) ⊤ = 0#1 := by
    show BitVec.ofBool (decide _) = _
    rw [decide_eq_false hn]; rfl
  rw [this] at hlt
  exact absurd hlt (by decide)

theorem finite_of_pre [hP : Cert.Pre_attn_finite.Facts] (h : Cert.Pre_AttnIdeal_attn_finite m) (c : Dev nD) : Finite m c := by
  have e := congrFun (h c) (fun k => k.elim0)
  unfold Cert.Pre_attn_finite.fn Cert.Pre_attn_finite.fn_part1 at e
  obtain ⟨e, e4⟩ := IntOp.andi_eq_one.1 e
  obtain ⟨e, e3⟩ := IntOp.andi_eq_one.1 e
  obtain ⟨e1, e2⟩ := IntOp.andi_eq_one.1 e
  exact ⟨real_of_all _ _ _ _ _ _ e1, real_of_all _ _ _ _ _ _ e2, real_of_all _ _ _ _ _ _ e3, real_of_all _ _ _ _ _ _ e4⟩

/-- The weights reach the kernel converted to the narrow format, which changes nothing over the extended reals. -/
theorem V_qkv (c : Dev nD) : V m c main_v0 = aQkv m c := by
  show StableHlo.after hostOps0 (fun b => m (c, b)) main_v0 = _
  simp only [hostOps0]
  after_results_simp
  rfl

theorem V_out (c : Dev nD) : V m c main_v1 = aOut m c := by
  show StableHlo.after hostOps0 (fun b => m (c, b)) main_v1 = _
  simp only [hostOps0]
  after_results_simp
  rfl

/-- Row `p` of tile `t`. -/
abbrev row (t : Fin cfg0.N) (p : Fin 512) : Fin 8192 :=
  ⟨t.val * 512 + p.val, by have : t.val < 16 := t.isLt; omega⟩

theorem idxT : ∀ t : Fin cfg0.N, (win0_0.index t 0 = t.val ∧ win0_0.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N, (win0_0.index t 0 = t.val ∧ win0_0.index t 1 = 0) ∧ (win0_5.index t 0 = t.val ∧ win0_5.index t 1 = 0)
    ∧ (win0_6.index t 0 = t.val ∧ win0_6.index t 1 = 0) ∧ (win0_7.index t 0 = t.val ∧ win0_7.index t 1 = 0))

theorem idxM : ∀ t : Fin cfg0.N, win0_1.index t 0 = 8 ∧ win0_1.index t 1 = 0 ∧ win0_1.index t 2 = 0 :=
  (by decide +kernel : ∀ t : Fin grid0.N, win0_1.index t 0 = 8 ∧ win0_1.index t 1 = 0 ∧ win0_1.index t 2 = 0)

theorem idxW : ∀ t : Fin cfg0.N, (win0_2.index t 0 = 0 ∧ win0_2.index t 1 = 0) ∧ (win0_3.index t 0 = 0 ∧ win0_3.index t 1 = 0)
    ∧ (win0_4.index t 0 = 0 ∧ win0_4.index t 1 = 0) :=
  (by decide +kernel : ∀ t : Fin grid0.N, (win0_2.index t 0 = 0 ∧ win0_2.index t 1 = 0) ∧ (win0_3.index t 0 = 0 ∧ win0_3.index t 1 = 0)
    ∧ (win0_4.index t 0 = 0 ∧ win0_4.index t 1 = 0))

theorem x_blk (c : Dev nD) (t : Fin cfg0.N) (p : Fin 512) (k : Fin 1024) :
    iblk m c 0 t (ix2 p k) = aX m c (ix2 (row t p) k) := by
  rw [aX, ← V_main_arg0 m c]
  refine congrArg (V m c main_arg0) (funext fun a => Fin.ext ?_)
  match a with
  | ⟨0, _⟩ => show win0_0.index t 0 * 512 + 1 * p.val = t.val * 512 + p.val; rw [(idxT t).1.1]; omega
  | ⟨1, _⟩ => show win0_0.index t 1 * 1024 + 1 * k.val = k.val; rw [(idxT t).1.2]; omega

theorem mod_blk (c : Dev nD) (t : Fin cfg0.N) (n : Fin 6144) :
    iblk m c 1 t (ix3 0 0 n) = aMod m c (ix3 8 0 n) := by
  rw [aMod, ← V_main_arg1 m c]
  refine congrArg (V m c main_arg1) (funext fun a => Fin.ext ?_)
  match a with
  | ⟨0, _⟩ => show win0_1.index t 0 * 1 + 1 * 0 = 8; rw [(idxM t).1]
  | ⟨1, _⟩ => show win0_1.index t 1 * 1 + 1 * 0 = 0; rw [(idxM t).2.1]
  | ⟨2, _⟩ => show win0_1.index t 2 * 6144 + 1 * n.val = n.val; rw [(idxM t).2.2]; omega

theorem g_blk (c : Dev nD) (t : Fin cfg0.N) (a : Fin 4) (k : Fin 1024) :
    iblk m c 2 t (ix2 a k) = aG m c (ix2 a k) := by
  rw [aG, ← V_main_arg2 m c]
  refine congrArg (V m c main_arg2) (funext fun b => Fin.ext ?_)
  match b with
  | ⟨0, _⟩ => show win0_2.index t 0 * 4 + 1 * a.val = a.val; rw [(idxW t).1.1]; omega
  | ⟨1, _⟩ => show win0_2.index t 1 * 1024 + 1 * k.val = k.val; rw [(idxW t).1.2]; omega

theorem qkv_blk (c : Dev nD) (t : Fin cfg0.N) (a : Fin 1024) (k : Fin 3072) :
    iblk m c 3 t (ix2 a k) = aQkv m c (ix2 a k) := by
  rw [← V_qkv]
  refine congrArg (V m c main_v0) (funext fun b => Fin.ext ?_)
  match b with
  | ⟨0, _⟩ => show win0_3.index t 0 * 1024 + 1 * a.val = a.val; rw [(idxW t).2.1.1]; omega
  | ⟨1, _⟩ => show win0_3.index t 1 * 3072 + 1 * k.val = k.val; rw [(idxW t).2.1.2]; omega

theorem out_blk (c : Dev nD) (t : Fin cfg0.N) (a k : Fin 1024) :
    iblk m c 4 t (ix2 a k) = aOut m c (ix2 a k) := by
  rw [← V_out]
  refine congrArg (V m c main_v1) (funext fun b => Fin.ext ?_)
  match b with
  | ⟨0, _⟩ => show win0_4.index t 0 * 1024 + 1 * a.val = a.val; rw [(idxW t).2.2.1]; omega
  | ⟨1, _⟩ => show win0_4.index t 1 * 1024 + 1 * k.val = k.val; rw [(idxW t).2.2.2]; omega

/-- A row of the gains, loaded by itself. -/
theorem ld_g {o : Nat} (inb : ∀ a, (![o, 0] : Fin 2 → Nat) a + (![1, 1024] : Fin 2 → Nat) a ≤ S4x1024.size a) (x : Vec Ideal S4x1024 .f32)
    (a : Fin 4) (ha : a.val = o) (k : Fin 1024) : View.ld x (Rect.unit ![o, 0] ![1, 1024] inb) (ix2 0 k) = x (ix2 a k) := by
  refine congrArg x (funext fun b => Fin.ext ?_)
  match b with
  | ⟨0, _⟩ => show o + 1 * 0 = a.val; omega
  | ⟨1, _⟩ => show 0 + 1 * k.val = k.val; omega

/-- The tile's sequence is the array's. -/
theorem seq_blk (c : Dev nD) (t : Fin cfg0.N) (p : Fin 512) :
    (fun (j : Fin 256) (k : Fin 1024) => iblk m c 0 t (ix2 (AttnTile.blk p j) k)) = AttnRefRows.seqOf (aX m c) (row t p) := by
  funext j k
  rw [x_blk]
  refine congrArg (aX m c) (congrArg (fun r => ix2 r k) (Fin.ext ?_))
  show t.val * 512 + (p.val / 256 * 256 + j.val) = (t.val * 512 + p.val) / 256 * 256 + j.val
  omega

theorem tok_blk (t : Fin cfg0.N) (p : Fin 512) : AttnTile.tok p = AttnRefRows.tk (row t p) :=
  Fin.ext (show p.val % 256 = (t.val * 512 + p.val) % 256 by omega)

theorem part_congr {X X' : Fin 256 → Fin 1024 → EReal} {g g' sh sh' sc sc' : Fin 1024 → EReal} {w w' : Fin 1024 → Fin 3072 → EReal}
    {p p' : Fin 256} (hX : X = X') (hg : g = g') (hsh : sh = sh') (hsc : sc = sc') (hw : w = w') (hp : p = p')
    (cols : Fin 1024 → Fin 3072) (n : Fin 1024) : part X g sh sc w cols p n = part X' g' sh' sc' w' cols p' n := by
  subst hX hg hsh hsc hw hp; rfl

theorem attnRow_congr {X X' : Fin 256 → Fin 1024 → EReal} {g g' g1 g1' sh sh' sc sc' gt gt' : Fin 1024 → EReal}
    {w w' : Fin 1024 → Fin 3072 → EReal} {wo wo' : Fin 1024 → Fin 1024 → EReal}
    {p p' : Fin 256} (hX : X = X') (hg : g = g') (h1 : g1 = g1') (hsh : sh = sh') (hsc : sc = sc') (hgt : gt = gt') (hw : w = w')
    (hwo : wo = wo') (hp : p = p') (n : Fin 1024) : attnRow X g g1 sh sc gt w wo p n = attnRow X' g' g1' sh' sc' gt' w' wo' p' n := by
  subst hX hg h1 hsh hsc hgt hw hwo hp; rfl

theorem flushed_keys (c : Dev nD) (t : Fin cfg0.N) :
    (dats m 0 c).flushed 6 t = ((cfg0.win 6).blk t).view.read (Elt Ideal) (outPart m c kCol) := by
  rw [Cert.AttnIdeal.Value.flushed6]
  frame_open
  frame_out
  funext j
  obtain ⟨p, l, rfl⟩ : ∃ (p : Fin 512) (l : Fin 1024), j = ix2 p l := ⟨j 0, j 1, eq_ix2 j⟩
  refine (AttnTile.key_tile _ _ _ _ p l).trans ?_
  have hj : ((cfg0.win 6).blk t).view.read (Elt Ideal) (outPart m c kCol) (ix2 p l) = outPart m c kCol (ix2 (row t p) l) := by
    refine congrArg (outPart m c kCol) (funext fun a => Fin.ext ?_)
    match a with
    | ⟨0, _⟩ => show win0_6.index t 0 * 512 + 1 * p.val = t.val * 512 + p.val; rw [(idxT t).2.2.1.1]; omega
    | ⟨1, _⟩ => show win0_6.index t 1 * 1024 + 1 * l.val = l.val; rw [(idxT t).2.2.1.2]; omega
  rw [hj]
  exact part_congr (seq_blk m c t p) (funext fun k => (ld_g _ _ 0 rfl k).trans (g_blk m c t 0 k)) (funext fun k => mod_blk m c t _)
    (funext fun k => mod_blk m c t _) (funext fun k => funext fun n => qkv_blk m c t k n) (tok_blk t p) kCol l

theorem flushed_vals (c : Dev nD) (t : Fin cfg0.N) :
    (dats m 0 c).flushed 7 t = ((cfg0.win 7).blk t).view.read (Elt Ideal) (outPart m c vCol) := by
  rw [Cert.AttnIdeal.Value.flushed7]
  frame_open
  frame_out
  funext j
  obtain ⟨p, l, rfl⟩ : ∃ (p : Fin 512) (l : Fin 1024), j = ix2 p l := ⟨j 0, j 1, eq_ix2 j⟩
  refine (AttnTile.val_tile _ _ _ _ p l).trans ?_
  have hj : ((cfg0.win 7).blk t).view.read (Elt Ideal) (outPart m c vCol) (ix2 p l) = outPart m c vCol (ix2 (row t p) l) := by
    refine congrArg (outPart m c vCol) (funext fun a => Fin.ext ?_)
    match a with
    | ⟨0, _⟩ => show win0_7.index t 0 * 512 + 1 * p.val = t.val * 512 + p.val; rw [(idxT t).2.2.2.1]; omega
    | ⟨1, _⟩ => show win0_7.index t 1 * 1024 + 1 * l.val = l.val; rw [(idxT t).2.2.2.2]; omega
  rw [hj]
  exact part_congr (seq_blk m c t p) (funext fun k => (ld_g _ _ 0 rfl k).trans (g_blk m c t 0 k)) (funext fun k => mod_blk m c t _)
    (funext fun k => mod_blk m c t _) (funext fun k => funext fun n => qkv_blk m c t k n) (tok_blk t p) vCol l

/-- The modulation's block is one row, and so is a loaded gain. -/
theorem only_row (i : S1x1x6144.Idx) : i = ix3 0 0 (i 2) := by
  refine (eq_ix3 i).trans ?_
  rw [show i 0 = (0 : Fin 1) from Subsingleton.elim (α := Fin 1) _ _, show i 1 = (0 : Fin 1) from Subsingleton.elim (α := Fin 1) _ _]
  rfl

theorem only_gain (i : S1x1024.Idx) : i = ix2 0 (i 1) := by
  refine (eq_ix2 i).trans ?_
  rw [show i 0 = (0 : Fin 1) from Subsingleton.elim (α := Fin 1) _ _]
  rfl

theorem flushed_out (c : Dev nD) (hf : Finite m c) (t : Fin cfg0.N) :
    (dats m 0 c).flushed 5 t = ((cfg0.win 5).blk t).view.read (Elt Ideal) (out m c) := by
  have hx : ∀ i, IsReal (iblk m c 0 t i) := fun i => by
    obtain ⟨p, k, rfl⟩ : ∃ (p : Fin 512) (k : Fin 1024), i = ix2 p k := ⟨i 0, i 1, eq_ix2 i⟩
    rw [x_blk]; exact hf.x _
  have hm : ∀ i, IsReal (iblk m c 1 t i) := fun i => by
    obtain ⟨n, rfl⟩ : ∃ n : Fin 6144, i = ix3 0 0 n := ⟨i 2, only_row i⟩
    rw [mod_blk]; exact hf.md _
  have hg : ∀ i, IsReal (View.ld (iblk m c 2 t) (Rect.unit ![0, 0] ![1, 1024] inb_S4x1024_S1x1024_0_0) i) := fun i => by
    obtain ⟨k, rfl⟩ : ∃ k : Fin 1024, i = ix2 0 k := ⟨i 1, only_gain i⟩
    rw [(ld_g inb_S4x1024_S1x1024_0_0 _ 0 rfl k).trans (g_blk m c t 0 k)]; exact hf.g _
  have hw : ∀ i, IsReal (iblk m c 3 t i) := fun i => by
    obtain ⟨k, n, rfl⟩ : ∃ (k : Fin 1024) (n : Fin 3072), i = ix2 k n := ⟨i 0, i 1, eq_ix2 i⟩
    rw [qkv_blk]; exact hf.w _
  rw [Cert.AttnIdeal.Value.flushed5]
  frame_open
  simp (disch := decide) only [↓ View.readCov_skip, ↓ View.readCov_cons_toLoadRect, ↓ View.readCov_fill]
  frame_out
  rw [AttnTile.readCov_pieces _ (AttnTile.heads (k0_pay9 (k0_pay8 (iblk m c 0 t) (iblk m c 1 t)
      (View.ld (iblk m c 2 t) (Rect.unit ![0, 0] ![1, 1024] inb_S4x1024_S1x1024_0_0)) (iblk m c 3 t)))
    (k0_pay10 (k0_pay6 (iblk m c 0 t) (iblk m c 1 t)
      (View.ld (iblk m c 2 t) (Rect.unit ![0, 0] ![1, 1024] inb_S4x1024_S1x1024_0_0)) (iblk m c 3 t)))
    (k0_pay11 (k0_pay7 (iblk m c 0 t) (iblk m c 1 t)
      (View.ld (iblk m c 2 t) (Rect.unit ![0, 0] ![1, 1024] inb_S4x1024_S1x1024_0_0)) (iblk m c 3 t)))) _
    (by
      generalize k0_pay9 (k0_pay8 (iblk m c 0 t) (iblk m c 1 t)
        (View.ld (iblk m c 2 t) (Rect.unit ![0, 0] ![1, 1024] inb_S4x1024_S1x1024_0_0)) (iblk m c 3 t)) = q
      generalize k0_pay10 (k0_pay6 (iblk m c 0 t) (iblk m c 1 t)
        (View.ld (iblk m c 2 t) (Rect.unit ![0, 0] ![1, 1024] inb_S4x1024_S1x1024_0_0)) (iblk m c 3 t)) = k
      generalize k0_pay11 (k0_pay7 (iblk m c 0 t) (iblk m c 1 t)
        (View.ld (iblk m c 2 t) (Rect.unit ![0, 0] ![1, 1024] inb_S4x1024_S1x1024_0_0)) (iblk m c 3 t)) = v
      refine ⟨AttnTile.pair_piece q k v rfl rfl _, AttnTile.pair_piece q k v rfl rfl _, AttnTile.pair_piece q k v rfl rfl _,
        AttnTile.pair_piece q k v rfl rfl _, AttnTile.pair_piece q k v rfl rfl _, AttnTile.pair_piece q k v rfl rfl _,
        AttnTile.pair_piece q k v rfl rfl _, AttnTile.pair_piece q k v rfl rfl _, AttnTile.pair_piece q k v rfl rfl _,
        AttnTile.pair_piece q k v rfl rfl _, AttnTile.pair_piece q k v rfl rfl _, AttnTile.pair_piece q k v rfl rfl _,
        AttnTile.pair_piece q k v rfl rfl _, AttnTile.pair_piece q k v rfl rfl _, AttnTile.pair_piece q k v rfl rfl _,
        AttnTile.pair_piece q k v rfl rfl _, trivial⟩)
    (View.cover_of_tiledL _ ![256, 128] (by sl_kernel_rfl))]
  funext j
  obtain ⟨p, l, rfl⟩ : ∃ (p : Fin 512) (l : Fin 1024), j = ix2 p l := ⟨j 0, j 1, eq_ix2 j⟩
  refine (AttnTile.res_tile _ _ _ _ _ _ hx hm hg hw p l).trans ?_
  have hj : ((cfg0.win 5).blk t).view.read (Elt Ideal) (out m c) (ix2 p l) = out m c (ix2 (row t p) l) := by
    refine congrArg (out m c) (funext fun a => Fin.ext ?_)
    match a with
    | ⟨0, _⟩ => show win0_5.index t 0 * 512 + 1 * p.val = t.val * 512 + p.val; rw [(idxT t).2.1.1]; omega
    | ⟨1, _⟩ => show win0_5.index t 1 * 1024 + 1 * l.val = l.val; rw [(idxT t).2.1.2]; omega
  rw [hj]
  exact attnRow_congr (seq_blk m c t p) (funext fun k => (ld_g _ _ 0 rfl k).trans (g_blk m c t 0 k))
    (funext fun k => (ld_g _ _ 1 rfl k).trans (g_blk m c t 1 k)) (funext fun k => mod_blk m c t _)
    (funext fun k => mod_blk m c t _) (funext fun k => mod_blk m c t _) (funext fun k => funext fun n => qkv_blk m c t k n)
    (funext fun k => funext fun n => out_blk m c t k n) (tok_blk t p) l

theorem mem_out (t : Fin cfg0.N) (i : S8192x1024.Idx) :
    i ∈ ((cfg0.win 5).blk t).view.set ↔ t.val * 512 ≤ (i 0 : Nat) ∧ (i 0 : Nat) < t.val * 512 + 512 := by
  show i ∈ ((View.whole main_v2_0).slice (win0_5.rect t)).set ↔ _
  rw [View.set_slice_whole, Rect.mem_set_unit]
  have h1 : (i 1 : Nat) < 1024 := (i 1).isLt
  refine ⟨fun h => ?_, fun h a => ?_⟩
  · have : win0_5.index t 0 * 512 ≤ (i 0 : Nat) ∧ (i 0 : Nat) < win0_5.index t 0 * 512 + 512 := h 0
    rw [(idxT t).2.1.1] at this; exact this
  · match a with
    | ⟨0, _⟩ => show win0_5.index t 0 * 512 ≤ (i 0 : Nat) ∧ (i 0 : Nat) < win0_5.index t 0 * 512 + 512
                rw [(idxT t).2.1.1]; exact h
    | ⟨1, _⟩ => show win0_5.index t 1 * 1024 ≤ (i 1 : Nat) ∧ (i 1 : Nat) < win0_5.index t 1 * 1024 + 1024
                rw [(idxT t).2.1.2]
                exact ⟨Nat.zero_le _, h1⟩

theorem cover_out (i : S8192x1024.Idx) :
    ∃ t : Fin cfg0.N, (cfg0.win 5).flush t = true ∧ i ∈ ((cfg0.win 5).blk t).view.set := by
  have h0 : (i 0 : Nat) < 8192 := (i 0).isLt
  have hN : cfg0.N = 16 := N_0
  refine ⟨⟨(i 0 : Nat) / 512, by omega⟩, flush0_5 _, ?_⟩
  rw [mem_out]
  dsimp only
  omega

theorem mem_keys (t : Fin cfg0.N) (i : S8192x1024.Idx) :
    i ∈ ((cfg0.win 6).blk t).view.set ↔ t.val * 512 ≤ (i 0 : Nat) ∧ (i 0 : Nat) < t.val * 512 + 512 := by
  show i ∈ ((View.whole main_v2_1).slice (win0_6.rect t)).set ↔ _
  rw [View.set_slice_whole, Rect.mem_set_unit]
  have h1 : (i 1 : Nat) < 1024 := (i 1).isLt
  refine ⟨fun h => ?_, fun h a => ?_⟩
  · have : win0_6.index t 0 * 512 ≤ (i 0 : Nat) ∧ (i 0 : Nat) < win0_6.index t 0 * 512 + 512 := h 0
    rw [(idxT t).2.2.1.1] at this; exact this
  · match a with
    | ⟨0, _⟩ => show win0_6.index t 0 * 512 ≤ (i 0 : Nat) ∧ (i 0 : Nat) < win0_6.index t 0 * 512 + 512
                rw [(idxT t).2.2.1.1]; exact h
    | ⟨1, _⟩ => show win0_6.index t 1 * 1024 ≤ (i 1 : Nat) ∧ (i 1 : Nat) < win0_6.index t 1 * 1024 + 1024
                rw [(idxT t).2.2.1.2]
                exact ⟨Nat.zero_le _, h1⟩

theorem cover_keys (i : S8192x1024.Idx) :
    ∃ t : Fin cfg0.N, (cfg0.win 6).flush t = true ∧ i ∈ ((cfg0.win 6).blk t).view.set := by
  have h0 : (i 0 : Nat) < 8192 := (i 0).isLt
  have hN : cfg0.N = 16 := N_0
  refine ⟨⟨(i 0 : Nat) / 512, by omega⟩, flush0_6 _, ?_⟩
  rw [mem_keys]
  dsimp only
  omega

theorem mem_vals (t : Fin cfg0.N) (i : S8192x1024.Idx) :
    i ∈ ((cfg0.win 7).blk t).view.set ↔ t.val * 512 ≤ (i 0 : Nat) ∧ (i 0 : Nat) < t.val * 512 + 512 := by
  show i ∈ ((View.whole main_v2_2).slice (win0_7.rect t)).set ↔ _
  rw [View.set_slice_whole, Rect.mem_set_unit]
  have h1 : (i 1 : Nat) < 1024 := (i 1).isLt
  refine ⟨fun h => ?_, fun h a => ?_⟩
  · have : win0_7.index t 0 * 512 ≤ (i 0 : Nat) ∧ (i 0 : Nat) < win0_7.index t 0 * 512 + 512 := h 0
    rw [(idxT t).2.2.2.1] at this; exact this
  · match a with
    | ⟨0, _⟩ => show win0_7.index t 0 * 512 ≤ (i 0 : Nat) ∧ (i 0 : Nat) < win0_7.index t 0 * 512 + 512
                rw [(idxT t).2.2.2.1]; exact h
    | ⟨1, _⟩ => show win0_7.index t 1 * 1024 ≤ (i 1 : Nat) ∧ (i 1 : Nat) < win0_7.index t 1 * 1024 + 1024
                rw [(idxT t).2.2.2.2]
                exact ⟨Nat.zero_le _, h1⟩

theorem cover_vals (i : S8192x1024.Idx) :
    ∃ t : Fin cfg0.N, (cfg0.win 7).flush t = true ∧ i ∈ ((cfg0.win 7).blk t).view.set := by
  have h0 : (i 0 : Nat) < 8192 := (i 0).isLt
  have hN : cfg0.N = 16 := N_0
  refine ⟨⟨(i 0 : Nat) / 512, by omega⟩, flush0_7 _, ?_⟩
  rw [mem_vals]
  dsimp only
  omega

theorem final_out (c : Dev nD) (hf : Finite m c) : (dats m 0 c).arrAt 5 cfg0.N = out m c :=
  (dats m 0 c).arrAt_eq_of_cover 5 (out m c) (fun t _ => flushed_out m c hf t) cover_out

theorem final_keys (c : Dev nD) : (dats m 0 c).arrAt 6 cfg0.N = outPart m c kCol :=
  (dats m 0 c).arrAt_eq_of_cover 6 (outPart m c kCol) (fun t _ => flushed_keys m c t) cover_keys

theorem final_vals (c : Dev nD) : (dats m 0 c).arrAt 7 cfg0.N = outPart m c vCol :=
  (dats m 0 c).arrAt_eq_of_cover 7 (outPart m c vCol) (fun t _ => flushed_vals m c t) cover_vals

theorem frame_ref : Cert.quiescent_AttnRefIdeal := fun m ρ _ =>
  (θ_run Cert.AttnRefIdeal.defs _ _).mono (fun r h => ⟨fun c => ⟨(h c).2.2.2.1, (h c).2.2.2.2⟩,
      Idealize.ShloMosaic.sem_eq_zero_of_no_sems (by decide) r.2⟩)
    (Cert.AttnRefIdeal.Value.run (F := Ideal) m ρ)

/-- Over the extended reals and on finite arguments the kernel and the reference leave the same three arrays. -/
theorem algebraic [Cert.Pre_attn_finite.Facts] : Cert.algebraic_AttnIdeal_AttnRefIdeal_pre_attn_finite := by
  intro m ρ m' ρ' hpre hagree
  refine ⟨fun c => out m c, fun c => outPart m c kCol, fun c => outPart m c vCol, ?_, ?_⟩
  · exact (θ_run Cert.AttnIdeal.defs _ _).mono (fun _ h c => ⟨(h c).1.trans (final_out m c (finite_of_pre m hpre c)),
        (h c).2.1.trans (final_keys m c), (h c).2.2.1.trans (final_vals m c), (h c).2.2.2⟩)
      (Cert.AttnIdeal.Value.run_blocks (F := Ideal) m ρ)
  refine (θ_run Cert.AttnRefIdeal.defs _ _).mono
    (fun _ h c => ⟨(h c).1.trans ?_, (h c).2.1.trans ?_, (h c).2.2.1.trans ?_, (h c).2.2.2⟩)
    (Cert.AttnRefIdeal.Value.run (F := Ideal) m' ρ')
  · rw [Cert.AttnRefIdeal.Read.val_main_v74_eq, (hagree c).1, (hagree c).2.1, (hagree c).2.2.1, (hagree c).2.2.2.1,
      (hagree c).2.2.2.2]
    funext i
    obtain ⟨r, l, rfl⟩ : ∃ (r : Fin 8192) (l : Fin 1024), i = ix2 r l := ⟨i 0, i 1, eq_ix2 i⟩
    exact AttnRefRows.row_apply _ _ _ _ _ r l
  · rw [Cert.AttnRefIdeal.Read.val_main_v75_eq, (hagree c).1, (hagree c).2.1, (hagree c).2.2.1, (hagree c).2.2.2.1]
    funext i
    obtain ⟨r, l, rfl⟩ : ∃ (r : Fin 8192) (l : Fin 1024), i = ix2 r l := ⟨i 0, i 1, eq_ix2 i⟩
    exact AttnRefRows.key_row _ _ _ _ r l
  · rw [Cert.AttnRefIdeal.Read.val_main_v76_eq, (hagree c).1, (hagree c).2.1, (hagree c).2.2.1, (hagree c).2.2.2.1]
    funext i
    obtain ⟨r, l, rfl⟩ : ∃ (r : Fin 8192) (l : Fin 1024), i = ix2 r l := ⟨i 0, i 1, eq_ix2 i⟩
    exact AttnRefRows.val_row _ _ _ _ r l

end Cert.AttnValue

end
-- ==== Proof.NaSpec.lean ====
/-
  THE NEIGHBOURHOOD ATTENTION, over the extended reals: a token of a 32 x 64 grid attends, in each head, to the 512 tokens
  of eight grid rows, with a bias by relative position that masks all but sixteen columns, and to 512 context tokens.
-/
module

public import proofs.«01_k».proof.Proof.AttnSpec

@[expose] public section

set_option maxRecDepth 16384

noncomputable section

namespace Cert.NaSpec

open Idealize.ShloMosaic
open Cert.LayerSpec Cert.AttnSpec
open scoped BigOperators

/-- The first of the eight rows that a grid row attends to, and the first of the sixteen columns of a grid column. -/
abbrev firstRow (r : Fin 32) : Nat := min (r.val - 4) 24
abbrev firstCol (c : Fin 64) : Nat := min (c.val - 8) 48

theorem first_facts (r : Fin 32) : firstRow r ≤ 24 ∧ r.val ≤ firstRow r + 7 ∧ firstRow r ≤ r.val := by
  show min (r.val - 4) 24 ≤ 24 ∧ r.val ≤ min (r.val - 4) 24 + 7 ∧ min (r.val - 4) 24 ≤ r.val
  omega

/-- The grid row and column of a token, and token `t` of its eight rows. -/
abbrev rowOf (p : Fin 2048) : Fin 32 := ⟨p.val / 64, by omega⟩
abbrev colOf (p : Fin 2048) : Fin 64 := ⟨p.val % 64, by omega⟩
abbrev win (p : Fin 2048) (t : Fin 512) : Fin 2048 :=
  ⟨firstRow (rowOf p) * 64 + t.val, by have := first_facts (rowOf p); omega⟩

/-- The row and the column of a token within its eight rows. -/
abbrev wRow (t : Fin 512) : Fin 8 := ⟨t.val / 64, by omega⟩
abbrev wCol (t : Fin 512) : Fin 64 := ⟨t.val % 64, by omega⟩

/-- The bias of grid row `r` and column `c` on row `i` of its window and column `k`, from a table by relative row and
    padded relative column: the table's entry inside the column window, the mask outside. -/
def biasAt (P : Fin 15 → Fin 128 → EReal) (r : Fin 32) (c : Fin 64) (i : Fin 8) (k : Fin 64) : EReal :=
  if firstCol c ≤ k.val ∧ k.val < firstCol c + 16 then
    P ⟨firstRow r + i.val + 7 - r.val, by have := first_facts r; omega⟩ ⟨63 + k.val - c.val, by omega⟩
  else Ideal.ofBits FTy.f32 0xF149F2CA#32

/-- Two rows of scores as one. -/
def join (a b : Fin 512 → EReal) (t : Fin 1024) : EReal :=
  if h : t.val < 512 then a ⟨t.val, h⟩ else b ⟨t.val - 512, by omega⟩

abbrev lo (t : Fin 512) : Fin 1024 := ⟨t.val, by omega⟩
abbrev hi (t : Fin 512) : Fin 1024 := ⟨512 + t.val, by omega⟩

/-- Two sets of values mixed by one softmax. -/
def mixTwo (a b v u : Fin 512 → EReal) : EReal :=
  (∑ t, v t * softmax (join a b) (lo t)) + ∑ t, u t * softmax (join a b) (hi t)

/-- Two sets of values mixed by unnormalised weights, divided by the weights' sum. -/
def quotTwo (a b v u : Fin 512 → EReal) : EReal :=
  Ideal.div ((∑ t, Ideal.exp (a t - max (rowMax a) (rowMax b)) * v t) + ∑ t, Ideal.exp (b t - max (rowMax a) (rowMax b)) * u t)
    ((∑ t, Ideal.exp (a t - max (rowMax a) (rowMax b))) + ∑ t, Ideal.exp (b t - max (rowMax a) (rowMax b)))

/-- The scores of token `p` in head `h`, against the tokens of its window and against the context. -/
def locScore (Q K : Fin 2048 → Fin 1024 → EReal) (P : Fin 16 → Fin 15 → Fin 128 → EReal) (h : Fin 16) (p : Fin 2048) (t : Fin 512) :
    EReal :=
  (∑ d, Q p (col h d) * K (win p t) (col h d)) * Ideal.ofBits FTy.f32 0x3E000000#32
    + biasAt (P h) (rowOf p) (colOf p) (wRow t) (wCol t)

def ctxScore (Q : Fin 2048 → Fin 1024 → EReal) (C : Fin 512 → Fin 1024 → EReal) (h : Fin 16) (p : Fin 2048) (t : Fin 512) : EReal :=
  (∑ d, Q p (col h d) * C t (col h d)) * Ideal.ofBits FTy.f32 0x3E000000#32

/-- What the attention leaves of token `p` in channel `n`. -/
def naAtt (Q K V : Fin 2048 → Fin 1024 → EReal) (CK CV : Fin 512 → Fin 1024 → EReal) (P : Fin 16 → Fin 15 → Fin 128 → EReal)
    (p : Fin 2048) (n : Fin 1024) : EReal :=
  mixTwo (locScore Q K P (headOf n) p) (ctxScore Q CK (headOf n) p) (fun t => V (win p t) n) (fun t => CV t n)

/-- Queries, keys or values (by the column range) of the tokens of a sample. -/
def part (X : Fin 2048 → Fin 1024 → EReal) (g sh sc : Fin 1024 → EReal) (w : Fin 1024 → Fin 3072 → EReal)
    (cols : Fin 1024 → Fin 3072) (p : Fin 2048) (n : Fin 1024) : EReal :=
  proj (normMod (X p) g sh sc) w (cols n)

/-- The attention part of the layer on token `p` of a sample. -/
def naRow (X : Fin 2048 → Fin 1024 → EReal) (g g1 sh sc gt : Fin 1024 → EReal) (w : Fin 1024 → Fin 3072 → EReal)
    (CK CV : Fin 512 → Fin 1024 → EReal) (P : Fin 16 → Fin 15 → Fin 128 → EReal) (wo : Fin 1024 → Fin 1024 → EReal)
    (p : Fin 2048) : Fin 1024 → EReal :=
  gated (X p) gt g1 (proj (naAtt (part X g sh sc w qCol) (part X g sh sc w kCol) (part X g sh sc w vCol) CK CV P p) wo)

/-! ### The two forms of the softmax -/

theorem join_lo (a b : Fin 512 → EReal) (t : Fin 512) : join a b (lo t) = a t := dif_pos t.isLt

theorem join_hi (a b : Fin 512 → EReal) (t : Fin 512) : join a b (hi t) = b t := by
  unfold join
  rw [dif_neg (by show ¬ 512 + t.val < 512; omega)]
  exact congrArg b (Fin.ext (by show 512 + t.val - 512 = t.val; omega))

theorem sum_halves (f : Fin 1024 → EReal) : ∑ t, f t = (∑ t, f (lo t)) + ∑ t, f (hi t) :=
  Fin.sum_univ_add (a := 512) (b := 512) f

theorem forall_halves {p : Fin 1024 → Prop} (h1 : ∀ t, p (lo t)) (h2 : ∀ t, p (hi t)) (t : Fin 1024) : p t := by
  rcases lt_or_ge t.val 512 with h | h
  · exact h1 ⟨t.val, h⟩
  · have := h2 ⟨t.val - 512, by omega⟩
    rwa [show hi ⟨t.val - 512, by omega⟩ = t from Fin.ext (by show 512 + (t.val - 512) = t.val; omega)] at this

theorem rowMax_join (a b : Fin 512 → EReal) : max (rowMax a) (rowMax b) = rowMax (join a b) := by
  refine eq_of_forall_ge_iff fun c => ?_
  unfold rowMax
  rw [max_le_iff, Finset.fold_max_le, Finset.fold_max_le, Finset.fold_max_le]
  constructor
  · rintro ⟨⟨h, h1⟩, -, h2⟩
    refine ⟨h, fun t _ => forall_halves (p := fun t => join a b t ≤ c) (fun t => ?_) (fun t => ?_) t⟩
    · rw [join_lo]; exact h1 t (Finset.mem_univ _)
    · rw [join_hi]; exact h2 t (Finset.mem_univ _)
  · rintro ⟨h, h1⟩
    refine ⟨⟨h, fun t _ => ?_⟩, h, fun t _ => ?_⟩
    · rw [← join_lo a b t]; exact h1 _ (Finset.mem_univ _)
    · rw [← join_hi a b t]; exact h1 _ (Finset.mem_univ _)

/-- On real scores, the quotient form is the mix by the softmax. -/
theorem quotTwo_eq {a b : Fin 512 → EReal} (v u : Fin 512 → EReal) (ha : ∀ t, IsReal (a t)) (hb : ∀ t, IsReal (b t)) :
    quotTwo a b v u = mixTwo a b v u := by
  have h : ∀ t, IsReal (join a b t) := forall_halves (fun t => by rw [join_lo]; exact ha t) (fun t => by rw [join_hi]; exact hb t)
  have e := mixQuot_eq (n := 1023) (s := join a b) (join v u) h
  rw [sum_halves] at e
  simp only [join_lo, join_hi] at e
  rw [mixTwo, ← e, mixQuot, sum_halves, sum_halves]
  simp only [join_lo, join_hi]
  rw [quotTwo, rowMax_join]

theorem mask_real : IsReal (Ideal.ofBits FTy.f32 0xF149F2CA#32) := by
  refine ⟨-(13234890 * (2 : ℝ) ^ 76), ?_⟩
  simp [Ideal.ofBits, Ideal.ieee]

theorem isReal_ite {p : Prop} [Decidable p] {a b : EReal} (ha : IsReal a) (hb : IsReal b) : IsReal (if p then a else b) := by
  split
  · exact ha
  · exact hb

theorem isReal_bias {P : Fin 15 → Fin 128 → EReal} (hP : ∀ a b, IsReal (P a b)) (r : Fin 32) (c : Fin 64) (i : Fin 8) (k : Fin 64) :
    IsReal (biasAt P r c i k) :=
  isReal_ite (hP _ _) mask_real

theorem isReal_loc {Q K : Fin 2048 → Fin 1024 → EReal} {P : Fin 16 → Fin 15 → Fin 128 → EReal} (hQ : ∀ p n, IsReal (Q p n))
    (hK : ∀ p n, IsReal (K p n)) (hP : ∀ h a b, IsReal (P h a b)) (h : Fin 16) (p : Fin 2048) (t : Fin 512) :
    IsReal (locScore Q K P h p t) :=
  ((IsReal.sum _ fun d => (hQ p _).mul (hK _ _)).mul isReal_eighth).add (isReal_bias (hP h) _ _ _ _)

theorem isReal_ctx {Q : Fin 2048 → Fin 1024 → EReal} {C : Fin 512 → Fin 1024 → EReal} (hQ : ∀ p n, IsReal (Q p n))
    (hC : ∀ p n, IsReal (C p n)) (h : Fin 16) (p : Fin 2048) (t : Fin 512) : IsReal (ctxScore Q C h p t) :=
  (IsReal.sum _ fun d => (hQ p _).mul (hC _ _)).mul isReal_eighth

/-- Scaling the queries scales the products. -/
theorem sum_scaled {n : Nat} (q k : Fin n → EReal) :
    ∑ d, q d * Ideal.ofBits FTy.f32 0x3E000000#32 * k d = (∑ d, q d * k d) * Ideal.ofBits FTy.f32 0x3E000000#32 := by
  obtain ⟨r, hr⟩ := isReal_eighth
  rw [sum_mul_const _ _ eighth_nonneg (by rw [hr]; exact EReal.coe_ne_top r)]
  exact Finset.sum_congr rfl fun d _ => by rw [mul_right_comm]

/-- A sum over the rows and columns of a window. -/
theorem sum_window (f : Fin 8 → Fin 64 → EReal) : ∑ i, ∑ k, f i k = ∑ t, f (wRow t) (wCol t) := by
  rw [← Finset.sum_product', Finset.univ_product_univ]
  refine (Equiv.sum_comp (finProdFinEquiv (m := 8) (n := 64)).symm fun x => f x.1 x.2).symm.trans ?_
  exact Finset.sum_congr rfl fun t _ => rfl

end Cert.NaSpec

end
-- ==== Proof.NaBlock.lean ====
/-
  The payloads of the neighbourhood attention's three kernels, read at an index: the projection, an entry of the bias table,
  one pair of heads on one grid row, and the gated residual.
-/
module

public import proofs.«01_k».proof.Proof.NaSpec
public import proofs.«01_k».proof.Proof.Gen.NaIdeal.Frame
public import Idealize.ShloMosaic.Lib.Pointwise

@[expose] public section

set_option maxRecDepth 16384

noncomputable section

namespace Cert.NaTile

open Idealize.ShloMosaic Idealize.ShloMosaic.TcCoe Idealize.SL.Sem
open Idealize.ShloMosaic.Pointwise
open Cert.NaIdeal Cert.NaIdeal.Gen Cert.LayerSpec Cert.AttnSpec Cert.NaSpec

/-- Entry `o + k` of a modulation row. -/
abbrev modAt (md : Vec Ideal S1x1x6144 .f32) (o : Nat) (ho : o + 1024 ≤ 6144) (k : Fin 1024) : EReal :=
  md (ix3 0 0 ⟨o + k, by omega⟩)

abbrev shift (md : Vec Ideal S1x1x6144 .f32) (k : Fin 1024) : EReal := md (ix3 0 0 ⟨k.val, by omega⟩)

section Projection

variable (x : Vec Ideal S512x1024 .f32) (md : Vec Ideal S1x1x6144 .f32) (g : Vec Ideal S1x1024 .f32) (w : Vec Ideal S1024x3072 .bf16)

/-- Row `p` of the joint projection, at column `n`. -/
def qkv (p : Fin 512) (n : Fin 3072) : EReal :=
  proj (normMod (fun k => x (ix2 p k)) (fun k => g (ix2 0 k)) (shift md) (modAt md 1024 (by decide))) (fun k n => w (ix2 k n)) n

theorem qkv_apply (p : Fin 512) (n : Fin 3072) : k0_pay1 (F := Ideal) x md g w (ix2 p n) = qkv x md g w p n := by
  pointwise [k0_pay1]
  rfl

theorem q_apply (p : Fin 512) (n : Fin 1024) :
    k0_pay2 (F := Ideal) x md g w (ix2 p n) = qkv x md g w p (qCol n) * Ideal.ofBits FTy.f32 0x3E000000#32 := by
  rw [← qkv_apply]; pointwise [k0_pay2]

theorem k_apply (p : Fin 512) (n : Fin 1024) :
    k0_pay3 (F := Ideal) x md g w (ix2 p n) = qkv x md g w p (kCol n) := by
  rw [← qkv_apply]; pointwise [k0_pay3]

theorem v_apply (p : Fin 512) (n : Fin 1024) :
    k0_pay4 (F := Ideal) x md g w (ix2 p n) = qkv x md g w p (vCol n) := by
  rw [← qkv_apply]; pointwise [k0_pay4]

end Projection

/-! ### The bias table -/

/-- The column window's mask, as the kernel computes it from a lane and a grid column. -/
theorem window_eq : ∀ (c : Fin 64) (l : Fin 128),
    IntOp.andi
        (IntOp.cmpi CmpIPredicate.sge (IntOp.andi (BitVec.ofNat 32 l.val) 63#32)
          (IntOp.minsi (48#32) (IntOp.maxsi (0#32) (IntOp.subi (BitVec.ofNat 32 c.val) 8#32))))
        (IntOp.cmpi CmpIPredicate.slt (IntOp.andi (BitVec.ofNat 32 l.val) 63#32)
          (IntOp.addi (IntOp.minsi (48#32) (IntOp.maxsi (0#32) (IntOp.subi (BitVec.ofNat 32 c.val) 8#32))) 16#32))
      = if firstCol c ≤ l.val % 64 ∧ l.val % 64 < firstCol c + 16 then 1#1 else 0#1 := by
  decide +kernel

/-- The lane mask is set on the pair's first head. -/
theorem mask_eq : ∀ l : Fin 128, IntOp.cmpi CmpIPredicate.slt (BitVec.ofNat 32 l.val) 64#32 = if l.val < 64 then 1#1 else 0#1 := by
  decide

theorem select_ite {p : Prop} [Decidable p] (a b : EReal) : Scalar.select (if p then 1#1 else 0#1) a b = if p then a else b := by
  by_cases h : p
  · rw [if_pos h, if_pos h]; rfl
  · rw [if_neg h, if_neg h]; rfl

theorem roll_apply (a b : Vec Ideal S1x1x128 .f32) (c : Fin 64) (l : Fin 128) :
    k1_pay4 (F := Ideal) a b (ix4 0 0 c l)
      = if firstCol c ≤ l.val % 64 ∧ l.val % 64 < firstCol c + 16 then
          (if l.val < 64 then a (ix3 0 0 ⟨63 + l.val % 64 - c.val, by omega⟩) else b (ix3 0 0 ⟨63 + l.val % 64 - c.val, by omega⟩))
        else Ideal.ofBits FTy.f32 0xF149F2CA#32 := by
  pointwise [k1_pay4, k1_pay2, k1_pay3]
  rw [window_eq, mask_eq, select_ite, select_ite]
  by_cases h : l.val < 64
  · rw [if_pos h, if_pos h]
    have e : (⟨(l.val + 128 - (65 + c.val) % 128) % 128, Nat.mod_lt _ (by decide)⟩ : Fin 128) = ⟨63 + l.val % 64 - c.val, by omega⟩ :=
      Fin.ext (by show (l.val + 128 - (65 + c.val) % 128) % 128 = 63 + l.val % 64 - c.val; omega)
    exact congrArg (fun k => if firstCol c ≤ l.val % 64 ∧ l.val % 64 < firstCol c + 16 then a (ix3 0 0 k) else Ideal.ofBits FTy.f32 0xF149F2CA#32) e
  · rw [if_neg h, if_neg h]
    have e : (⟨(l.val + 128 - (1 + c.val) % 128) % 128, Nat.mod_lt _ (by decide)⟩ : Fin 128) = ⟨63 + l.val % 64 - c.val, by omega⟩ :=
      Fin.ext (by show (l.val + 128 - (1 + c.val) % 128) % 128 = 63 + l.val % 64 - c.val; omega)
    exact congrArg (fun k => if firstCol c ≤ l.val % 64 ∧ l.val % 64 < firstCol c + 16 then b (ix3 0 0 k) else Ideal.ofBits FTy.f32 0xF149F2CA#32) e

/-! ### The gated residual -/

theorem res_apply (x : Vec Ideal S512x1024 .f32) (md : Vec Ideal S1x1x6144 .f32) (a : Vec Ideal S512x1024 .bf16)
    (wo : Vec Ideal S1024x1024 .bf16) (g1 : Vec Ideal S1x1024 .f32) (p : Fin 512) (l : Fin 1024) :
    k2_pay3 (F := Ideal) md a wo x g1 (ix2 p l)
      = gated (fun k => x (ix2 p k)) (modAt md 2048 (by decide)) (fun k => g1 (ix2 0 k))
          (proj (fun n => a (ix2 p n)) (fun n l => wo (ix2 n l))) l := by
  pointwise [k2_pay3]
  rfl

/-! ### A pair of heads on one grid row -/

/-- Grid column `p`, in the rows of the pair's first head and of its second. -/
abbrev up (p : Fin 64) : Fin 128 := ⟨p.val, by omega⟩
abbrev dn (p : Fin 64) : Fin 128 := ⟨64 + p.val, by omega⟩
/-- Channel `d` of the pair's head `a`, and the head, of the two, of a lane. -/
abbrev lane (a : Fin 2) (d : Fin 64) : Fin 128 := ⟨a.val * 64 + d.val, by omega⟩
abbrev half (l : Fin 128) : Fin 2 := ⟨l.val / 64, by omega⟩

theorem sum_lo (f g : Fin 128 → EReal) :
    ∑ c : Fin 128, Scalar.select (IntOp.cmpi CmpIPredicate.slt (BitVec.ofNat 32 c.val) 64#32) (f c) 0 * g c
      = ∑ d, f (lane 0 d) * g (lane 0 d) := by
  refine (Fin.sum_univ_add (a := 64) (b := 64) _).trans ?_
  rw [Finset.sum_eq_zero (s := Finset.univ) (f := fun i : Fin 64 => Scalar.select _ (f (Fin.natAdd 64 i)) (0 : EReal) * g (Fin.natAdd 64 i)),
    add_zero]
  · refine Finset.sum_congr rfl fun d _ => ?_
    rw [mask_eq, select_ite, if_pos (show (Fin.castAdd 64 d).val < 64 from d.isLt)]
    exact congrArg (fun c => f c * g c) (Fin.ext (show d.val = 0 * 64 + d.val by omega))
  · intro d _
    rw [mask_eq, select_ite, if_neg (show ¬ (Fin.natAdd 64 d).val < 64 by show ¬ (64 + d.val < 64); omega), zero_mul]

theorem sum_hi (f g : Fin 128 → EReal) :
    ∑ c : Fin 128, Scalar.select (IntOp.cmpi CmpIPredicate.slt (BitVec.ofNat 32 c.val) 64#32) 0 (f c) * g c
      = ∑ d, f (lane 1 d) * g (lane 1 d) := by
  refine (Fin.sum_univ_add (a := 64) (b := 64) _).trans ?_
  rw [Finset.sum_eq_zero (s := Finset.univ) (f := fun i : Fin 64 => Scalar.select _ (0 : EReal) (f (Fin.castAdd 64 i)) * g (Fin.castAdd 64 i)),
    zero_add]
  · refine Finset.sum_congr rfl fun d _ => ?_
    rw [mask_eq, select_ite, if_neg (show ¬ (Fin.natAdd 64 d).val < 64 by show ¬ (64 + d.val < 64); omega)]
    exact congrArg (fun c => f c * g c) (Fin.ext (show 64 + d.val = 1 * 64 + d.val by omega))
  · intro d _
    rw [mask_eq, select_ite, if_pos (show (Fin.castAdd 64 d).val < 64 from d.isLt), zero_mul]

theorem split_lo (q : Vec Ideal S64x128 .bf16) (p : Fin 64) (c : Fin 128) :
    k2_pay72 (F := Ideal) k2_pay1 q (ix2 (up p) c)
      = Scalar.select (IntOp.cmpi CmpIPredicate.slt (BitVec.ofNat 32 c.val) 64#32) (q (ix2 p c)) 0 := by
  pointwise [k2_pay72, k2_pay1]

theorem split_hi (q : Vec Ideal S64x128 .bf16) (p : Fin 64) (c : Fin 128) :
    k2_pay72 (F := Ideal) k2_pay1 q (ix2 (dn p) c)
      = Scalar.select (IntOp.cmpi CmpIPredicate.slt (BitVec.ofNat 32 c.val) 64#32) 0 (q (ix2 p c)) := by
  pointwise [k2_pay72, k2_pay1]

/-- Four tiles of 128 lanes side by side. -/
theorem tiles (f : Fin 4 → Fin 128 → EReal) (t : Fin 512) :
    (if h : t.val < 128 then f 0 ⟨t.val, h⟩
      else if h : t.val - 128 < 128 then f 1 ⟨t.val - 128, h⟩
      else if h : t.val - 128 - 128 < 128 then f 2 ⟨t.val - 128 - 128, h⟩
      else f 3 ⟨t.val - 128 - 128 - 128, by omega⟩) = f ⟨t.val / 128, by omega⟩ ⟨t.val % 128, by omega⟩ := by
  have e : ∀ (a b : Fin 4) (x y : Fin 128), a.val = b.val → x.val = y.val → f a x = f b y := fun a b x y h1 h2 => by
    rw [Fin.ext h1, Fin.ext h2]
  by_cases h0 : t.val < 128
  · rw [dif_pos h0]; exact e _ _ _ _ (show 0 = t.val / 128 by omega) (show t.val = t.val % 128 by omega)
  rw [dif_neg h0]
  by_cases h1 : t.val - 128 < 128
  · rw [dif_pos h1]; exact e _ _ _ _ (show 1 = t.val / 128 by omega) (show t.val - 128 = t.val % 128 by omega)
  rw [dif_neg h1]
  by_cases h2 : t.val - 128 - 128 < 128
  · rw [dif_pos h2]; exact e _ _ _ _ (show 2 = t.val / 128 by omega) (show t.val - 128 - 128 = t.val % 128 by omega)
  rw [dif_neg h2]
  exact e _ _ _ _ (show 3 = t.val / 128 by omega) (show t.val - 128 - 128 - 128 = t.val % 128 by omega)

abbrev tileOf (t : Fin 512) : Fin 4 := ⟨t.val / 128, by omega⟩
abbrev laneOf (t : Fin 512) : Fin 128 := ⟨t.val % 128, by omega⟩

theorem loc_lo (qs : Vec Ideal S128x128 .bf16) (B : Fin 4 → Fin 2 → Vec Ideal S1x64x128 .f32) (k : Vec Ideal S512x128 .bf16)
    (p : Fin 64) (t : Fin 512) :
    k2_pay75 (F := Ideal) qs (k2_pay73 (B 0 0) (B 0 1)) (k2_pay74 (B 1 0)) (B 1 1) (B 2 0) (B 2 1) (B 3 0) (B 3 1) k (ix2 (up p) t)
      = (∑ c, qs (ix2 (up p) c) * k (ix2 t c)) + B (tileOf t) 0 (ix3 0 p (laneOf t)) := by
  pointwise [k2_pay75, k2_pay73, k2_pay74]
  exact congrArg (_ + ·) (tiles (fun j l => B j 0 (ix3 0 p l)) t)

theorem loc_hi (qs : Vec Ideal S128x128 .bf16) (B : Fin 4 → Fin 2 → Vec Ideal S1x64x128 .f32) (k : Vec Ideal S512x128 .bf16)
    (p : Fin 64) (t : Fin 512) :
    k2_pay75 (F := Ideal) qs (k2_pay73 (B 0 0) (B 0 1)) (k2_pay74 (B 1 0)) (B 1 1) (B 2 0) (B 2 1) (B 3 0) (B 3 1) k (ix2 (dn p) t)
      = (∑ c, qs (ix2 (dn p) c) * k (ix2 t c)) + B (tileOf t) 1 (ix3 0 p (laneOf t)) := by
  pointwise [k2_pay75, k2_pay73, k2_pay74]
  exact congrArg (_ + ·) (tiles (fun j l => B j 1 (ix3 0 p l)) t)

theorem ctx_apply (qs : Vec Ideal S128x128 .bf16) (k : Vec Ideal S512x128 .bf16) (r : Fin 128) (t : Fin 512) :
    k2_pay76 (F := Ideal) qs k (ix2 r t) = ∑ c, qs (ix2 r c) * k (ix2 t c) := by
  pointwise [k2_pay76]

theorem mix_apply (s c : Vec Ideal S128x512 .f32) (v u : Vec Ideal S512x128 .bf16) (p : Fin 64) (l : Fin 128) :
    k2_pay77 (F := Ideal) k2_pay1 s c v u (ix2 p l)
      = Scalar.select (IntOp.cmpi CmpIPredicate.slt (BitVec.ofNat 32 l.val) 64#32)
          (quotTwo (fun t => s (ix2 (up p) t)) (fun t => c (ix2 (up p) t)) (fun t => v (ix2 t l)) (fun t => u (ix2 t l)))
          (quotTwo (fun t => s (ix2 (dn p) t)) (fun t => c (ix2 (dn p) t)) (fun t => v (ix2 t l)) (fun t => u (ix2 t l))) := by
  pointwise [k2_pay77, k2_pay1]
  rfl

/-- One pair of heads on one grid row: the stored block, from the row's queries, the window's keys and values, the context's,
    and the eight tiles of bias. -/
def pair (q : Vec Ideal S64x128 .bf16) (B : Fin 4 → Fin 2 → Vec Ideal S1x64x128 .f32) (k ck v cv : Vec Ideal S512x128 .bf16) :
    Vec Ideal S64x128 .bf16 :=
  k2_pay77 (F := Ideal) k2_pay1
    (k2_pay75 (k2_pay72 k2_pay1 q) (k2_pay73 (B 0 0) (B 0 1)) (k2_pay74 (B 1 0)) (B 1 1) (B 2 0) (B 2 1) (B 3 0) (B 3 1) k)
    (k2_pay76 (k2_pay72 k2_pay1 q) ck) v cv

theorem pair_apply (q : Vec Ideal S64x128 .bf16) (B : Fin 4 → Fin 2 → Vec Ideal S1x64x128 .f32) (k ck v cv : Vec Ideal S512x128 .bf16)
    (p : Fin 64) (l : Fin 128) :
    pair q B k ck v cv (ix2 p l)
      = quotTwo (fun t => (∑ d, q (ix2 p (lane (half l) d)) * k (ix2 t (lane (half l) d))) + B (tileOf t) (half l) (ix3 0 p (laneOf t)))
          (fun t => ∑ d, q (ix2 p (lane (half l) d)) * ck (ix2 t (lane (half l) d))) (fun t => v (ix2 t l)) (fun t => cv (ix2 t l)) := by
  unfold pair
  rw [mix_apply]
  simp only [loc_lo, loc_hi, ctx_apply, split_lo, split_hi, sum_lo, sum_hi]
  rw [mask_eq, select_ite]
  by_cases h : l.val < 64
  · rw [if_pos h, show half l = 0 from Fin.ext (Nat.div_eq_of_lt h)]
  · rw [if_neg h, show half l = 1 from Fin.ext (show l.val / 64 = 1 by omega)]

end Cert.NaTile

end
-- ==== Proof.NaTile.lean ====
/-
  What the three kernels leave in their blocks: the bias table of one head, and the attention of the eight grid rows of a block,
  pair of heads by pair of heads.
-/
module

public import proofs.«01_k».proof.Proof.NaBlock
public import Idealize.ShloMosaic.Lib.Pipeline.Value
public import Idealize.ShloMosaic.Lib.Pipeline.ReadBack
public import Idealize.ShloMosaic.Lib.WholeRead

@[expose] public section

set_option maxRecDepth 16384

noncomputable section

namespace Cert.NaTile

open Idealize.ShloMosaic Idealize.ShloMosaic.TcCoe Idealize.SL.Sem
open Idealize.ShloMosaic.Pointwise
open Cert.NaIdeal Cert.NaIdeal.Gen Cert.LayerSpec Cert.AttnSpec Cert.NaSpec

/-! ### The bias table -/

/-- The bias of one head: entry `d`, grid column `c` and lane `l` is the padded table's at row `d` (or `d + 1`, in the upper half of
    the lanes) and relative column, inside the column window, and the mask outside. -/
def table (x : Vec Ideal S1x15x128 .f32) : Vec Ideal S1x14x64x128 .f32 := fun i =>
  if firstCol (i 2) ≤ (i 3).val % 64 ∧ (i 3).val % 64 < firstCol (i 2) + 16 then
    x (ix3 0 ⟨(i 1).val + (i 3).val / 64, by have h1 : (i 1).val < 14 := (i 1).isLt; have h3 : (i 3).val < 128 := (i 3).isLt; omega⟩
      ⟨63 + (i 3).val % 64 - (i 2).val, by omega⟩)
  else Ideal.ofBits FTy.f32 0xF149F2CA#32

theorem ld_row (x : Vec Ideal S1x15x128 .f32) {d : Nat} (inb : ∀ a, (![0, d, 0] : Fin 3 → Nat) a + (![1, 1, 128] : Fin 3 → Nat) a ≤ S1x15x128.size a)
    (D : Fin 15) (hD : D.val = d) (l : Fin 128) : View.ld x (Rect.unit ![0, d, 0] ![1, 1, 128] inb) (ix3 0 0 l) = x (ix3 0 D l) := by
  refine congrArg x (funext fun a => Fin.ext ?_)
  match a with
  | ⟨0, _⟩ => rfl
  | ⟨1, _⟩ => show d + 1 * 0 = D.val; omega
  | ⟨2, _⟩ => show 0 + 1 * l.val = l.val; omega

theorem roll_piece (x : Vec Ideal S1x15x128 .f32) {d e : Nat} (he : e = d + 1)
    (i0 : ∀ a, (![0, d, 0] : Fin 3 → Nat) a + (![1, 1, 128] : Fin 3 → Nat) a ≤ S1x15x128.size a)
    (i1 : ∀ a, (![0, e, 0] : Fin 3 → Nat) a + (![1, 1, 128] : Fin 3 → Nat) a ≤ S1x15x128.size a)
    (inb : ∀ a, (![0, d, 0, 0] : Fin 4 → Nat) a + (![1, 1, 64, 128] : Fin 4 → Nat) a ≤ S1x14x64x128.size a) (y : S1x1x64x128.Idx) :
    k1_pay4 (F := Ideal) (View.ld x (Rect.unit ![0, d, 0] ![1, 1, 128] i0)) (View.ld x (Rect.unit ![0, e, 0] ![1, 1, 128] i1)) y
      = table x ((Rect.unit (s := S1x14x64x128) ![0, d, 0, 0] ![1, 1, 64, 128] inb).emb y) := by
  obtain ⟨p, l, rfl⟩ : ∃ (p : Fin 64) (l : Fin 128), y = ix4 0 0 p l := ⟨y 2, y 3, by
    refine (eq_ix4 y).trans ?_
    rw [show y 0 = (0 : Fin 1) from Subsingleton.elim (α := Fin 1) _ _, show y 1 = (0 : Fin 1) from Subsingleton.elim (α := Fin 1) _ _]⟩
  have hd : d + 1 ≤ 14 := inb 1
  have hy : (Rect.unit (s := S1x14x64x128) ![0, d, 0, 0] ![1, 1, 64, 128] inb).emb (ix4 0 0 p l)
      = ix4 (0 : Fin 1) (⟨d, by omega⟩ : Fin 14) p l := by
    refine funext fun a => Fin.ext ?_
    match a with
    | ⟨0, _⟩ => rfl
    | ⟨1, _⟩ => show d + 1 * 0 = d; omega
    | ⟨2, _⟩ => show 0 + 1 * p.val = p.val; omega
    | ⟨3, _⟩ => show 0 + 1 * l.val = l.val; omega
  rw [roll_apply, hy]
  show (if _ then _ else _) = if _ then _ else _
  by_cases h : l.val < 64
  · rw [if_pos h, ld_row x i0 ⟨d + l.val / 64, by omega⟩ (show d + l.val / 64 = d by omega)]
    rfl
  · rw [if_neg h, ld_row x i1 ⟨d + l.val / 64, by omega⟩ (show d + l.val / 64 = e by omega)]
    rfl

theorem table_block (x : Vec Ideal S1x15x128 .f32) : out1_1 (F := Ideal) x = table x := by
  funext y
  have hc := fun p0 p1 p2 p3 p4 p5 p6 p7 p8 p9 p10 p11 p12 p13 => cover1_1 (F := Ideal) p0 p1 p2 p3 p4 p5 p6 p7 p8 p9 p10 p11 p12 p13 y
  unfold_out out1_1
  refine View.canon_apply_of_pieces (table x) _ (View.PiecesOf.mem ?_) _ (hc _ _ _ _ _ _ _ _ _ _ _ _ _ _)
  exact ⟨roll_piece x (d := 13) (e := 14) rfl (by decide) (by decide) (by decide),
    roll_piece x (d := 12) (e := 13) rfl (by decide) (by decide) (by decide),
    roll_piece x (d := 11) (e := 12) rfl (by decide) (by decide) (by decide),
    roll_piece x (d := 10) (e := 11) rfl (by decide) (by decide) (by decide),
    roll_piece x (d := 9) (e := 10) rfl (by decide) (by decide) (by decide),
    roll_piece x (d := 8) (e := 9) rfl (by decide) (by decide) (by decide),
    roll_piece x (d := 7) (e := 8) rfl (by decide) (by decide) (by decide),
    roll_piece x (d := 6) (e := 7) rfl (by decide) (by decide) (by decide),
    roll_piece x (d := 5) (e := 6) rfl (by decide) (by decide) (by decide),
    roll_piece x (d := 4) (e := 5) rfl (by decide) (by decide) (by decide),
    roll_piece x (d := 3) (e := 4) rfl (by decide) (by decide) (by decide),
    roll_piece x (d := 2) (e := 3) rfl (by decide) (by decide) (by decide),
    roll_piece x (d := 1) (e := 2) rfl (by decide) (by decide) (by decide),
    roll_piece x (d := 0) (e := 1) rfl (by decide) (by decide) (by decide), trivial⟩

/-! ### The heads of a block of eight grid rows -/

/-- Grid row `k` of the eight of block `b`, and token `t` of the eight rows that grid row `r` attends to. -/
abbrev gridRow (b : Fin 4) (k : Fin 8) : Fin 32 := ⟨8 * b.val + k.val, by omega⟩
abbrev winTok (r : Fin 32) (t : Fin 512) : Fin 2048 := ⟨firstRow r * 64 + t.val, by have := first_facts r; omega⟩
/-- The first of the table's entries that a grid row and a head read, moved on by `j` pairs of rows. -/
abbrev entry (h : Fin 16) (r : Fin 32) (j : Fin 4) : Fin 224 :=
  ⟨14 * h.val + (firstRow r + 7 - r.val) + 2 * j.val, by have := first_facts r; omega⟩
abbrev rowIn (y : Fin 512) : Fin 8 := ⟨y.val / 64, by omega⟩
abbrev colIn (y : Fin 512) : Fin 64 := ⟨y.val % 64, by omega⟩

/-- What the heads leave of the block `b` of a sample, from its queries, the sample's keys and values, the context's, and the
    bias table. -/
def heads (b : Fin 4) (q : Vec Ideal S512x1024 .bf16) (k v : Vec Ideal S2048x1024 .bf16) (ck cv : Vec Ideal S512x1024 .bf16)
    (T : Vec Ideal S224x64x128 .f32) : Vec Ideal S512x1024 .bf16 := fun y =>
  quotTwo
    (fun t => (∑ d, q (ix2 (y 0) (col (headOf (y 1)) d)) * k (ix2 (winTok (gridRow b (rowIn (y 0))) t) (col (headOf (y 1)) d)))
      + T (ix3 (entry (headOf (y 1)) (gridRow b (rowIn (y 0))) (tileOf t)) (colIn (y 0)) (laneOf t)))
    (fun t => ∑ d, q (ix2 (y 0) (col (headOf (y 1)) d)) * ck (ix2 t (col (headOf (y 1)) d)))
    (fun t => v (ix2 (winTok (gridRow b (rowIn (y 0))) t) (y 1))) (fun t => cv (ix2 t (y 1)))

abbrev inBlk (k : Fin 8) (p : Fin 64) : Fin 512 := ⟨64 * k.val + p.val, by omega⟩
abbrev inPair (j : Fin 8) (l : Fin 128) : Fin 1024 := ⟨128 * j.val + l.val, by omega⟩
abbrev headIn (j : Fin 8) (a : Fin 2) : Fin 16 := ⟨2 * j.val + a.val, by omega⟩

theorem pair_block (b : Fin 4) (kk j : Fin 8) (Q : Vec Ideal S512x1024 .bf16) (K V : Vec Ideal S2048x1024 .bf16)
    (CK CV : Vec Ideal S512x1024 .bf16) (T : Vec Ideal S224x64x128 .f32)
    (q : Vec Ideal S64x128 .bf16) (B : Fin 4 → Fin 2 → Vec Ideal S1x64x128 .f32) (k ck v cv : Vec Ideal S512x128 .bf16)
    (hq : ∀ p l, q (ix2 p l) = Q (ix2 (inBlk kk p) (inPair j l)))
    (hB : ∀ jj a p l, B jj a (ix3 0 p l) = T (ix3 (entry (headIn j a) (gridRow b kk) jj) p l))
    (hk : ∀ t l, k (ix2 t l) = K (ix2 (winTok (gridRow b kk) t) (inPair j l)))
    (hck : ∀ t l, ck (ix2 t l) = CK (ix2 t (inPair j l)))
    (hv : ∀ t l, v (ix2 t l) = V (ix2 (winTok (gridRow b kk) t) (inPair j l)))
    (hcv : ∀ t l, cv (ix2 t l) = CV (ix2 t (inPair j l))) (p : Fin 64) (l : Fin 128) :
    pair q B k ck v cv (ix2 p l) = heads b Q K V CK CV T (ix2 (inBlk kk p) (inPair j l)) := by
  rw [pair_apply]
  simp only [hq, hB, hk, hck, hv, hcv]
  have e1 : rowIn (inBlk kk p) = kk := Fin.ext (show (64 * kk.val + p.val) / 64 = kk.val by omega)
  have e2 : colIn (inBlk kk p) = p := Fin.ext (show (64 * kk.val + p.val) % 64 = p.val by omega)
  have e3 : headOf (inPair j l) = headIn j (half l) := Fin.ext (show (128 * j.val + l.val) / 64 = 2 * j.val + l.val / 64 by omega)
  have e4 : ∀ d : Fin 64, inPair j (lane (half l) d) = col (headOf (inPair j l)) d := fun d =>
    Fin.ext (show 128 * j.val + (l.val / 64 * 64 + d.val) = (128 * j.val + l.val) / 64 * 64 + d.val by omega)
  show _ = quotTwo
    (fun t => (∑ d, Q (ix2 (inBlk kk p) (col (headOf (inPair j l)) d))
        * K (ix2 (winTok (gridRow b (rowIn (inBlk kk p))) t) (col (headOf (inPair j l)) d)))
      + T (ix3 (entry (headOf (inPair j l)) (gridRow b (rowIn (inBlk kk p))) (tileOf t)) (colIn (inBlk kk p)) (laneOf t)))
    (fun t => ∑ d, Q (ix2 (inBlk kk p) (col (headOf (inPair j l)) d)) * CK (ix2 t (col (headOf (inPair j l)) d)))
    (fun t => V (ix2 (winTok (gridRow b (rowIn (inBlk kk p))) t) (inPair j l))) (fun t => CV (ix2 t (inPair j l)))
  simp only [e4]
  rw [e1, e2, e3]

theorem stored_apply (w : Vec Ideal S64x128 .bf16) (p : Fin 64) (l : Fin 128) : k2_pay2 (F := Ideal) w (ix2 p l) = w (ix2 p l) := by
  pointwise [k2_pay2]

/-- A load of a block of rows and columns, at an index. -/
theorem rd {n m a b : Nat} {e : EltTy} {M : Memref sig .tc .vmem ⟨2, ![n, m]⟩ e} (h : M.IsWhole) (X : Vec Ideal ⟨2, ![n, m]⟩ e)
    {off : Fin 2 → Nat} (inb : ∀ x, off x + (![a, b] : Fin 2 → Nat) x ≤ (⟨2, ![n, m]⟩ : Shape).size x) {r0 c0 : Nat} (ho : off = ![r0, c0])
    (p : Fin a) (l : Fin b) (P : Fin n) (L : Fin m) (hP : P.val = r0 + p.val) (hL : L.val = c0 + l.val) :
    M.view.readAt (Elt Ideal) (Rect.unit (s := ⟨2, ![n, m]⟩) off ![a, b] inb).toLoadRect (h.unread X) (ix2 p l) = X (ix2 P L) := by
  subst ho
  rw [h.readAt_unread]
  refine congrArg X (funext fun x => Fin.ext ?_)
  match x with
  | ⟨0, _⟩ => show r0 + 1 * p.val = P.val; omega
  | ⟨1, _⟩ => show c0 + 1 * l.val = L.val; omega

theorem rd3 {M : Memref sig .tc .vmem S224x64x128 .f32} (h : M.IsWhole) (X : Vec Ideal S224x64x128 .f32)
    {off : Fin 3 → Nat} (inb : ∀ x, off x + (![1, 64, 128] : Fin 3 → Nat) x ≤ S224x64x128.size x) {r0 : Nat} (ho : off = ![r0, 0, 0])
    (p : Fin 64) (l : Fin 128) (R : Fin 224) (hR : R.val = r0) :
    M.view.readAt (Elt Ideal) (Rect.unit (s := S224x64x128) off ![1, 64, 128] inb).toLoadRect (h.unread X) (ix3 0 p l) = X (ix3 R p l) := by
  subst ho
  rw [h.readAt_unread]
  refine congrArg X (funext fun x => Fin.ext ?_)
  match x with
  | ⟨0, _⟩ => show r0 + 1 * 0 = R.val; omega
  | ⟨1, _⟩ => show 0 + 1 * p.val = p.val; omega
  | ⟨2, _⟩ => show 0 + 1 * l.val = l.val; omega

theorem bias_off : ∀ (i : grid2.Coords) (k : Fin k2_t1_loop.trips) (h : Fin 16) (j : Fin 4),
    k2_off2 i k (BitVec.ofNat 32 (14 * h.val)) (BitVec.ofNat 32 (2 * j.val))
      = ![14 * h.val + (min (8 * (i 1).val + k.val - 4) 24 + 7 - (8 * (i 1).val + k.val)) + 2 * j.val, 0, 0] := by
  decide +kernel

theorem key_off3 : ∀ (i : grid2.Coords) (k : Fin k2_t1_loop.trips),
    k2_off3 i k = ![min (8 * (i 1).val + k.val - 4) 24 * 64, 0] := by decide +kernel
theorem key_off5 : ∀ (i : grid2.Coords) (k : Fin k2_t1_loop.trips),
    k2_off5 i k = ![min (8 * (i 1).val + k.val - 4) 24 * 64, 128] := by decide +kernel
theorem key_off7 : ∀ (i : grid2.Coords) (k : Fin k2_t1_loop.trips),
    k2_off7 i k = ![min (8 * (i 1).val + k.val - 4) 24 * 64, 256] := by decide +kernel
theorem key_off9 : ∀ (i : grid2.Coords) (k : Fin k2_t1_loop.trips),
    k2_off9 i k = ![min (8 * (i 1).val + k.val - 4) 24 * 64, 384] := by decide +kernel
theorem key_off11 : ∀ (i : grid2.Coords) (k : Fin k2_t1_loop.trips),
    k2_off11 i k = ![min (8 * (i 1).val + k.val - 4) 24 * 64, 512] := by decide +kernel
theorem key_off13 : ∀ (i : grid2.Coords) (k : Fin k2_t1_loop.trips),
    k2_off13 i k = ![min (8 * (i 1).val + k.val - 4) 24 * 64, 640] := by decide +kernel
theorem key_off15 : ∀ (i : grid2.Coords) (k : Fin k2_t1_loop.trips),
    k2_off15 i k = ![min (8 * (i 1).val + k.val - 4) 24 * 64, 768] := by decide +kernel
theorem key_off17 : ∀ (i : grid2.Coords) (k : Fin k2_t1_loop.trips),
    k2_off17 i k = ![min (8 * (i 1).val + k.val - 4) 24 * 64, 896] := by decide +kernel

/-- The block's number and the trip's, as numbers. -/
abbrev blkOf (i : grid2.Coords) : Fin 4 := ⟨(i 1).val, (i 1).isLt⟩
abbrev tripOf (k : Fin k2_t1_loop.trips) : Fin 8 := ⟨k.val, Nat.lt_of_lt_of_le k.isLt k2_t1_abs.2.1⟩

/-- A stored pair of heads is a block of the whole. -/
theorem pair_piece {arg2 : Memref sig .tc .vmem S512x1024 .bf16} (harg2 : arg2.IsWhole) {arg3 : Memref sig .tc .vmem S2048x1024 .bf16} (harg3 : arg3.IsWhole) {arg4 : Memref sig .tc .vmem S2048x1024 .bf16} (harg4 : arg4.IsWhole) {arg5 : Memref sig .tc .vmem S512x1024 .bf16} (harg5 : arg5.IsWhole) {arg6 : Memref sig .tc .vmem S512x1024 .bf16} (harg6 : arg6.IsWhole) {arg7 : Memref sig .tc .vmem S224x64x128 .f32} (harg7 : arg7.IsWhole)
    (x0 : Vec Ideal S512x1024 .bf16) (x1 : Vec Ideal S2048x1024 .bf16) (x2 : Vec Ideal S2048x1024 .bf16) (x3 : Vec Ideal S512x1024 .bf16) (x4 : Vec Ideal S512x1024 .bf16) (x5 : Vec Ideal S224x64x128 .f32)
    (i : grid2.Coords) (k : Fin k2_t1_loop.trips) (j : Fin 8) {oq ok : Fin 2 → Nat} {c0 : Nat} (hc : c0 = 128 * j.val)
    (hoq : oq = ![64 * k.val, c0]) (hok : ok = ![min (8 * (i 1).val + k.val - 4) 24 * 64, c0])
    (iq : ∀ a, oq a + (![64, 128] : Fin 2 → Nat) a ≤ S512x1024.size a) (ik : ∀ a, ok a + (![512, 128] : Fin 2 → Nat) a ≤ S2048x1024.size a)
    (ic : ∀ a, (![0, c0] : Fin 2 → Nat) a + (![512, 128] : Fin 2 → Nat) a ≤ S512x1024.size a)
    (ib : ∀ (jj : Fin 4) (h : Fin 2) (a : Fin 3), k2_off2 i k (BitVec.ofNat 32 (14 * (2 * j.val + h.val))) (BitVec.ofNat 32 (2 * jj.val)) a
      + (![1, 64, 128] : Fin 3 → Nat) a ≤ S224x64x128.size a) (y : S64x128.Idx) :
    k2_pay2 (F := Ideal) (pair (arg2.view.readAt (Elt Ideal) (Rect.unit (s := S512x1024) oq ![64, 128] iq).toLoadRect (harg2.unread x0))
        (fun jj h => arg7.view.readAt (Elt Ideal) (Rect.unit (s := S224x64x128)
          (k2_off2 i k (BitVec.ofNat 32 (14 * (2 * j.val + h.val))) (BitVec.ofNat 32 (2 * jj.val))) ![1, 64, 128] (ib jj h)).toLoadRect (harg7.unread x5))
        (arg3.view.readAt (Elt Ideal) (Rect.unit (s := S2048x1024) ok ![512, 128] ik).toLoadRect (harg3.unread x1))
        (arg5.view.readAt (Elt Ideal) (Rect.unit (s := S512x1024) ![0, c0] ![512, 128] ic).toLoadRect (harg5.unread x3))
        (arg4.view.readAt (Elt Ideal) (Rect.unit (s := S2048x1024) ok ![512, 128] ik).toLoadRect (harg4.unread x2))
        (arg6.view.readAt (Elt Ideal) (Rect.unit (s := S512x1024) ![0, c0] ![512, 128] ic).toLoadRect (harg6.unread x4))) y
      = heads (blkOf i) x0 x1 x2 x3 x4 x5 ((Rect.unit (s := S512x1024) oq ![64, 128] iq).emb y) := by
  obtain ⟨p, l, rfl⟩ : ∃ (p : Fin 64) (l : Fin 128), y = ix2 p l := ⟨y 0, y 1, eq_ix2 y⟩
  have hy : (Rect.unit (s := S512x1024) oq ![64, 128] iq).emb (ix2 p l) = ix2 (inBlk (tripOf k) p) (inPair j l) := by
    subst hoq hc
    refine funext fun a => Fin.ext ?_
    match a with
    | ⟨0, _⟩ => show 64 * k.val + 1 * p.val = 64 * k.val + p.val; omega
    | ⟨1, _⟩ => show 128 * j.val + 1 * l.val = 128 * j.val + l.val; omega
  rw [hy, stored_apply]
  refine pair_block (blkOf i) (tripOf k) j x0 x1 x2 x3 x4 x5 _ _ _ _ _ _ (fun p l => ?_) (fun jj h p l => ?_) (fun t l => ?_) (fun t l => ?_)
    (fun t l => ?_) (fun t l => ?_) p l
  · exact rd harg2 x0 iq hoq p l _ _ rfl (by show 128 * j.val + l.val = c0 + l.val; rw [hc])
  · exact rd3 harg7 x5 (ib jj h) (bias_off i k (headIn j h) jj) p l _ rfl
  · exact rd harg3 x1 ik hok t l _ _ rfl (by show 128 * j.val + l.val = c0 + l.val; rw [hc])
  · exact rd harg5 x3 ic rfl t l _ _ (Nat.zero_add _).symm (by show 128 * j.val + l.val = c0 + l.val; rw [hc])
  · exact rd harg4 x2 ik hok t l _ _ rfl (by show 128 * j.val + l.val = c0 + l.val; rw [hc])
  · exact rd harg6 x4 ic rfl t l _ _ (Nat.zero_add _).symm (by show 128 * j.val + l.val = c0 + l.val; rw [hc])

/-- The pieces of one trip are blocks of the heads' array. -/
theorem trip_pieces (𝒱 : Variants) (c : Dev nD) (bd : Option 𝒱.V) (i : grid2.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S224x64x128 .f32) (harg7 : arg7.IsWhole) (arg8 : Memref sig .tc .vmem S512x1024 .f32) (harg8 : arg8.IsWhole) (arg9 : Memref sig .tc .vmem S1x1x6144 .f32) (harg9 : arg9.IsWhole) (arg10 : Memref sig .tc .vmem S4x1024 .f32) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S512x1024 .bf16) (harg13 : arg13.IsWhole) (arg1 : BitVec 32)
    (x0 : Vec Ideal S512x1024 .bf16) (x1 : Vec Ideal S2048x1024 .bf16) (x2 : Vec Ideal S2048x1024 .bf16) (x3 : Vec Ideal S512x1024 .bf16) (x4 : Vec Ideal S512x1024 .bf16) (x5 : Vec Ideal S224x64x128 .f32)
    (k : Fin k2_t1_loop.trips) :
    View.PiecesOf (heads (blkOf i) x0 x1 x2 x3 x4 x5) (tripL_k2_t1 (F := Ideal) 𝒱 c bd i arg2 harg2 arg3 harg3 arg4 harg4 arg5 harg5 arg6 harg6 arg7 harg7 arg8 harg8 arg9 harg9 arg10 harg10 arg11 harg11 arg12 harg12 arg13 harg13 arg1 (harg2.unread x0) (harg3.unread x1) (harg4.unread x2) (harg5.unread x3) (harg6.unread x4) (harg7.unread x5) k) := by
  unfold tripL_k2_t1 trip_k2_t1
  dsimp only
  exact ⟨pair_piece harg2 harg3 harg4 harg5 harg6 harg7 x0 x1 x2 x3 x4 x5 i k 7 (c0 := 896) rfl (k2_off16_eq k) (key_off17 i k) _ (k2_off17_inb i k) (by decide) (fun jj h => k2_off2_inb i k (headIn 7 h) jj),
    pair_piece harg2 harg3 harg4 harg5 harg6 harg7 x0 x1 x2 x3 x4 x5 i k 6 (c0 := 768) rfl (k2_off14_eq k) (key_off15 i k) _ (k2_off15_inb i k) (by decide) (fun jj h => k2_off2_inb i k (headIn 6 h) jj),
    pair_piece harg2 harg3 harg4 harg5 harg6 harg7 x0 x1 x2 x3 x4 x5 i k 5 (c0 := 640) rfl (k2_off12_eq k) (key_off13 i k) _ (k2_off13_inb i k) (by decide) (fun jj h => k2_off2_inb i k (headIn 5 h) jj),
    pair_piece harg2 harg3 harg4 harg5 harg6 harg7 x0 x1 x2 x3 x4 x5 i k 4 (c0 := 512) rfl (k2_off10_eq k) (key_off11 i k) _ (k2_off11_inb i k) (by decide) (fun jj h => k2_off2_inb i k (headIn 4 h) jj),
    pair_piece harg2 harg3 harg4 harg5 harg6 harg7 x0 x1 x2 x3 x4 x5 i k 3 (c0 := 384) rfl (k2_off8_eq k) (key_off9 i k) _ (k2_off9_inb i k) (by decide) (fun jj h => k2_off2_inb i k (headIn 3 h) jj),
    pair_piece harg2 harg3 harg4 harg5 harg6 harg7 x0 x1 x2 x3 x4 x5 i k 2 (c0 := 256) rfl (k2_off6_eq k) (key_off7 i k) _ (k2_off7_inb i k) (by decide) (fun jj h => k2_off2_inb i k (headIn 2 h) jj),
    pair_piece harg2 harg3 harg4 harg5 harg6 harg7 x0 x1 x2 x3 x4 x5 i k 1 (c0 := 128) rfl (k2_off4_eq k) (key_off5 i k) _ (k2_off5_inb i k) (by decide) (fun jj h => k2_off2_inb i k (headIn 1 h) jj),
    pair_piece harg2 harg3 harg4 harg5 harg6 harg7 x0 x1 x2 x3 x4 x5 i k 0 (c0 := 0) rfl (k2_off1_eq k) (key_off3 i k) _ (k2_off3_inb i k) (by decide) (fun jj h => k2_off2_inb i k (headIn 0 h) jj), trivial⟩

end Cert.NaTile

end
-- ==== Proof.NaOut.lean ====
/-
  What the attention kernel leaves in its block: the heads' pieces over the eight trips make one array, and the last store adds the
  gated projection of it to the residual rows.
-/
module

public import proofs.«01_k».proof.Proof.NaTile
public import proofs.«01_k».proof.Proof.AttnTile
public import Idealize.ShloMosaic.Lib.Pipeline.Value
public import Idealize.ShloMosaic.Lib.Pipeline.ReadBack
public import Idealize.ShloMosaic.Lib.WholeRead
public import Idealize.ShloMosaic.Lib.Writes

@[expose] public section

set_option maxRecDepth 16384

noncomputable section

namespace Cert.NaTile

open Idealize.ShloMosaic Idealize.ShloMosaic.TcCoe Idealize.SL.Sem
open Idealize.ShloMosaic.Pointwise
open Cert.NaIdeal Cert.NaIdeal.Gen Cert.LayerSpec Cert.AttnSpec Cert.NaSpec

theorem pieces_append {S : Shape} {e : EltTy} {G : Vec Ideal S e} : ∀ {L L' : List (View.Piece (Elt Ideal) S e)},
    View.PiecesOf G L → View.PiecesOf G L' → View.PiecesOf G (L ++ L')
  | [], _, _, h' => h'
  | _ :: _, _, h, h' => ⟨h.1, pieces_append h.2 h'⟩

/-! ### The loop's pieces -/

theorem loop_pieces (𝒱 : Variants) (bd : Option 𝒱.V) (arg1 : BitVec 32) (c : Dev nD) (i : grid2.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S224x64x128 .f32) (harg7 : arg7.IsWhole) (arg8 : Memref sig .tc .vmem S512x1024 .f32) (harg8 : arg8.IsWhole) (arg9 : Memref sig .tc .vmem S1x1x6144 .f32) (harg9 : arg9.IsWhole) (arg10 : Memref sig .tc .vmem S4x1024 .f32) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S512x1024 .bf16) (harg13 : arg13.IsWhole)
(x0 : Vec Ideal S512x1024 .bf16) (x1 : Vec Ideal S2048x1024 .bf16) (x2 : Vec Ideal S2048x1024 .bf16) (x3 : Vec Ideal S512x1024 .bf16) (x4 : Vec Ideal S512x1024 .bf16) (x5 : Vec Ideal S224x64x128 .f32) :
    ∀ n, n ≤ k2_t1_loop.trips → View.PiecesOf (heads (blkOf i) x0 x1 x2 x3 x4 x5)
      (pb_k2_t1 (F := Ideal) 𝒱 c bd i arg2 harg2 arg3 harg3 arg4 harg4 arg5 harg5 arg6 harg6 arg7 harg7 arg8 harg8 arg9 harg9 arg10 harg10 arg11 harg11 arg12 harg12 arg13 harg13 arg1 (harg2.unread x0) (harg3.unread x1) (harg4.unread x2) (harg5.unread x3) (harg6.unread x4) (harg7.unread x5) n)
  | 0, _ => trivial
  | n + 1, h => by
    have e := pb_k2_t1_succ (F := Ideal) 𝒱 c bd i arg2 harg2 arg3 harg3 arg4 harg4 arg5 harg5 arg6 harg6 arg7 harg7 arg8 harg8 arg9 harg9 arg10 harg10 arg11 harg11 arg12 harg12 arg13 harg13 arg1 (harg2.unread x0) (harg3.unread x1) (harg4.unread x2) (harg5.unread x3) (harg6.unread x4) (harg7.unread x5) ⟨n, h⟩
    have e' : pb_k2_t1 (F := Ideal) 𝒱 c bd i arg2 harg2 arg3 harg3 arg4 harg4 arg5 harg5 arg6 harg6 arg7 harg7 arg8 harg8 arg9 harg9 arg10 harg10 arg11 harg11 arg12 harg12 arg13 harg13 arg1 (harg2.unread x0) (harg3.unread x1) (harg4.unread x2) (harg5.unread x3) (harg6.unread x4) (harg7.unread x5) (n + 1) = _ := e
    rw [e']
    exact pieces_append (trip_pieces 𝒱 c bd i arg2 harg2 arg3 harg3 arg4 harg4 arg5 harg5 arg6 harg6 arg7 harg7 arg8 harg8 arg9 harg9 arg10 harg10 arg11 harg11 arg12 harg12 arg13 harg13 arg1 x0 x1 x2 x3 x4 x5 ⟨n, h⟩)
      (loop_pieces 𝒱 bd arg1 c i arg2 harg2 arg3 harg3 arg4 harg4 arg5 harg5 arg6 harg6 arg7 harg7 arg8 harg8 arg9 harg9 arg10 harg10 arg11 harg11 arg12 harg12 arg13 harg13 x0 x1 x2 x3 x4 x5 n (Nat.le_of_succ_le h))

/-- What the block's last store holds, row by row. -/
def blockOut (b : Fin 4) (x0 : Vec Ideal S512x1024 .bf16) (x1 : Vec Ideal S2048x1024 .bf16) (x2 : Vec Ideal S2048x1024 .bf16) (x3 : Vec Ideal S512x1024 .bf16) (x4 : Vec Ideal S512x1024 .bf16) (x5 : Vec Ideal S224x64x128 .f32) (x6 : Vec Ideal S512x1024 .f32) (x7 : Vec Ideal S1x1x6144 .f32) (x8 : Vec Ideal S4x1024 .f32) (x9 : Vec Ideal S1024x1024 .bf16) : Vec Ideal S512x1024 .f32 := fun y =>
  gated (fun k => x6 (ix2 (y 0) k)) (modAt x7 2048 (by decide)) (fun k => x8 (ix2 1 k))
    (proj (fun n => heads b x0 x1 x2 x3 x4 x5 (ix2 (y 0) n)) (fun n l => x9 (ix2 n l))) (y 1)

theorem rd_mod {M : Memref sig .tc .vmem S1x1x6144 .f32} (h : M.IsWhole) (X : Vec Ideal S1x1x6144 .f32)
    (inb : ∀ x, (![0, 0, 0] : Fin 3 → Nat) x + (![1, 1, 6144] : Fin 3 → Nat) x ≤ S1x1x6144.size x) :
    M.view.readAt (Elt Ideal) (Rect.unit (s := S1x1x6144) ![0, 0, 0] ![1, 1, 6144] inb).toLoadRect (h.unread X) = X := by
  funext y
  rw [h.readAt_unread]
  refine congrArg X (funext fun x => Fin.ext ?_)
  match x with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem rd_all {n m : Nat} {e : EltTy} {M : Memref sig .tc .vmem ⟨2, ![n, m]⟩ e} (h : M.IsWhole) (X : Vec Ideal ⟨2, ![n, m]⟩ e)
    (inb : ∀ x, (![0, 0] : Fin 2 → Nat) x + (![n, m] : Fin 2 → Nat) x ≤ (⟨2, ![n, m]⟩ : Shape).size x) :
    M.view.readAt (Elt Ideal) (Rect.unit (s := ⟨2, ![n, m]⟩) ![0, 0] ![n, m] inb).toLoadRect (h.unread X) = X := by
  funext y
  obtain ⟨p, l, rfl⟩ : ∃ (p : Fin n) (l : Fin m), y = ix2 p l := ⟨y 0, y 1, eq_ix2 y⟩
  exact rd h X inb rfl p l p l (Nat.zero_add _).symm (Nat.zero_add _).symm

theorem last_store (b : Fin 4) (x0 : Vec Ideal S512x1024 .bf16) (x1 x2 : Vec Ideal S2048x1024 .bf16) (x3 x4 : Vec Ideal S512x1024 .bf16)
    (x5 : Vec Ideal S224x64x128 .f32) (x6 : Vec Ideal S512x1024 .f32) (x7 : Vec Ideal S1x1x6144 .f32) (x8 : Vec Ideal S4x1024 .f32)
    (x9 : Vec Ideal S1024x1024 .bf16) (md : Vec Ideal S1x1x6144 .f32) (a : Vec Ideal S512x1024 .bf16) (wo : Vec Ideal S1024x1024 .bf16)
    (x : Vec Ideal S512x1024 .f32) (g : Vec Ideal S1x1024 .f32) (hm : md = x7) (ha : a = heads b x0 x1 x2 x3 x4 x5) (hw : wo = x9)
    (hx : x = x6) (hg : ∀ k, g (ix2 0 k) = x8 (ix2 1 k)) (inb : ∀ a, (![0, 0] : Fin 2 → Nat) a + (![512, 1024] : Fin 2 → Nat) a ≤ S512x1024.size a)
    (y : S512x1024.Idx) :
    k2_pay3 (F := Ideal) md a wo x g y
      = blockOut b x0 x1 x2 x3 x4 x5 x6 x7 x8 x9 ((Rect.unit (s := S512x1024) ![0, 0] ![512, 1024] inb).emb y) := by
  obtain ⟨p, l, rfl⟩ : ∃ (p : Fin 512) (l : Fin 1024), y = ix2 p l := ⟨y 0, y 1, eq_ix2 y⟩
  have hy : (Rect.unit (s := S512x1024) ![0, 0] ![512, 1024] inb).emb (ix2 p l) = ix2 p l := by
    refine funext fun a => Fin.ext ?_
    match a with
    | ⟨0, _⟩ => show 0 + 1 * p.val = p.val; omega
    | ⟨1, _⟩ => show 0 + 1 * l.val = l.val; omega
  subst hm ha hw hx
  rw [hy, res_apply]
  simp only [hg]
  rfl

theorem out_eq (c : Dev nD) (i : grid2.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S224x64x128 .f32) (harg7 : arg7.IsWhole) (arg8 : Memref sig .tc .vmem S512x1024 .f32) (harg8 : arg8.IsWhole) (arg9 : Memref sig .tc .vmem S1x1x6144 .f32) (harg9 : arg9.IsWhole) (arg10 : Memref sig .tc .vmem S4x1024 .f32) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S512x1024 .bf16) (harg13 : arg13.IsWhole)
    (x0 : Vec Ideal S512x1024 .bf16) (x1 : Vec Ideal S2048x1024 .bf16) (x2 : Vec Ideal S2048x1024 .bf16) (x3 : Vec Ideal S512x1024 .bf16) (x4 : Vec Ideal S512x1024 .bf16) (x5 : Vec Ideal S224x64x128 .f32) (x6 : Vec Ideal S512x1024 .f32) (x7 : Vec Ideal S1x1x6144 .f32) (x8 : Vec Ideal S4x1024 .f32) (x9 : Vec Ideal S1024x1024 .bf16) (y : S512x1024.Idx) :
    out2_A_10 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 y = blockOut (blkOf i) x0 x1 x2 x3 x4 x5 x6 x7 x8 x9 y := by
  have hc := cover2_A_10 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 y
  unfold out2_A_10
  refine View.read_writes_apply_of_pieces _ _ (blockOut (blkOf i) x0 x1 x2 x3 x4 x5 x6 x7 x8 x9) _ (View.PiecesOf.mem ?_) y hc
  clear hc
  unfold kernelRun2_A
  dsimp only
  refine ⟨fun y => ?_, trivial⟩
  exact last_store (blkOf i) x0 x1 x2 x3 x4 x5 x6 x7 x8 x9 _ _ _ _ _ (rd_mod harg9 x7 inb_S1x1x6144_S1x1x6144_0_0_0)
    (AttnTile.readCov_pieces arg13.view (heads (blkOf i) x0 x1 x2 x3 x4 x5) _ (loop_pieces Variants.none none (BitVec.ofNat 32 (i 1).val) c i arg2 harg2 arg3 harg3 arg4 harg4 arg5 harg5 arg6 harg6 arg7 harg7 arg8 harg8 arg9 harg9 arg10 harg10 arg11 harg11 arg12 harg12 arg13 harg13 x0 x1 x2 x3 x4 x5 _ (Nat.le_of_eq (by decide)))
      (View.cover_of_tiledL _ S64x128.size (by sl_kernel_rfl)) inb_S512x1024_S512x1024_0_0)
    (rd_all harg11 x9 inb_S1024x1024_S1024x1024_0_0) (rd_all harg8 x6 inb_S512x1024_S512x1024_0_0)
    (fun k => rd harg10 x8 inb_S4x1024_S1x1024_1_0 rfl 0 k 1 k rfl (Nat.zero_add _).symm) inb_S512x1024_S512x1024_0_0 y

end Cert.NaTile
end
-- ==== Proof.NaRef.lean ====
/-
  THE NEIGHBOURHOOD ATTENTION'S REFERENCE, ROW BY ROW.
-/
module

public import proofs.«01_k».proof.Proof.NaSpec
public import proofs.«01_k».proof.Proof.Gen.NaRefIdeal.Read

@[expose] public section

set_option maxRecDepth 16384

noncomputable section

namespace Cert.NaRefRows

open Idealize.ShloMosaic Idealize.ShloMosaic.TcCoe Idealize.SL.Sem
open Idealize.ShloMosaic.Pointwise
open Cert.NaRefIdeal Cert.NaRefIdeal.Read Cert.LayerSpec Cert.AttnSpec Cert.NaSpec

/-- A gather of grid rows, at an index. -/
theorem gather_rows (x : Vec Ideal S2x32x64x16x64 .f32) (idx : IVec S32x8x1 32) (b : Fin 2) (r : Fin 32) (i : Fin 8) (k : Fin 64)
    (h : Fin 16) (d : Fin 64) (R : Fin 32) (hR : R.val = min (idx (ix3 r i 0)).toInt.toNat 31) :
    Host.gather gather_S2x32x64x16x64_S32x8x1_S2x32x8x64x16x64_0345_1_n_n_1_2_21641664 x idx (ix6 b r i k h d)
      = x (ix5 b R k h d) := by
  have hs : gather_S2x32x64x16x64_S32x8x1_S2x32x8x64x16x64_0345_1_n_n_1_2_21641664.siIdx (ix6 b r i k h d) ⟨0, by decide⟩ = ix3 r i 0 := by
    refine funext fun a => Fin.ext ?_
    match a with
    | ⟨0, _⟩ => rfl
    | ⟨1, _⟩ => rfl
    | ⟨2, _⟩ => rfl
  unfold Host.gather
  refine congrArg x (funext fun a => Fin.ext ?_)
  match a with
  | ⟨0, _⟩ => exact Nat.zero_add _
  | ⟨1, _⟩ => rw [← hs] at hR; exact hR.symm
  | ⟨2, _⟩ => exact Nat.zero_add _
  | ⟨3, _⟩ => exact Nat.zero_add _
  | ⟨4, _⟩ => exact Nat.zero_add _

theorem gather_bias (x : Vec Ideal S16x15x31 .f32) (idx : IVec S32x64x8x64x2 32) (h : Fin 16) (r : Fin 32) (c : Fin 64) (i : Fin 8) (k : Fin 64)
    (D : Fin 15) (C : Fin 31) (hD : D.val = min (idx (ix5 r c i k 0)).toInt.toNat 14) (hC : C.val = min (idx (ix5 r c i k 1)).toInt.toNat 30) :
    Host.gather gather_S16x15x31_S32x64x8x64x2_S16x32x64x8x64_0_12_n_n_12_4_1611 x idx (ix5 h r c i k) = x (ix3 h D C) := by
  have hs : ∀ j : Fin 2, gather_S16x15x31_S32x64x8x64x2_S16x32x64x8x64_0_12_n_n_12_4_1611.siIdx (ix5 h r c i k) ⟨j.val, j.isLt⟩ = ix5 r c i k j := fun j => by
    refine funext fun a => Fin.ext ?_
    match a with
    | ⟨0, _⟩ => rfl
    | ⟨1, _⟩ => rfl
    | ⟨2, _⟩ => rfl
    | ⟨3, _⟩ => rfl
    | ⟨4, _⟩ => rfl
  unfold Host.gather
  refine congrArg x (funext fun a => Fin.ext ?_)
  match a with
  | ⟨0, _⟩ => exact Nat.zero_add _
  | ⟨1, _⟩ => rw [← hs 0] at hD; exact hD.symm
  | ⟨2, _⟩ => rw [← hs 1] at hC; exact hC.symm

theorem rows_idx (r : Fin 32) (i : Fin 8) : val_main_v55 (F := Ideal) (ix3 r i 0) = BitVec.ofNat 32 (firstRow r + i.val) := by
  pointwise [val_main_v55, val_main_v54, val_main_v53, val_main_v52, val_main_v51, val_main_v50, val_main_v49, val_main_v48, val_main_v47, val_main_v46,
    val_main_v45, val_main_v44, val_main_v43, val_main_v42, val_main_v41, val_main_v40, val_main_call0_v0, val_main_call0_v1, val_main_call0_v2,
    val_main_call0_v3, val_main_call0_v4, val_main_c, val_main_c_3, val_main_c_4, val_main_c_5, val_main_c_6]
  revert r i
  decide +kernel

theorem rows_idx' (r : Fin 32) (i : Fin 8) : val_main_v62 (F := Ideal) (ix3 r i 0) = BitVec.ofNat 32 (firstRow r + i.val) := by
  rw [← rows_idx]; rfl

theorem bias_row (r : Fin 32) (c : Fin 64) (i : Fin 8) (k : Fin 64) :
    val_main_v110 (F := Ideal) (ix5 r c i k 0) = BitVec.ofNat 32 (firstRow r + i.val + 7 - r.val) := by
  pointwise [val_main_v110, val_main_v108, val_main_v106, val_main_v100, val_main_v99, val_main_v98, val_main_v97, val_main_v96, val_main_v92,
    val_main_v91, val_main_v90, val_main_v83, val_main_v82, val_main_v81, val_main_v49, val_main_v48, val_main_v47, val_main_v46,
    val_main_v45, val_main_v44, val_main_v43, val_main_v42, val_main_v41, val_main_v40, val_main_call0_v0, val_main_call0_v1, val_main_call0_v2,
    val_main_call0_v3, val_main_call0_v4, val_main_c, val_main_c_3, val_main_c_4, val_main_c_15, val_main_c_17, val_main_c_18]
  revert r i
  decide +kernel

theorem bias_col (r : Fin 32) (c : Fin 64) (i : Fin 8) (k : Fin 64) (h : firstCol c ≤ k.val ∧ k.val < firstCol c + 16) :
    val_main_v110 (F := Ideal) (ix5 r c i k 1) = BitVec.ofNat 32 (15 + k.val - c.val) := by
  pointwise [val_main_v110, val_main_v109, val_main_v107, val_main_v105, val_main_v104, val_main_v103, val_main_v102, val_main_v101, val_main_v95, val_main_v94, val_main_v93, val_main_v89, val_main_v88, val_main_v87, val_main_v86, val_main_v85, val_main_v84, val_main_v64,
    val_main_call2_v0, val_main_call2_v1, val_main_call2_v2, val_main_call2_v3, val_main_call2_v4, val_main_c_13, val_main_c_14, val_main_c_16,
    val_main_c_19, val_main_c_20]
  revert c k
  decide +kernel

theorem mask_apply (c k : Fin 64) :
    val_main_v80 (F := Ideal) (ix2 c k) = if firstCol c ≤ k.val ∧ k.val < firstCol c + 16 then 1#1 else 0#1 := by
  pointwise [val_main_v80, val_main_v79, val_main_v78, val_main_v77, val_main_v76, val_main_v75, val_main_v74, val_main_v73, val_main_v72, val_main_v71, val_main_v70, val_main_v69, val_main_v68, val_main_v67, val_main_v66, val_main_v65, val_main_v64, val_main_call1_v0, val_main_call1_v1, val_main_call1_v2, val_main_call1_v3, val_main_call1_v4, val_main_c_9, val_main_c_10,
    val_main_c_11, val_main_c_12]
  revert c k
  decide +kernel

theorem word_nat {n : Nat} (hn : n < 2 ^ 31) : (BitVec.ofNat 32 n).toInt.toNat = n := by
  rw [BitVec.toInt_eq_toNat_of_lt (by rw [BitVec.toNat_ofNat, Nat.mod_eq_of_lt (by omega)]; omega), Int.toNat_natCast, BitVec.toNat_ofNat,
    Nat.mod_eq_of_lt (by omega)]

variable (x : Vec Ideal S4096x1024 .f32) (md : Vec Ideal S16x1x6144 .f32) (g : Vec Ideal S4x1024 .f32)
  (w : Vec Ideal S1024x3072 .f32) (ck cv : Vec Ideal S2x512x16x64 .f32) (pt : Vec Ideal S16x15x128 .f32) (wo : Vec Ideal S1024x1024 .f32)

/-- The token at a grid row and column. -/
abbrev at2 (r : Fin 32) (c : Fin 64) : Fin 2048 := ⟨r.val * 64 + c.val, by omega⟩

/-- A row of a window, as a grid row. -/
abbrev wr (r : Fin 32) (i : Fin 8) : Fin 32 := ⟨firstRow r + i.val, by have := first_facts r; omega⟩

theorem bias_apply (h : Fin 16) (r : Fin 32) (c : Fin 64) (i : Fin 8) (k : Fin 64) :
    val_main_v113 (F := Ideal) pt (ix5 h r c i k) = biasAt (fun a b => pt (ix3 h a b)) r c i k := by
  have hsel : val_main_v113 (F := Ideal) pt (ix5 h r c i k)
      = Scalar.select (val_main_v80 (F := Ideal) (ix2 c k)) (val_main_v111 (F := Ideal) pt (ix5 h r c i k)) (Ideal.ofBits FTy.f32 0xF149F2CA#32) := by
    pointwise [val_main_v113, val_main_call3_v0, val_main_call3_v1, val_main_call3_v2, val_main_v112, val_main_cst_21]
    rfl
  rw [hsel, mask_apply]
  by_cases hw : firstCol c ≤ k.val ∧ k.val < firstCol c + 16
  · have hf := first_facts r
    have hb : k.val ≤ c.val + 15 ∧ c.val ≤ k.val + 15 := by
      have h1 : min (c.val - 8) 48 ≤ k.val := hw.1
      have h2 : k.val < min (c.val - 8) 48 + 16 := hw.2
      omega
    rw [if_pos hw, ValueIdx.select_one, biasAt, if_pos hw]
    refine (gather_bias _ _ h r c i k ⟨firstRow r + i.val + 7 - r.val, by omega⟩ ⟨15 + k.val - c.val, by omega⟩ ?_ ?_).trans ?_
    · rw [bias_row, word_nat (by omega)]
      exact (Nat.min_eq_left (by omega)).symm
    · rw [bias_col r c i k hw, word_nat (by omega)]
      exact (Nat.min_eq_left (by omega)).symm
    · pointwise [val_main_v33]
      refine congrArg pt (congrArg (ix3 h _) (Fin.ext ?_))
      show 48 + (15 + k.val - c.val) = 63 + k.val - c.val
      omega
  · rw [if_neg hw, biasAt, if_neg hw]
    rfl

theorem q_grid (b : Fin 2) (r : Fin 32) (c : Fin 64) (h : Fin 16) (d : Fin 64) :
    val_main_v37 (F := Ideal) x md g w (ix5 b r c h d) = val_main_v29 (F := Ideal) x md g w (ix3 b (at2 r c) (qCol (col h d))) := by
  pointwise [val_main_v37, val_main_v34, val_main_v30]

theorem k_grid (b : Fin 2) (r : Fin 32) (c : Fin 64) (h : Fin 16) (d : Fin 64) :
    val_main_v38 (F := Ideal) x md g w (ix5 b r c h d) = val_main_v29 (F := Ideal) x md g w (ix3 b (at2 r c) (kCol (col h d))) := by
  pointwise [val_main_v38, val_main_v35, val_main_v31]

theorem v_grid (b : Fin 2) (r : Fin 32) (c : Fin 64) (h : Fin 16) (d : Fin 64) :
    val_main_v39 (F := Ideal) x md g w (ix5 b r c h d) = val_main_v29 (F := Ideal) x md g w (ix3 b (at2 r c) (vCol (col h d))) := by
  pointwise [val_main_v39, val_main_v36, val_main_v32]

theorem k_win (b : Fin 2) (r : Fin 32) (i : Fin 8) (k : Fin 64) (h : Fin 16) (d : Fin 64) :
    val_main_v56 (F := Ideal) x md g w (ix6 b r i k h d) = val_main_v38 (F := Ideal) x md g w (ix5 b (wr r i) k h d) := by
  have hf := first_facts r
  refine gather_rows _ _ b r i k h d (wr r i) ?_
  rw [rows_idx, word_nat (by omega)]
  exact (Nat.min_eq_left (by omega)).symm

theorem v_win (b : Fin 2) (r : Fin 32) (i : Fin 8) (k : Fin 64) (h : Fin 16) (d : Fin 64) :
    val_main_v63 (F := Ideal) x md g w (ix6 b r i k h d) = val_main_v39 (F := Ideal) x md g w (ix5 b (wr r i) k h d) := by
  have hf := first_facts r
  refine gather_rows _ _ b r i k h d (wr r i) ?_
  rw [rows_idx', word_nat (by omega)]
  exact (Nat.min_eq_left (by omega)).symm

theorem loc_apply (b : Fin 2) (h : Fin 16) (r : Fin 32) (c : Fin 64) (i : Fin 8) (k : Fin 64) :
    val_main_v119 (F := Ideal) x md g w pt (ix6 b h r c i k)
      = (∑ d, val_main_v37 (F := Ideal) x md g w (ix5 b r c h d) * val_main_v56 (F := Ideal) x md g w (ix6 b r i k h d))
          * Ideal.ofBits FTy.f32 0x3E000000#32 + val_main_v113 (F := Ideal) pt (ix5 h r c i k) := by
  pointwise [val_main_v119, val_main_v118, val_main_v117, val_main_v116, val_main_v115, val_main_v114, val_main_cst_22]

theorem ctx_apply (b : Fin 2) (h : Fin 16) (r : Fin 32) (c : Fin 64) (t : Fin 512) :
    val_main_v123 (F := Ideal) x md g w ck (ix5 b h r c t)
      = (∑ d, val_main_v37 (F := Ideal) x md g w (ix5 b r c h d) * ck (ix4 b t h d)) * Ideal.ofBits FTy.f32 0x3E000000#32 := by
  pointwise [val_main_v123, val_main_v122, val_main_v121, val_main_cst_23]

theorem cat_lo (b : Fin 2) (h : Fin 16) (r : Fin 32) (c : Fin 64) (t : Fin 512) :
    val_main_v124 (F := Ideal) x md g w ck pt (ix5 b h r c (lo t)) = val_main_v119 (F := Ideal) x md g w pt (ix6 b h r c (wRow t) (wCol t)) := by
  pointwise [val_main_v124, val_main_v120]

theorem cat_hi (b : Fin 2) (h : Fin 16) (r : Fin 32) (c : Fin 64) (t : Fin 512) :
    val_main_v124 (F := Ideal) x md g w ck pt (ix5 b h r c (hi t)) = val_main_v123 (F := Ideal) x md g w ck (ix5 b h r c t) := by
  pointwise [val_main_v124]

theorem max_negInf (y : EReal) : max (Ideal.ofBits FTy.f32 0xFF800000#32) y = y := by
  rw [show Ideal.ofBits FTy.f32 0xFF800000#32 = ⊥ by simp [Ideal.ofBits, Ideal.ieee]]
  exact max_eq_right bot_le

/-- The maximum over the last axis, at an index. -/
theorem reduce_max (v : FVec Ideal S2x16x32x64x1024 .f32) (c : FVec Ideal S_ .f32) (h' : S2x16x32x64x1024.ReducesTo [4] S2x16x32x64)
    (hu : 0 < S_.numel) (b : Fin 2) (h : Fin 16) (r : Fin 32) (q : Fin 64) :
    Host.reduce FloatOps.maximumf v c h' hu (ix4 b h r q)
      = Finset.univ.fold max (c (Shape.Idx.first hu)) fun k : Fin 1024 => v (ix5 b h r q k) := by
  simp only [pointwise]

theorem max_apply (b : Fin 2) (h : Fin 16) (r : Fin 32) (c : Fin 64) :
    val_main_v127 (F := Ideal) x md g w ck pt (ix4 b h r c)
      = rowMax (fun k => val_main_v124 (F := Ideal) x md g w ck pt (ix5 b h r c k)) := by
  unfold val_main_v127 val_main_v125
  rw [maximumf_apply, reduce_max]
  exact max_negInf _

theorem exp_apply (b : Fin 2) (h : Fin 16) (r : Fin 32) (c : Fin 64) (t : Fin 1024) :
    val_main_v131 (F := Ideal) x md g w ck pt (ix5 b h r c t)
      = Ideal.exp (val_main_v124 (F := Ideal) x md g w ck pt (ix5 b h r c t) - val_main_v127 (F := Ideal) x md g w ck pt (ix4 b h r c)) := by
  pointwise [val_main_v131, val_main_v130, val_main_v129, val_main_v128]

theorem div_apply (b : Fin 2) (h : Fin 16) (r : Fin 32) (c : Fin 64) (t : Fin 1024) :
    val_main_v135 (F := Ideal) x md g w ck pt (ix5 b h r c t)
      = Ideal.div (val_main_v131 (F := Ideal) x md g w ck pt (ix5 b h r c t))
          (∑ k, val_main_v131 (F := Ideal) x md g w ck pt (ix5 b h r c k)) := by
  pointwise [val_main_v135, val_main_v134, val_main_v133, val_main_v132, val_main_cst_26]

theorem prob_apply (b : Fin 2) (h : Fin 16) (r : Fin 32) (c : Fin 64) (t : Fin 1024) :
    val_main_v135 (F := Ideal) x md g w ck pt (ix5 b h r c t)
      = softmax (fun k => val_main_v124 (F := Ideal) x md g w ck pt (ix5 b h r c k)) t := by
  rw [div_apply]
  simp only [exp_apply, max_apply]
  rfl

theorem prob_loc (b : Fin 2) (h : Fin 16) (r : Fin 32) (c : Fin 64) (i : Fin 8) (k : Fin 64) :
    val_main_v137 (F := Ideal) x md g w ck pt (ix6 b h r c i k)
      = val_main_v135 (F := Ideal) x md g w ck pt (ix5 b h r c ⟨i.val * 64 + k.val, by omega⟩) := by
  pointwise [val_main_v137, val_main_v136]

theorem mix_apply (b : Fin 2) (p : Fin 2048) (n : Fin 1024) :
    val_main_v145 (F := Ideal) x md g w ck cv pt (ix3 b p n)
      = (∑ i, ∑ k, val_main_v63 (F := Ideal) x md g w (ix6 b (rowOf p) i k (headOf n) ⟨n.val % 64, by omega⟩)
            * val_main_v137 (F := Ideal) x md g w ck pt (ix6 b (headOf n) (rowOf p) (colOf p) i k))
          + ∑ t, cv (ix4 b t (headOf n) ⟨n.val % 64, by omega⟩)
            * val_main_v135 (F := Ideal) x md g w ck pt (ix5 b (headOf n) (rowOf p) (colOf p) (hi t)) := by
  pointwise [val_main_v145, val_main_v144, val_main_v143, val_main_v142, val_main_v141, val_main_v140, val_main_v139, val_main_v138]

theorem f_apply (b : Fin 2) (p : Fin 2048) (k : Fin 1024) :
    val_main_v28 (F := Ideal) x md g (ix3 b p k)
      = normMod (fun k => x (ix2 ⟨b.val * 2048 + p.val, by omega⟩ k)) (fun k => g (ix2 0 k)) (fun k => md (ix3 ⟨9 + b.val, by omega⟩ 0 ⟨k.val, by omega⟩))
          (fun k => md (ix3 ⟨9 + b.val, by omega⟩ 0 ⟨1024 + k.val, by omega⟩)) k := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v3, val_main_v2, val_main_v1, val_main_v0, val_main_cst, val_main_cst_0, val_main_cst_1, val_main_cst_2]
  rfl

theorem qkv_apply (b : Fin 2) (p : Fin 2048) (n : Fin 3072) :
    val_main_v29 (F := Ideal) x md g w (ix3 b p n)
      = proj (fun k => val_main_v28 (F := Ideal) x md g (ix3 b p k)) (fun k n => w (ix2 k n)) n := by
  pointwise [val_main_v29]
  rfl

/-- The sample of a row, and its token there. -/
abbrev sq (r : Fin 4096) : Fin 2 := ⟨r.val / 2048, by omega⟩
abbrev tk (r : Fin 4096) : Fin 2048 := ⟨r.val % 2048, by omega⟩

theorem res_apply (b : Fin 2) (p : Fin 2048) (l : Fin 1024) :
    val_main_v164 (F := Ideal) x md g w ck cv pt wo (ix3 b p l)
      = gated (fun k => x (ix2 ⟨b.val * 2048 + p.val, by omega⟩ k)) (fun k => md (ix3 ⟨9 + b.val, by omega⟩ 0 ⟨2048 + k.val, by omega⟩)) (fun k => g (ix2 1 k))
          (proj (fun n => val_main_v145 (F := Ideal) x md g w ck cv pt (ix3 b p n)) (fun n l => wo (ix2 n l))) l := by
  pointwise [val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v4, val_main_v1, val_main_v0, val_main_cst_27, val_main_cst_28, val_main_cst_29]
  rfl

abbrev ch (n : Fin 1024) : Fin 64 := ⟨n.val % 64, by omega⟩

theorem col_head (n : Fin 1024) : col (headOf n) (ch n) = n := Fin.ext (Nat.div_add_mod' n.val 64)

theorem head_col (h : Fin 16) (d : Fin 64) : headOf (col h d) = h := Fin.ext (by show (h.val * 64 + d.val) / 64 = h.val; omega)

theorem ch_col (h : Fin 16) (d : Fin 64) : ch (col h d) = d := Fin.ext (by show (h.val * 64 + d.val) % 64 = d.val; omega)

/-- The tokens of sample `b`, its modulation rows, its context and the bias table. -/
abbrev toks (b : Fin 2) (p : Fin 2048) (k : Fin 1024) : EReal := x (ix2 ⟨b.val * 2048 + p.val, by omega⟩ k)
abbrev shift (b : Fin 2) (k : Fin 1024) : EReal := md (ix3 ⟨9 + b.val, by omega⟩ 0 ⟨k.val, by omega⟩)
abbrev modAt (b : Fin 2) (o : Nat) (ho : o + 1024 ≤ 6144) (k : Fin 1024) : EReal := md (ix3 ⟨9 + b.val, by omega⟩ 0 ⟨o + k.val, by omega⟩)
abbrev ctx (c : Vec Ideal S2x512x16x64 .f32) (b : Fin 2) (t : Fin 512) (n : Fin 1024) : EReal := c (ix4 b t (headOf n) (ch n))
abbrev tab (h : Fin 16) (a : Fin 15) (j : Fin 128) : EReal := pt (ix3 h a j)

/-- Queries, keys or values of the tokens of sample `b`. -/
abbrev prt (b : Fin 2) (cols : Fin 1024 → Fin 3072) : Fin 2048 → Fin 1024 → EReal :=
  part (toks x b) (fun k => g (ix2 0 k)) (shift md b) (modAt md b 1024 (by decide)) (fun k n => w (ix2 k n)) cols

theorem part_apply (b : Fin 2) (cols : Fin 1024 → Fin 3072) (p : Fin 2048) (n : Fin 1024) :
    val_main_v29 (F := Ideal) x md g w (ix3 b p (cols n)) = prt x md g w b cols p n := by
  rw [qkv_apply]
  simp only [f_apply]
  rfl

theorem at_tok (p : Fin 2048) : at2 (rowOf p) (colOf p) = p := Fin.ext (Nat.div_add_mod' p.val 64)

theorem at_win (p : Fin 2048) (t : Fin 512) : at2 (wr (rowOf p) (wRow t)) (wCol t) = win p t :=
  Fin.ext (by show (firstRow (rowOf p) + t.val / 64) * 64 + t.val % 64 = firstRow (rowOf p) * 64 + t.val; omega)

theorem loc_row (b : Fin 2) (h : Fin 16) (p : Fin 2048) (t : Fin 512) :
    val_main_v124 (F := Ideal) x md g w ck pt (ix5 b h (rowOf p) (colOf p) (lo t))
      = locScore (prt x md g w b qCol) (prt x md g w b kCol) (tab pt) h p t := by
  rw [cat_lo, loc_apply, bias_apply]
  simp only [q_grid, k_win, k_grid, at_tok, at_win, part_apply]
  rfl

theorem ctx_row (b : Fin 2) (h : Fin 16) (p : Fin 2048) (t : Fin 512) :
    val_main_v124 (F := Ideal) x md g w ck pt (ix5 b h (rowOf p) (colOf p) (hi t))
      = ctxScore (prt x md g w b qCol) (ctx ck b) h p t := by
  rw [cat_hi, ctx_apply]
  simp only [q_grid, at_tok, part_apply]
  unfold ctxScore ctx
  simp only [head_col, ch_col]

theorem all_row (b : Fin 2) (h : Fin 16) (p : Fin 2048) :
    (fun t => val_main_v124 (F := Ideal) x md g w ck pt (ix5 b h (rowOf p) (colOf p) t))
      = join (locScore (prt x md g w b qCol) (prt x md g w b kCol) (tab pt) h p) (ctxScore (prt x md g w b qCol) (ctx ck b) h p) :=
  funext (forall_halves (fun t => by rw [loc_row, join_lo]) (fun t => by rw [ctx_row, join_hi]))

theorem att_row (b : Fin 2) (p : Fin 2048) (n : Fin 1024) :
    val_main_v145 (F := Ideal) x md g w ck cv pt (ix3 b p n)
      = naAtt (prt x md g w b qCol) (prt x md g w b kCol) (prt x md g w b vCol) (ctx ck b) (ctx cv b) (tab pt) p n := by
  rw [mix_apply, sum_window]
  unfold naAtt mixTwo
  refine congrArg₂ (· + ·) (Finset.sum_congr rfl fun t _ => congrArg₂ (· * ·) ?_ ?_) (Finset.sum_congr rfl fun t _ => congrArg₂ (· * ·) rfl ?_)
  · rw [v_win, v_grid, at_win, show (⟨n.val % 64, by omega⟩ : Fin 64) = ch n from rfl, col_head, part_apply]
  · rw [prob_loc, prob_apply, all_row]
    exact congrArg _ (Fin.ext (by show t.val / 64 * 64 + t.val % 64 = t.val; omega))
  · rw [prob_apply, all_row]

theorem row_tok (r : Fin 4096) : (⟨(sq r).val * 2048 + (tk r).val, by omega⟩ : Fin 4096) = r := Fin.ext (Nat.div_add_mod' r.val 2048)

/-- A row of the activations after the attention: the neighbourhood attention's part of the layer on it. -/
theorem mid_apply (b : Fin 2) (p : Fin 2048) (l : Fin 1024) :
    val_main_v164 (F := Ideal) x md g w ck cv pt wo (ix3 b p l)
      = naRow (toks x b) (fun k => g (ix2 0 k)) (fun k => g (ix2 1 k)) (shift md b) (modAt md b 1024 (by decide))
          (modAt md b 2048 (by decide)) (fun k n => w (ix2 k n)) (ctx ck b) (ctx cv b) (tab pt) (fun n l => wo (ix2 n l)) p l := by
  rw [res_apply]
  simp only [att_row]
  rfl

/-! ### The feed-forward part -/

variable (wg wu : Vec Ideal S1024x2816 .f32) (wd : Vec Ideal S2816x1024 .f32)

theorem f2_apply (b : Fin 2) (p : Fin 2048) (k : Fin 1024) :
    val_main_v185 (F := Ideal) x md g w ck cv pt wo (ix3 b p k)
      = normMod (fun k => val_main_v164 (F := Ideal) x md g w ck cv pt wo (ix3 b p k)) (fun k => g (ix2 2 k))
          (modAt md b 3072 (by decide)) (modAt md b 4096 (by decide)) k := by
  pointwise [val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v6, val_main_v5, val_main_v1,
    val_main_cst_30, val_main_cst_31, val_main_cst_32, val_main_cst_33]
  rfl

theorem act_apply (b : Fin 2) (p : Fin 2048) (c : Fin 2816) :
    val_main_v189 (F := Ideal) x md g w ck cv pt wo wg wu (ix3 b p c)
      = ffnAct (fun k => val_main_v185 (F := Ideal) x md g w ck cv pt wo (ix3 b p k)) (fun k c => wg (ix2 k c)) (fun k c => wu (ix2 k c)) c := by
  pointwise [val_main_v189, val_main_v188, val_main_v187, val_main_call4_v5, val_main_call4_v4, val_main_call4_v3,
    val_main_call4_v2, val_main_call4_v1, val_main_call4_v0, val_main_call4_cst, val_main_call4_cst_0, val_main_v186]
  rw [one_div_one_add_exp]
  rfl

theorem last_apply (r : Fin 4096) (l : Fin 1024) :
    val_main_v209 (F := Ideal) x md g w ck cv pt wo wg wu wd (ix2 r l)
      = gated (fun k => val_main_v164 (F := Ideal) x md g w ck cv pt wo (ix3 (sq r) (tk r) k)) (modAt md (sq r) 5120 (by decide)) (fun k => g (ix2 3 k))
          (fun l => ∑ c, val_main_v189 (F := Ideal) x md g w ck cv pt wo wg wu (ix3 (sq r) (tk r) c) * wd (ix2 c l)) l := by
  pointwise [val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v7, val_main_v1,
    val_main_cst_34, val_main_cst_35, val_main_cst_36]
  rfl

/-- A row of the reference's result: the feed-forward part on the row after the attention. -/
theorem row_apply (r : Fin 4096) (l : Fin 1024) :
    val_main_v209 (F := Ideal) x md g w ck cv pt wo wg wu wd (ix2 r l)
      = ffnRow (naRow (toks x (sq r)) (fun k => g (ix2 0 k)) (fun k => g (ix2 1 k)) (shift md (sq r)) (modAt md (sq r) 1024 (by decide))
            (modAt md (sq r) 2048 (by decide)) (fun k n => w (ix2 k n)) (ctx ck (sq r)) (ctx cv (sq r)) (tab pt) (fun n l => wo (ix2 n l)) (tk r))
          (fun k => g (ix2 2 k)) (fun k => g (ix2 3 k))
          (modAt md (sq r) 3072 (by decide)) (modAt md (sq r) 4096 (by decide)) (modAt md (sq r) 5120 (by decide))
          (fun k c => wg (ix2 k c)) (fun k c => wu (ix2 k c)) (fun c l => wd (ix2 c l)) l := by
  rw [last_apply]
  simp only [act_apply, f2_apply, mid_apply]
  rfl

end Cert.NaRefRows

end
-- ==== Proof.NaArrays.lean ====
/-
  THE ARRAYS BETWEEN THE NEIGHBOURHOOD ATTENTION'S CALLS: the scaled queries, the keys and the values that the projection leaves,
  the bias table, and the context's keys and values as the attention reads them.
-/
module

public import proofs.«01_k».proof.Defs
public import proofs.«01_k».proof.Proof.NaOut
public import proofs.«01_k».proof.Proof.NaRef
public import Idealize.ShloMosaic.Lib.Pipeline.Value
public import Idealize.ShloMosaic.Lib.Pipeline.ValueKit.Acc
public import Idealize.ShloMosaic.Lib.Pipeline.ReadBack
public import Idealize.ShloMosaic.Lib.ReduceAll
public import Idealize.ShloMosaic.Lib.Quiescent

@[expose] public section

set_option maxRecDepth 16384

noncomputable section

namespace Cert.NaValue

open Idealize.ShloMosaic Idealize.ShloMosaic.TcCoe Idealize.SL.Sem
open Idealize.ShloMosaic.Pointwise Idealize.ShloMosaic.Tactic
open Idealize.ShloMosaic.Pipeline (Dat)
open Cert.NaIdeal Cert.NaIdeal.Gen Cert.LayerSpec Cert.AttnSpec Cert.NaSpec
open Cert.NaRefRows (tk)

variable (m : (ℓ : Loc nD τ sig) → Buf (Elt Ideal) ℓ) (ρ : Dev nD → PrngReg)

/-- The arguments, as launched. -/
abbrev aX (c : Dev nD) : Vec Ideal S4096x1024 .f32 := m ((c : Thread nD τ).loc main_arg0)
abbrev aMod (c : Dev nD) : Vec Ideal S16x1x6144 .f32 := m ((c : Thread nD τ).loc main_arg1)
abbrev aG (c : Dev nD) : Vec Ideal S4x1024 .f32 := m ((c : Thread nD τ).loc main_arg2)
abbrev aQkv (c : Dev nD) : Vec Ideal S1024x3072 .f32 := m ((c : Thread nD τ).loc main_arg3)
abbrev aCk (c : Dev nD) : Vec Ideal S2x512x16x64 .f32 := m ((c : Thread nD τ).loc main_arg4)
abbrev aCv (c : Dev nD) : Vec Ideal S2x512x16x64 .f32 := m ((c : Thread nD τ).loc main_arg5)
abbrev aPad (c : Dev nD) : Vec Ideal S16x15x128 .f32 := m ((c : Thread nD τ).loc main_arg6)
abbrev aOut (c : Dev nD) : Vec Ideal S1024x1024 .f32 := m ((c : Thread nD τ).loc main_arg7)

/-- Queries, keys or values of the tokens of sample `b`, from the arguments. -/
abbrev prt (c : Dev nD) (b : Fin 2) (cols : Fin 1024 → Fin 3072) : Fin 2048 → Fin 1024 → EReal :=
  NaRefRows.prt (aX m c) (aMod m c) (aG m c) (aQkv m c) b cols

/-- What the projection leaves: the queries scaled, the keys and the values. -/
def qArr (c : Dev nD) : Vec Ideal S4096x1024 .bf16 := fun i =>
  prt m c (NaRefRows.sq (i 0)) qCol (tk (i 0)) (i 1) * Ideal.ofBits FTy.f32 0x3E000000#32

def partArr (c : Dev nD) (cols : Fin 1024 → Fin 3072) : Vec Ideal S4096x1024 .bf16 := fun i =>
  prt m c (NaRefRows.sq (i 0)) cols (tk (i 0)) (i 1)

theorem V1_arg (c : Dev nD) {a : Ref sig .tc} (ha : a ∈ argRefs) : V1 m ρ c a = m ((c : Thread nD τ).loc a) := W1_args m ρ c a ha

theorem V1_qkv (c : Dev nD) : V1 m ρ c main_v0 = aQkv m c := by
  show StableHlo.after hostOps0 (fun b => m (c, b)) main_v0 = _
  simp only [hostOps0]
  after_results_simp
  rfl

/-- Row `p` of tile `t`. -/
abbrev row (t : Fin 8) (p : Fin 512) : Fin 4096 := ⟨t.val * 512 + p.val, by omega⟩

theorem idx0 : ∀ t : Fin cfg0.N, (win0_0.index t 0 = t.val ∧ win0_0.index t 1 = 0)
    ∧ (win0_1.index t 0 = 9 + t.val / 4 ∧ win0_1.index t 1 = 0 ∧ win0_1.index t 2 = 0)
    ∧ (win0_2.index t 0 = 0 ∧ win0_2.index t 1 = 0) ∧ (win0_3.index t 0 = 0 ∧ win0_3.index t 1 = 0) :=
  (by decide +kernel : ∀ t : Fin grid0.N, (win0_0.index t 0 = t.val ∧ win0_0.index t 1 = 0)
    ∧ (win0_1.index t 0 = 9 + t.val / 4 ∧ win0_1.index t 1 = 0 ∧ win0_1.index t 2 = 0)
    ∧ (win0_2.index t 0 = 0 ∧ win0_2.index t 1 = 0) ∧ (win0_3.index t 0 = 0 ∧ win0_3.index t 1 = 0))

theorem idx0_out : ∀ t : Fin cfg0.N, (win0_4.index t 0 = t.val ∧ win0_4.index t 1 = 0)
    ∧ (win0_5.index t 0 = t.val ∧ win0_5.index t 1 = 0) ∧ (win0_6.index t 0 = t.val ∧ win0_6.index t 1 = 0) :=
  (by decide +kernel : ∀ t : Fin grid0.N, (win0_4.index t 0 = t.val ∧ win0_4.index t 1 = 0)
    ∧ (win0_5.index t 0 = t.val ∧ win0_5.index t 1 = 0) ∧ (win0_6.index t 0 = t.val ∧ win0_6.index t 1 = 0))

theorem x_blk0 (c : Dev nD) (t : Fin cfg0.N) (p : Fin 512) (k : Fin 1024) :
    iblk0 (V1 m ρ) c 0 t (ix2 p k) = aX m c (ix2 (row t p) k) := by
  rw [aX, ← V1_arg m ρ c (a := main_arg0) (by simp)]
  refine congrArg (V1 m ρ c main_arg0) (funext fun a => Fin.ext ?_)
  match a with
  | ⟨0, _⟩ => show win0_0.index t 0 * 512 + 1 * p.val = t.val * 512 + p.val; rw [(idx0 t).1.1]; omega
  | ⟨1, _⟩ => show win0_0.index t 1 * 1024 + 1 * k.val = k.val; rw [(idx0 t).1.2]; omega

abbrev smp (t : Fin 8) : Fin 2 := ⟨t.val / 4, by omega⟩

theorem mod_blk0 (c : Dev nD) (t : Fin cfg0.N) (n : Fin 6144) :
    iblk0 (V1 m ρ) c 1 t (ix3 0 0 n) = aMod m c (ix3 ⟨9 + (smp t).val, by omega⟩ 0 n) := by
  rw [aMod, ← V1_arg m ρ c (a := main_arg1) (by simp)]
  refine congrArg (V1 m ρ c main_arg1) (funext fun a => Fin.ext ?_)
  match a with
  | ⟨0, _⟩ => show win0_1.index t 0 * 1 + 1 * 0 = 9 + t.val / 4; rw [(idx0 t).2.1.1]; omega
  | ⟨1, _⟩ => show win0_1.index t 1 * 1 + 1 * 0 = 0; rw [(idx0 t).2.1.2.1]
  | ⟨2, _⟩ => show win0_1.index t 2 * 6144 + 1 * n.val = n.val; rw [(idx0 t).2.1.2.2]; omega

theorem g_blk0 (c : Dev nD) (t : Fin cfg0.N) (a : Fin 4) (k : Fin 1024) :
    iblk0 (V1 m ρ) c 2 t (ix2 a k) = aG m c (ix2 a k) := by
  rw [aG, ← V1_arg m ρ c (a := main_arg2) (by simp)]
  refine congrArg (V1 m ρ c main_arg2) (funext fun b => Fin.ext ?_)
  match b with
  | ⟨0, _⟩ => show win0_2.index t 0 * 4 + 1 * a.val = a.val; rw [(idx0 t).2.2.1.1]; omega
  | ⟨1, _⟩ => show win0_2.index t 1 * 1024 + 1 * k.val = k.val; rw [(idx0 t).2.2.1.2]; omega

theorem qkv_blk0 (c : Dev nD) (t : Fin cfg0.N) (a : Fin 1024) (k : Fin 3072) :
    iblk0 (V1 m ρ) c 3 t (ix2 a k) = aQkv m c (ix2 a k) := by
  rw [← V1_qkv m ρ]
  refine congrArg (V1 m ρ c main_v0) (funext fun b => Fin.ext ?_)
  match b with
  | ⟨0, _⟩ => show win0_3.index t 0 * 1024 + 1 * a.val = a.val; rw [(idx0 t).2.2.2.1]; omega
  | ⟨1, _⟩ => show win0_3.index t 1 * 3072 + 1 * k.val = k.val; rw [(idx0 t).2.2.2.2]; omega

/-- A row of the gains, loaded by itself. -/
theorem ld_g {o : Nat} (inb : ∀ a, (![o, 0] : Fin 2 → Nat) a + (![1, 1024] : Fin 2 → Nat) a ≤ S4x1024.size a) (x : Vec Ideal S4x1024 .f32)
    (a : Fin 4) (ha : a.val = o) (k : Fin 1024) : View.ld x (Rect.unit ![o, 0] ![1, 1024] inb) (ix2 0 k) = x (ix2 a k) := by
  refine congrArg x (funext fun b => Fin.ext ?_)
  match b with
  | ⟨0, _⟩ => show o + 1 * 0 = a.val; omega
  | ⟨1, _⟩ => show 0 + 1 * k.val = k.val; omega

theorem proj_congr {x x' g g' sh sh' sc sc' : Fin 1024 → EReal} {w w' : Fin 1024 → Fin 3072 → EReal} (hx : x = x') (hg : g = g') (hsh : sh = sh')
    (hsc : sc = sc') (hw : w = w') (n : Fin 3072) : proj (normMod x g sh sc) w n = proj (normMod x' g' sh' sc') w' n := by
  subst hx hg hsh hsc hw; rfl

theorem tok_row (t : Fin 8) (p : Fin 512) :
    (⟨(NaRefRows.sq (row t p)).val * 2048 + (tk (row t p)).val, by omega⟩ : Fin 4096) = row t p :=
  Fin.ext (by show (t.val * 512 + p.val) / 2048 * 2048 + (t.val * 512 + p.val) % 2048 = t.val * 512 + p.val; omega)

theorem smp_row (t : Fin 8) (p : Fin 512) : smp t = NaRefRows.sq (row t p) :=
  Fin.ext (by show t.val / 4 = (t.val * 512 + p.val) / 2048; omega)

/-- The joint projection of a tile's row is that of its token. -/
theorem qkv_row (c : Dev nD) (t : Fin cfg0.N) (p : Fin 512) (cols : Fin 1024 → Fin 3072) (n : Fin 1024) :
    NaTile.qkv (iblk0 (V1 m ρ) c 0 t) (iblk0 (V1 m ρ) c 1 t) (View.ld (iblk0 (V1 m ρ) c 2 t) (Rect.unit ![0, 0] ![1, 1024] inb_S4x1024_S1x1024_0_0))
        (iblk0 (V1 m ρ) c 3 t) p (cols n)
      = prt m c (NaRefRows.sq (row t p)) cols (tk (row t p)) n := by
  refine proj_congr (funext fun k => ?_) (funext fun k => ?_) (funext fun k => ?_) (funext fun k => ?_) (funext fun k => funext fun n => ?_) _
  · rw [x_blk0]
    exact congrArg (fun r => aX m c (ix2 r k)) (tok_row t p).symm
  · exact (ld_g _ _ 0 rfl k).trans (g_blk0 m ρ c t 0 k)
  · exact (mod_blk0 m ρ c t _).trans (congrArg (fun b : Fin 2 => NaRefRows.shift (aMod m c) b k) (smp_row t p))
  · exact (mod_blk0 m ρ c t _).trans (congrArg (fun b : Fin 2 => NaRefRows.modAt (aMod m c) b 1024 (by decide) k) (smp_row t p))
  · exact qkv_blk0 m ρ c t k n

theorem flushed_q (c : Dev nD) (t : Fin cfg0.N) :
    (dat0 (V1 m ρ) c).flushed 4 t = ((cfg0.win 4).blk t).view.read (Elt Ideal) (qArr m c) := by
  show (cfg0.win 4).cut (grid0.coords t) ((dat0 (V1 m ρ) c).after 4 t) = _
  rw [after0_4]
  unfold out0_4
  frame_open
  frame_out
  funext j
  obtain ⟨p, l, rfl⟩ : ∃ (p : Fin 512) (l : Fin 1024), j = ix2 p l := ⟨j 0, j 1, eq_ix2 j⟩
  refine (NaTile.q_apply _ _ _ _ p l).trans ?_
  have hj : ((cfg0.win 4).blk t).view.read (Elt Ideal) (qArr m c) (ix2 p l) = qArr m c (ix2 (row t p) l) := by
    refine congrArg (qArr m c) (funext fun a => Fin.ext ?_)
    match a with
    | ⟨0, _⟩ => show win0_4.index t 0 * 512 + 1 * p.val = t.val * 512 + p.val; rw [(idx0_out t).1.1]; omega
    | ⟨1, _⟩ => show win0_4.index t 1 * 1024 + 1 * l.val = l.val; rw [(idx0_out t).1.2]; omega
  rw [hj]
  exact congrArg (· * Ideal.ofBits FTy.f32 0x3E000000#32) (qkv_row m ρ c t p qCol l)
theorem flushed_keys (c : Dev nD) (t : Fin cfg0.N) :
    (dat0 (V1 m ρ) c).flushed 5 t = ((cfg0.win 5).blk t).view.read (Elt Ideal) (partArr m c kCol) := by
  show (cfg0.win 5).cut (grid0.coords t) ((dat0 (V1 m ρ) c).after 5 t) = _
  rw [after0_5]
  unfold out0_5
  frame_open
  frame_out
  funext j
  obtain ⟨p, l, rfl⟩ : ∃ (p : Fin 512) (l : Fin 1024), j = ix2 p l := ⟨j 0, j 1, eq_ix2 j⟩
  refine (NaTile.k_apply _ _ _ _ p l).trans ?_
  have hj : ((cfg0.win 5).blk t).view.read (Elt Ideal) (partArr m c kCol) (ix2 p l) = partArr m c kCol (ix2 (row t p) l) := by
    refine congrArg (partArr m c kCol) (funext fun a => Fin.ext ?_)
    match a with
    | ⟨0, _⟩ => show win0_5.index t 0 * 512 + 1 * p.val = t.val * 512 + p.val; rw [(idx0_out t).2.1.1]; omega
    | ⟨1, _⟩ => show win0_5.index t 1 * 1024 + 1 * l.val = l.val; rw [(idx0_out t).2.1.2]; omega
  rw [hj]
  exact qkv_row m ρ c t p kCol l

theorem flushed_vals (c : Dev nD) (t : Fin cfg0.N) :
    (dat0 (V1 m ρ) c).flushed 6 t = ((cfg0.win 6).blk t).view.read (Elt Ideal) (partArr m c vCol) := by
  show (cfg0.win 6).cut (grid0.coords t) ((dat0 (V1 m ρ) c).after 6 t) = _
  rw [after0_6]
  unfold out0_6
  frame_open
  frame_out
  funext j
  obtain ⟨p, l, rfl⟩ : ∃ (p : Fin 512) (l : Fin 1024), j = ix2 p l := ⟨j 0, j 1, eq_ix2 j⟩
  refine (NaTile.v_apply _ _ _ _ p l).trans ?_
  have hj : ((cfg0.win 6).blk t).view.read (Elt Ideal) (partArr m c vCol) (ix2 p l) = partArr m c vCol (ix2 (row t p) l) := by
    refine congrArg (partArr m c vCol) (funext fun a => Fin.ext ?_)
    match a with
    | ⟨0, _⟩ => show win0_6.index t 0 * 512 + 1 * p.val = t.val * 512 + p.val; rw [(idx0_out t).2.2.1]; omega
    | ⟨1, _⟩ => show win0_6.index t 1 * 1024 + 1 * l.val = l.val; rw [(idx0_out t).2.2.2]; omega
  rw [hj]
  exact qkv_row m ρ c t p vCol l

theorem mem_q (t : Fin cfg0.N) (i : S4096x1024.Idx) :
    i ∈ ((cfg0.win 4).blk t).view.set ↔ t.val * 512 ≤ (i 0 : Nat) ∧ (i 0 : Nat) < t.val * 512 + 512 := by
  show i ∈ ((View.whole main_v1_0).slice (win0_4.rect t)).set ↔ _
  rw [View.set_slice_whole, Rect.mem_set_unit]
  have h1 : (i 1 : Nat) < 1024 := (i 1).isLt
  refine ⟨fun h => ?_, fun h a => ?_⟩
  · have : win0_4.index t 0 * 512 ≤ (i 0 : Nat) ∧ (i 0 : Nat) < win0_4.index t 0 * 512 + 512 := h 0
    rw [(idx0_out t).1.1] at this; exact this
  · match a with
    | ⟨0, _⟩ => show win0_4.index t 0 * 512 ≤ (i 0 : Nat) ∧ (i 0 : Nat) < win0_4.index t 0 * 512 + 512
                rw [(idx0_out t).1.1]; exact h
    | ⟨1, _⟩ => show win0_4.index t 1 * 1024 ≤ (i 1 : Nat) ∧ (i 1 : Nat) < win0_4.index t 1 * 1024 + 1024
                rw [(idx0_out t).1.2]
                exact ⟨Nat.zero_le _, h1⟩

theorem cover_q (i : S4096x1024.Idx) :
    ∃ t : Fin cfg0.N, (cfg0.win 4).flush t = true ∧ i ∈ ((cfg0.win 4).blk t).view.set := by
  have h0 : (i 0 : Nat) < 4096 := (i 0).isLt
  have hN : cfg0.N = 8 := N_0
  refine ⟨⟨(i 0 : Nat) / 512, by omega⟩, flush0_4 _, ?_⟩
  rw [mem_q]
  dsimp only
  omega

theorem final_q (c : Dev nD) : (dat0 (V1 m ρ) c).arrAt 4 cfg0.N = qArr m c :=
  (dat0 (V1 m ρ) c).arrAt_eq_of_cover 4 (qArr m c) (fun t _ => flushed_q m ρ c t) cover_q

theorem mem_keys (t : Fin cfg0.N) (i : S4096x1024.Idx) :
    i ∈ ((cfg0.win 5).blk t).view.set ↔ t.val * 512 ≤ (i 0 : Nat) ∧ (i 0 : Nat) < t.val * 512 + 512 := by
  show i ∈ ((View.whole main_v1_1).slice (win0_5.rect t)).set ↔ _
  rw [View.set_slice_whole, Rect.mem_set_unit]
  have h1 : (i 1 : Nat) < 1024 := (i 1).isLt
  refine ⟨fun h => ?_, fun h a => ?_⟩
  · have : win0_5.index t 0 * 512 ≤ (i 0 : Nat) ∧ (i 0 : Nat) < win0_5.index t 0 * 512 + 512 := h 0
    rw [(idx0_out t).2.1.1] at this; exact this
  · match a with
    | ⟨0, _⟩ => show win0_5.index t 0 * 512 ≤ (i 0 : Nat) ∧ (i 0 : Nat) < win0_5.index t 0 * 512 + 512
                rw [(idx0_out t).2.1.1]; exact h
    | ⟨1, _⟩ => show win0_5.index t 1 * 1024 ≤ (i 1 : Nat) ∧ (i 1 : Nat) < win0_5.index t 1 * 1024 + 1024
                rw [(idx0_out t).2.1.2]
                exact ⟨Nat.zero_le _, h1⟩

theorem cover_keys (i : S4096x1024.Idx) :
    ∃ t : Fin cfg0.N, (cfg0.win 5).flush t = true ∧ i ∈ ((cfg0.win 5).blk t).view.set := by
  have h0 : (i 0 : Nat) < 4096 := (i 0).isLt
  have hN : cfg0.N = 8 := N_0
  refine ⟨⟨(i 0 : Nat) / 512, by omega⟩, flush0_5 _, ?_⟩
  rw [mem_keys]
  dsimp only
  omega

theorem final_keys (c : Dev nD) : (dat0 (V1 m ρ) c).arrAt 5 cfg0.N = partArr m c kCol :=
  (dat0 (V1 m ρ) c).arrAt_eq_of_cover 5 (partArr m c kCol) (fun t _ => flushed_keys m ρ c t) cover_keys

theorem mem_vals (t : Fin cfg0.N) (i : S4096x1024.Idx) :
    i ∈ ((cfg0.win 6).blk t).view.set ↔ t.val * 512 ≤ (i 0 : Nat) ∧ (i 0 : Nat) < t.val * 512 + 512 := by
  show i ∈ ((View.whole main_v1_2).slice (win0_6.rect t)).set ↔ _
  rw [View.set_slice_whole, Rect.mem_set_unit]
  have h1 : (i 1 : Nat) < 1024 := (i 1).isLt
  refine ⟨fun h => ?_, fun h a => ?_⟩
  · have : win0_6.index t 0 * 512 ≤ (i 0 : Nat) ∧ (i 0 : Nat) < win0_6.index t 0 * 512 + 512 := h 0
    rw [(idx0_out t).2.2.1] at this; exact this
  · match a with
    | ⟨0, _⟩ => show win0_6.index t 0 * 512 ≤ (i 0 : Nat) ∧ (i 0 : Nat) < win0_6.index t 0 * 512 + 512
                rw [(idx0_out t).2.2.1]; exact h
    | ⟨1, _⟩ => show win0_6.index t 1 * 1024 ≤ (i 1 : Nat) ∧ (i 1 : Nat) < win0_6.index t 1 * 1024 + 1024
                rw [(idx0_out t).2.2.2]
                exact ⟨Nat.zero_le _, h1⟩

theorem cover_vals (i : S4096x1024.Idx) :
    ∃ t : Fin cfg0.N, (cfg0.win 6).flush t = true ∧ i ∈ ((cfg0.win 6).blk t).view.set := by
  have h0 : (i 0 : Nat) < 4096 := (i 0).isLt
  have hN : cfg0.N = 8 := N_0
  refine ⟨⟨(i 0 : Nat) / 512, by omega⟩, flush0_6 _, ?_⟩
  rw [mem_vals]
  dsimp only
  omega

theorem final_vals (c : Dev nD) : (dat0 (V1 m ρ) c).arrAt 6 cfg0.N = partArr m c vCol :=
  (dat0 (V1 m ρ) c).arrAt_eq_of_cover 6 (partArr m c vCol) (fun t _ => flushed_vals m ρ c t) cover_vals

/-! ### The bias table's array -/

/-- A head's rows of the padded table. -/
abbrev padOf (c : Dev nD) (h : Fin 16) : Vec Ideal S1x15x128 .f32 := fun i => aPad m c (ix3 h (i 1) (i 2))

def tabArr (c : Dev nD) : Vec Ideal S16x14x64x128 .f32 := fun i => NaTile.table (padOf m c (i 0)) (ix4 0 (i 1) (i 2) (i 3))

theorem V3_arg (c : Dev nD) {a : Ref sig .tc} (ha : a ∈ argRefs) : V3 m ρ c a = m ((c : Thread nD τ).loc a) := W3_args m ρ c a ha

theorem idx1 : ∀ t : Fin cfg1.N, (win1_0.index t 0 = t.val ∧ win1_0.index t 1 = 0 ∧ win1_0.index t 2 = 0)
    ∧ (win1_1.index t 0 = t.val ∧ win1_1.index t 1 = 0 ∧ win1_1.index t 2 = 0 ∧ win1_1.index t 3 = 0) :=
  (by decide +kernel : ∀ t : Fin grid1.N, (win1_0.index t 0 = t.val ∧ win1_0.index t 1 = 0 ∧ win1_0.index t 2 = 0)
    ∧ (win1_1.index t 0 = t.val ∧ win1_1.index t 1 = 0 ∧ win1_1.index t 2 = 0 ∧ win1_1.index t 3 = 0))

theorem pad_blk (c : Dev nD) (t : Fin cfg1.N) : iblk1 (V3 m ρ) c 0 t = padOf m c t := by
  funext i
  have e : padOf m c t i = aPad m c (ix3 t (i 1) (i 2)) := rfl
  rw [e, aPad, ← V3_arg m ρ c (a := main_arg6) (by simp)]
  refine congrArg (V3 m ρ c main_arg6) (funext fun a => Fin.ext ?_)
  have h0 : (i 0).val < 1 := (i 0).isLt
  match a with
  | ⟨0, _⟩ => show win1_0.index t 0 * 1 + 1 * (i 0).val = t.val; rw [(idx1 t).1.1]; omega
  | ⟨1, _⟩ => show win1_0.index t 1 * 15 + 1 * (i 1).val = (i 1).val; rw [(idx1 t).1.2.1]; omega
  | ⟨2, _⟩ => show win1_0.index t 2 * 128 + 1 * (i 2).val = (i 2).val; rw [(idx1 t).1.2.2]; omega

theorem flushed_tab (c : Dev nD) (t : Fin cfg1.N) :
    (dat1 (V3 m ρ) c).flushed 1 t = ((cfg1.win 1).blk t).view.read (Elt Ideal) (tabArr m c) := by
  show (cfg1.win 1).cut (grid1.coords t) ((dat1 (V3 m ρ) c).after 1 t) = _
  rw [after1_1, NaTile.table_block, pad_blk]
  funext j
  have h0 : (j 0).val < 1 := (j 0).isLt
  have hj : ((cfg1.win 1).blk t).view.read (Elt Ideal) (tabArr m c) j = tabArr m c (ix4 t (j 1) (j 2) (j 3)) := by
    refine congrArg (tabArr m c) (funext fun a => Fin.ext ?_)
    match a with
    | ⟨0, _⟩ => show win1_1.index t 0 * 1 + 1 * (j 0).val = t.val; rw [(idx1 t).2.1]; omega
    | ⟨1, _⟩ => show win1_1.index t 1 * 14 + 1 * (j 1).val = (j 1).val; rw [(idx1 t).2.2.1]; omega
    | ⟨2, _⟩ => show win1_1.index t 2 * 64 + 1 * (j 2).val = (j 2).val; rw [(idx1 t).2.2.2.1]; omega
    | ⟨3, _⟩ => show win1_1.index t 3 * 128 + 1 * (j 3).val = (j 3).val; rw [(idx1 t).2.2.2.2]; omega
  rw [hj]
  rfl

theorem mem_tab (t : Fin cfg1.N) (i : S16x14x64x128.Idx) :
    i ∈ ((cfg1.win 1).blk t).view.set ↔ t.val ≤ (i 0 : Nat) ∧ (i 0 : Nat) < t.val + 1 := by
  show i ∈ ((View.whole main_v6).slice (win1_1.rect t)).set ↔ _
  rw [View.set_slice_whole, Rect.mem_set_unit]
  have h1 : (i 1 : Nat) < 14 := (i 1).isLt
  have h2 : (i 2 : Nat) < 64 := (i 2).isLt
  have h3 : (i 3 : Nat) < 128 := (i 3).isLt
  refine ⟨fun h => ?_, fun h a => ?_⟩
  · have : win1_1.index t 0 * 1 ≤ (i 0 : Nat) ∧ (i 0 : Nat) < win1_1.index t 0 * 1 + 1 := h 0
    rw [(idx1 t).2.1, Nat.mul_one] at this; exact this
  · match a with
    | ⟨0, _⟩ => show win1_1.index t 0 * 1 ≤ (i 0 : Nat) ∧ (i 0 : Nat) < win1_1.index t 0 * 1 + 1
                rw [(idx1 t).2.1, Nat.mul_one]; exact h
    | ⟨1, _⟩ => show win1_1.index t 1 * 14 ≤ (i 1 : Nat) ∧ (i 1 : Nat) < win1_1.index t 1 * 14 + 14
                rw [(idx1 t).2.2.1, Nat.zero_mul, Nat.zero_add]
                exact ⟨Nat.zero_le _, h1⟩
    | ⟨2, _⟩ => show win1_1.index t 2 * 64 ≤ (i 2 : Nat) ∧ (i 2 : Nat) < win1_1.index t 2 * 64 + 64
                rw [(idx1 t).2.2.2.1, Nat.zero_mul, Nat.zero_add]
                exact ⟨Nat.zero_le _, h2⟩
    | ⟨3, _⟩ => show win1_1.index t 3 * 128 ≤ (i 3 : Nat) ∧ (i 3 : Nat) < win1_1.index t 3 * 128 + 128
                rw [(idx1 t).2.2.2.2, Nat.zero_mul, Nat.zero_add]
                exact ⟨Nat.zero_le _, h3⟩

theorem cover_tab (i : S16x14x64x128.Idx) :
    ∃ t : Fin cfg1.N, (cfg1.win 1).flush t = true ∧ i ∈ ((cfg1.win 1).blk t).view.set := by
  have h0 : (i 0 : Nat) < 16 := (i 0).isLt
  have hN : cfg1.N = 16 := N_1
  refine ⟨⟨(i 0 : Nat), by omega⟩, flush1_1 _, ?_⟩
  rw [mem_tab]
  dsimp only
  omega

theorem final_tab (c : Dev nD) : (dat1 (V3 m ρ) c).arrAt 1 cfg1.N = tabArr m c :=
  (dat1 (V3 m ρ) c).arrAt_eq_of_cover 1 (tabArr m c) (fun t _ => flushed_tab m ρ c t) cover_tab

/-! ### What the attention call reads -/

theorem V5_arg (c : Dev nD) {a : Ref sig .tc} (ha : a ∈ argRefs) : V5 m ρ c a = m ((c : Thread nD τ).loc a) := W5_args m ρ c a ha

/-- A buffer that neither stretch of operations nor the bias table's call writes. -/
theorem V5_of (c : Dev nD) {r : Ref sig .tc} (h2 : r ∉ hostOps2_W) (h1 : r ∉ hostOps1_W)
    (h : ∀ w : Fin cfg1.W, Pipeline.arrRef spec1 w = r → (cfg1.win w).isOut = false) : V5 m ρ c r = W2 m ρ c (Proc.devRef .tc r) :=
  ((W5_of m ρ c r h2).trans (W4_of m ρ c r h)).trans (W3_of m ρ c r h1)

theorem V5_q (c : Dev nD) : V5 m ρ c main_v1_0 = qArr m c :=
  (V5_of m ρ c (by decide) (by decide) (by decide)).trans ((W2_arr m ρ c 4).trans (final_q m ρ c))

theorem V5_k (c : Dev nD) : V5 m ρ c main_v1_1 = partArr m c kCol :=
  (V5_of m ρ c (by decide) (by decide) (by decide)).trans ((W2_arr m ρ c 5).trans (final_keys m ρ c))

theorem V5_v (c : Dev nD) : V5 m ρ c main_v1_2 = partArr m c vCol :=
  (V5_of m ρ c (by decide) (by decide) (by decide)).trans ((W2_arr m ρ c 6).trans (final_vals m ρ c))

end Cert.NaValue

end
-- ==== Proof.NaValue.lean ====
/-
  THE NEIGHBOURHOOD ATTENTION'S ARRAY: on finite activations, modulation, gains, query/key/value weights, context keys and bias
  the first three calls leave, in row `r` of their result, the attention part of the layer on that token of its sample.
-/
module

public import proofs.«01_k».proof.Defs
public import proofs.«01_k».proof.Proof.NaArrays

@[expose] public section

set_option maxRecDepth 16384

noncomputable section

namespace Cert.NaValue

open Idealize.ShloMosaic Idealize.ShloMosaic.TcCoe Idealize.SL.Sem
open Idealize.ShloMosaic.Pointwise Idealize.ShloMosaic.Tactic
open Idealize.ShloMosaic.Pipeline (Dat)
open Cert.NaIdeal Cert.NaIdeal.Gen Cert.LayerSpec Cert.AttnSpec Cert.NaSpec
open Cert.NaTile (gridRow winTok entry rowIn colIn tileOf laneOf heads)
open Cert.NaRefRows (tk)
open scoped BigOperators

variable (m : (ℓ : Loc nD τ sig) → Buf (Elt Ideal) ℓ) (ρ : Dev nD → PrngReg)

/-! ### The context and the table, as the attention reads them -/

/-- The context's keys or values, by rows. -/
def ctxArr (x : Vec Ideal S2x512x16x64 .f32) : Vec Ideal S1024x1024 .bf16 := shapeCast S1024x1024 x shapeCasts_S2x512x16x64_S1024x1024

theorem ctxArr_apply (x : Vec Ideal S2x512x16x64 .f32) (r n : Fin 1024) :
    ctxArr x (ix2 r n) = x (ix4 ⟨r.val / 512, by omega⟩ ⟨r.val % 512, by omega⟩ (headOf n) (NaRefRows.ch n)) := by
  pointwise [ctxArr]

theorem V5_ck (c : Dev nD) : V5 m ρ c main_v3 = ctxArr (aCk m c) := by
  refine ((W5_of m ρ c main_v3 (by decide)).trans (W4_of m ρ c main_v3 (by decide))).trans ?_
  show StableHlo.after hostOps1 (W2 m ρ c) main_v3 = _
  simp only [hostOps1]
  after_results_simp
  rw [W2_args m ρ c main_arg4 (by simp)]
  rfl

theorem V5_cv (c : Dev nD) : V5 m ρ c main_v5 = ctxArr (aCv m c) := by
  refine ((W5_of m ρ c main_v5 (by decide)).trans (W4_of m ρ c main_v5 (by decide))).trans ?_
  show StableHlo.after hostOps1 (W2 m ρ c) main_v5 = _
  simp only [hostOps1]
  after_results_simp
  rw [W2_args m ρ c main_arg5 (by simp)]
  rfl

/-- The bias table, by heads and entries. -/
def flatTab (x : Vec Ideal S16x14x64x128 .f32) : Vec Ideal S224x64x128 .f32 := shapeCast S224x64x128 x shapeCasts_S16x14x64x128_S224x64x128

theorem flatTab_apply (x : Vec Ideal S16x14x64x128 .f32) (e : Fin 224) (c : Fin 64) (l : Fin 128) :
    flatTab x (ix3 e c l) = x (ix4 ⟨e.val / 14, by omega⟩ ⟨e.val % 14, by omega⟩ c l) := by
  pointwise [flatTab]

theorem V5_tab (c : Dev nD) : V5 m ρ c main_v7 = flatTab (tabArr m c) := by
  show StableHlo.after hostOps2 (W4 m ρ c) main_v7 = _
  simp only [hostOps2]
  after_results_simp
  have e : W4 m ρ c (Proc.devRef .tc main_v6) = tabArr m c := (W4_arr m ρ c 1).trans (final_tab m ρ c)
  rw [e]
  rfl

theorem V5_out (c : Dev nD) : V5 m ρ c main_v8 = aOut m c := by
  show StableHlo.after hostOps2 (W4 m ρ c) main_v8 = _
  simp only [hostOps2]
  after_results_simp
  rw [W4_args m ρ c main_arg7 (by simp)]
  rfl

/-! ### The heads of a block are the neighbourhood attention -/

/-- The table's entry `d` of a head, at grid column `c` and lane `l`. -/
def entryAt (P : Fin 15 → Fin 128 → EReal) (d : Fin 14) (c : Fin 64) (l : Fin 128) : EReal :=
  if firstCol c ≤ l.val % 64 ∧ l.val % 64 < firstCol c + 16 then
    P ⟨d.val + l.val / 64, by omega⟩ ⟨63 + l.val % 64 - c.val, by omega⟩
  else Ideal.ofBits FTy.f32 0xF149F2CA#32

/-- The entry that a grid row reads for the `j`-th pair of rows of its window. -/
abbrev relRow (r : Fin 32) (j : Fin 4) : Fin 14 :=
  ⟨(firstRow r + 7 - r.val) + 2 * j.val, by have := first_facts r; omega⟩

theorem entryAt_eq (P : Fin 15 → Fin 128 → EReal) (r : Fin 32) (c : Fin 64) (t : Fin 512) :
    entryAt P (relRow r (tileOf t)) c (laneOf t) = biasAt P r c (wRow t) (wCol t) := by
  have h1 : t.val % 128 % 64 = t.val % 64 := by omega
  have hf := first_facts r
  unfold entryAt biasAt
  refine if_congr ?_ (congrArg₂ P (Fin.ext ?_) (Fin.ext ?_)) rfl
  · show firstCol c ≤ t.val % 128 % 64 ∧ t.val % 128 % 64 < firstCol c + 16 ↔ firstCol c ≤ t.val % 64 ∧ t.val % 64 < firstCol c + 16
    rw [h1]
  · show firstRow r + 7 - r.val + 2 * (t.val / 128) + t.val % 128 / 64 = firstRow r + t.val / 64 + 7 - r.val
    generalize firstRow r = f at hf
    omega
  · show 63 + t.val % 128 % 64 - c.val = 63 + t.val % 64 - c.val
    rw [h1]

theorem heads_eq (b : Fin 4) (q : Vec Ideal S512x1024 .bf16) (k v : Vec Ideal S2048x1024 .bf16) (ck cv : Vec Ideal S512x1024 .bf16)
    (T : Vec Ideal S224x64x128 .f32) {Q K V : Fin 2048 → Fin 1024 → EReal} {CK CV : Fin 512 → Fin 1024 → EReal}
    {P : Fin 16 → Fin 15 → Fin 128 → EReal} (p : Fin 512) (pp : Fin 2048) (hpp : pp.val = b.val * 512 + p.val)
    (hq : ∀ n, q (ix2 p n) = Q pp n * Ideal.ofBits FTy.f32 0x3E000000#32) (hk : ∀ s n, k (ix2 s n) = K s n) (hv : ∀ s n, v (ix2 s n) = V s n)
    (hck : ∀ t n, ck (ix2 t n) = CK t n) (hcv : ∀ t n, cv (ix2 t n) = CV t n)
    (hT : ∀ h r j c l, T (ix3 (entry h r j) c l) = entryAt (P h) (relRow r j) c l)
    (rQ : ∀ p n, IsReal (Q p n)) (rK : ∀ p n, IsReal (K p n)) (rC : ∀ t n, IsReal (CK t n)) (rP : ∀ h a j, IsReal (P h a j)) (n : Fin 1024) :
    heads b q k v ck cv T (ix2 p n) = naAtt Q K V CK CV P pp n := by
  have hr : gridRow b (rowIn p) = rowOf pp := Fin.ext (by show 8 * b.val + p.val / 64 = pp.val / 64; omega)
  have hc : colIn p = colOf pp := Fin.ext (by show p.val % 64 = pp.val % 64; omega)
  have e1 : (fun t => (∑ d, q (ix2 p (col (headOf n) d)) * k (ix2 (winTok (gridRow b (rowIn p)) t) (col (headOf n) d)))
      + T (ix3 (entry (headOf n) (gridRow b (rowIn p)) (tileOf t)) (colIn p) (laneOf t))) = locScore Q K P (headOf n) pp := by
    funext t
    rw [hr, hc, hT, entryAt_eq]
    simp only [hq, hk]
    rw [sum_scaled]
    rfl
  have e2 : (fun t => ∑ d, q (ix2 p (col (headOf n) d)) * ck (ix2 t (col (headOf n) d))) = ctxScore Q CK (headOf n) pp := by
    funext t
    simp only [hq, hck]
    rw [sum_scaled]
    rfl
  have e3 : (fun t => v (ix2 (winTok (gridRow b (rowIn p)) t) n)) = fun t => V (win pp t) n := by
    funext t
    rw [hr, hv]
  have e4 : (fun t => cv (ix2 t n)) = fun t => CV t n := funext fun t => hcv t n
  show quotTwo (fun t => (∑ d, q (ix2 p (col (headOf n) d)) * k (ix2 (winTok (gridRow b (rowIn p)) t) (col (headOf n) d)))
      + T (ix3 (entry (headOf n) (gridRow b (rowIn p)) (tileOf t)) (colIn p) (laneOf t)))
    (fun t => ∑ d, q (ix2 p (col (headOf n) d)) * ck (ix2 t (col (headOf n) d)))
    (fun t => v (ix2 (winTok (gridRow b (rowIn p)) t) n)) (fun t => cv (ix2 t n)) = _
  rw [e1, e2, e3, e4, quotTwo_eq _ _ (isReal_loc rQ rK rP _ _) (isReal_ctx rQ rC _ _)]
  rfl

/-! ### The precondition, read back -/

structure Finite (c : Dev nD) : Prop where
  x : ∀ i, IsReal (aX m c i)
  md : ∀ i, IsReal (aMod m c i)
  g : ∀ i, IsReal (aG m c i)
  w : ∀ i, IsReal (aQkv m c i)
  ck : ∀ i, IsReal (aCk m c i)
  pad : ∀ i, IsReal (aPad m c i)

instance : Subsingleton Cert.Pre_na_finite.S_.Idx := ⟨fun a b => funext fun k => k.elim0⟩

theorem real_of_all {s : Shape} {axes : List (Fin s.rank)} (x : FVec Ideal s .f32) (hb : Cert.Pre_na_finite.S_.BroadcastsInDim s (![] : Fin 0 → Fin s.rank))
    (h : s.ReducesTo axes Cert.Pre_na_finite.S_) (hu : 0 < Cert.Pre_na_finite.S_.numel) (init : IVec Cert.Pre_na_finite.S_ 1)
    (j : Cert.Pre_na_finite.S_.Idx)
    (e : Host.reduce IntOp.andi (cmpf .olt (Host.absf x) (broadcastInDim s ![] hb (constant Cert.Pre_na_finite.S_ .f32 0x7F800000#32))) init h hu j = 1#1)
    (i : s.Idx) : IsReal (x i) := by
  have hi := Host.reduce_andi_all _ _ h hu j e i
  have hlt : Ideal.cmp .olt (max (x i) (-(x i))) (Ideal.ofBits FTy.f32 0x7F800000#32) = 1#1 := hi
  rw [show Ideal.ofBits FTy.f32 0x7F800000#32 = ⊤ by simp [Ideal.ofBits, Ideal.ieee]] at hlt
  refine isReal_of_abs_lt (by_contra fun hn => ?_)
  have : Ideal.cmp .olt (max (x i) (-(x i))) ⊤ = 0#1 := by
    show BitVec.ofBool (decide _) = _
    rw [decide_eq_false hn]; rfl
  rw [this] at hlt
  exact absurd hlt (by decide)

theorem finite_of_pre [hP : Cert.Pre_na_finite.Facts] (h : Cert.Pre_NaIdeal_na_finite m) (c : Dev nD) : Finite m c := by
  have e := congrFun (h c) (fun k => k.elim0)
  unfold Cert.Pre_na_finite.fn Cert.Pre_na_finite.fn_part1 at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨real_of_all _ _ _ _ _ _ e1, real_of_all _ _ _ _ _ _ e2, real_of_all _ _ _ _ _ _ e3, real_of_all _ _ _ _ _ _ e4,
    real_of_all _ _ _ _ _ _ e5, real_of_all _ _ _ _ _ _ e6⟩

theorem isReal_prt {c : Dev nD} (hf : Finite m c) (b : Fin 2) (cols : Fin 1024 → Fin 3072) (p : Fin 2048) (n : Fin 1024) :
    IsReal (prt m c b cols p n) :=
  isReal_proj (isReal_normMod (fun _ => hf.x _) (fun _ => hf.g _) (fun _ => hf.md _) (fun _ => hf.md _)) (fun _ _ => hf.w _) _

/-! ### The attention call -/

/-- What the attention call's array is shown to hold: the attention part of the layer on every token of the samples. -/
def out (c : Dev nD) : Vec Ideal S4096x1024 .f32 := fun i =>
  naRow (NaRefRows.toks (aX m c) (NaRefRows.sq (i 0))) (fun k => aG m c (ix2 0 k)) (fun k => aG m c (ix2 1 k))
    (NaRefRows.shift (aMod m c) (NaRefRows.sq (i 0))) (NaRefRows.modAt (aMod m c) (NaRefRows.sq (i 0)) 1024 (by decide))
    (NaRefRows.modAt (aMod m c) (NaRefRows.sq (i 0)) 2048 (by decide)) (fun k n => aQkv m c (ix2 k n))
    (NaRefRows.ctx (aCk m c) (NaRefRows.sq (i 0))) (NaRefRows.ctx (aCv m c) (NaRefRows.sq (i 0))) (NaRefRows.tab (aPad m c))
    (fun n l => aOut m c (ix2 n l)) (tk (i 0)) (i 1)

theorem idx2_rows : ∀ t : Fin cfg2.N, (win2_0.index t 0 = t.val ∧ win2_0.index t 1 = 0) ∧ (win2_6.index t 0 = t.val ∧ win2_6.index t 1 = 0) ∧ (win2_10.index t 0 = t.val ∧ win2_10.index t 1 = 0) :=
  (by decide +kernel : ∀ t : Fin grid2.N, (win2_0.index t 0 = t.val ∧ win2_0.index t 1 = 0) ∧ (win2_6.index t 0 = t.val ∧ win2_6.index t 1 = 0) ∧ (win2_10.index t 0 = t.val ∧ win2_10.index t 1 = 0))

theorem idx2_smp : ∀ t : Fin cfg2.N, (win2_1.index t 0 = t.val / 4 ∧ win2_1.index t 1 = 0) ∧ (win2_2.index t 0 = t.val / 4 ∧ win2_2.index t 1 = 0)
    ∧ (win2_3.index t 0 = t.val / 4 ∧ win2_3.index t 1 = 0) ∧ (win2_4.index t 0 = t.val / 4 ∧ win2_4.index t 1 = 0) :=
  (by decide +kernel : ∀ t : Fin grid2.N, (win2_1.index t 0 = t.val / 4 ∧ win2_1.index t 1 = 0) ∧ (win2_2.index t 0 = t.val / 4 ∧ win2_2.index t 1 = 0)
    ∧ (win2_3.index t 0 = t.val / 4 ∧ win2_3.index t 1 = 0) ∧ (win2_4.index t 0 = t.val / 4 ∧ win2_4.index t 1 = 0))

theorem idx2_mod : ∀ t : Fin cfg2.N, win2_7.index t 0 = 9 + t.val / 4 ∧ win2_7.index t 1 = 0 ∧ win2_7.index t 2 = 0 :=
  (by decide +kernel : ∀ t : Fin grid2.N, win2_7.index t 0 = 9 + t.val / 4 ∧ win2_7.index t 1 = 0 ∧ win2_7.index t 2 = 0)

theorem idx2_all : ∀ t : Fin cfg2.N, (win2_5.index t 0 = 0 ∧ win2_5.index t 1 = 0 ∧ win2_5.index t 2 = 0) ∧ (win2_8.index t 0 = 0 ∧ win2_8.index t 1 = 0) ∧ (win2_9.index t 0 = 0 ∧ win2_9.index t 1 = 0) :=
  (by decide +kernel : ∀ t : Fin grid2.N, (win2_5.index t 0 = 0 ∧ win2_5.index t 1 = 0 ∧ win2_5.index t 2 = 0) ∧ (win2_8.index t 0 = 0 ∧ win2_8.index t 1 = 0) ∧ (win2_9.index t 0 = 0 ∧ win2_9.index t 1 = 0))

theorem blk_of : ∀ t : Fin cfg2.N, (NaTile.blkOf (grid2.coords t)).val = t.val % 4 :=
  (by decide +kernel : ∀ t : Fin grid2.N, (NaTile.blkOf (grid2.coords t)).val = t.val % 4)

theorem q_blk (c : Dev nD) (t : Fin cfg2.N) (p : Fin 512) (n : Fin 1024) :
    iblk2 (V5 m ρ) c 0 t (ix2 p n) = qArr m c (ix2 (row t p) n) := by
  rw [← V5_q m ρ c]
  refine congrArg (V5 m ρ c main_v1_0) (funext fun a => Fin.ext ?_)
  match a with
  | ⟨0, _⟩ => show win2_0.index t 0 * 512 + 1 * p.val = t.val * 512 + p.val; rw [(idx2_rows t).1.1]; omega
  | ⟨1, _⟩ => show win2_0.index t 1 * 1024 + 1 * n.val = n.val; rw [(idx2_rows t).1.2]; omega

/-- Token `s` of sample `b`, and row `s` of its context. -/
abbrev tokOf (b : Fin 2) (s : Fin 2048) : Fin 4096 := ⟨b.val * 2048 + s.val, by omega⟩
abbrev ctxOf (b : Fin 2) (s : Fin 512) : Fin 1024 := ⟨b.val * 512 + s.val, by omega⟩

theorem k_blk (c : Dev nD) (t : Fin cfg2.N) (s : Fin 2048) (n : Fin 1024) :
    iblk2 (V5 m ρ) c 1 t (ix2 s n) = partArr m c kCol (ix2 (tokOf (smp t) s) n) := by
  rw [← V5_k m ρ c]
  refine congrArg (V5 m ρ c main_v1_1) (funext fun a => Fin.ext ?_)
  match a with
  | ⟨0, _⟩ => show win2_1.index t 0 * 2048 + 1 * s.val = t.val / 4 * 2048 + s.val; rw [(idx2_smp t).1.1]; omega
  | ⟨1, _⟩ => show win2_1.index t 1 * 1024 + 1 * n.val = n.val; rw [(idx2_smp t).1.2]; omega

theorem v_blk (c : Dev nD) (t : Fin cfg2.N) (s : Fin 2048) (n : Fin 1024) :
    iblk2 (V5 m ρ) c 2 t (ix2 s n) = partArr m c vCol (ix2 (tokOf (smp t) s) n) := by
  rw [← V5_v m ρ c]
  refine congrArg (V5 m ρ c main_v1_2) (funext fun a => Fin.ext ?_)
  match a with
  | ⟨0, _⟩ => show win2_2.index t 0 * 2048 + 1 * s.val = t.val / 4 * 2048 + s.val; rw [(idx2_smp t).2.1.1]; omega
  | ⟨1, _⟩ => show win2_2.index t 1 * 1024 + 1 * n.val = n.val; rw [(idx2_smp t).2.1.2]; omega

theorem ck_blk (c : Dev nD) (t : Fin cfg2.N) (s : Fin 512) (n : Fin 1024) :
    iblk2 (V5 m ρ) c 3 t (ix2 s n) = ctxArr (aCk m c) (ix2 (ctxOf (smp t) s) n) := by
  rw [← V5_ck m ρ c]
  refine congrArg (V5 m ρ c main_v3) (funext fun a => Fin.ext ?_)
  match a with
  | ⟨0, _⟩ => show win2_3.index t 0 * 512 + 1 * s.val = t.val / 4 * 512 + s.val; rw [(idx2_smp t).2.2.1.1]; omega
  | ⟨1, _⟩ => show win2_3.index t 1 * 1024 + 1 * n.val = n.val; rw [(idx2_smp t).2.2.1.2]; omega

theorem cv_blk (c : Dev nD) (t : Fin cfg2.N) (s : Fin 512) (n : Fin 1024) :
    iblk2 (V5 m ρ) c 4 t (ix2 s n) = ctxArr (aCv m c) (ix2 (ctxOf (smp t) s) n) := by
  rw [← V5_cv m ρ c]
  refine congrArg (V5 m ρ c main_v5) (funext fun a => Fin.ext ?_)
  match a with
  | ⟨0, _⟩ => show win2_4.index t 0 * 512 + 1 * s.val = t.val / 4 * 512 + s.val; rw [(idx2_smp t).2.2.2.1]; omega
  | ⟨1, _⟩ => show win2_4.index t 1 * 1024 + 1 * n.val = n.val; rw [(idx2_smp t).2.2.2.2]; omega

theorem tab_blk (c : Dev nD) (t : Fin cfg2.N) (e : Fin 224) (k : Fin 64) (l : Fin 128) :
    iblk2 (V5 m ρ) c 5 t (ix3 e k l) = flatTab (tabArr m c) (ix3 e k l) := by
  rw [← V5_tab m ρ c]
  refine congrArg (V5 m ρ c main_v7) (funext fun a => Fin.ext ?_)
  match a with
  | ⟨0, _⟩ => show win2_5.index t 0 * 224 + 1 * e.val = e.val; rw [(idx2_all t).1.1]; omega
  | ⟨1, _⟩ => show win2_5.index t 1 * 64 + 1 * k.val = k.val; rw [(idx2_all t).1.2.1]; omega
  | ⟨2, _⟩ => show win2_5.index t 2 * 128 + 1 * l.val = l.val; rw [(idx2_all t).1.2.2]; omega

theorem x_blk (c : Dev nD) (t : Fin cfg2.N) (p : Fin 512) (k : Fin 1024) :
    iblk2 (V5 m ρ) c 6 t (ix2 p k) = aX m c (ix2 (row t p) k) := by
  rw [aX, ← V5_arg m ρ c (a := main_arg0) (by simp)]
  refine congrArg (V5 m ρ c main_arg0) (funext fun a => Fin.ext ?_)
  match a with
  | ⟨0, _⟩ => show win2_6.index t 0 * 512 + 1 * p.val = t.val * 512 + p.val; rw [(idx2_rows t).2.1.1]; omega
  | ⟨1, _⟩ => show win2_6.index t 1 * 1024 + 1 * k.val = k.val; rw [(idx2_rows t).2.1.2]; omega

theorem mod_blk (c : Dev nD) (t : Fin cfg2.N) (n : Fin 6144) :
    iblk2 (V5 m ρ) c 7 t (ix3 0 0 n) = aMod m c (ix3 ⟨9 + (smp t).val, by omega⟩ 0 n) := by
  rw [aMod, ← V5_arg m ρ c (a := main_arg1) (by simp)]
  refine congrArg (V5 m ρ c main_arg1) (funext fun a => Fin.ext ?_)
  match a with
  | ⟨0, _⟩ => show win2_7.index t 0 * 1 + 1 * 0 = 9 + t.val / 4; rw [(idx2_mod t).1]; omega
  | ⟨1, _⟩ => show win2_7.index t 1 * 1 + 1 * 0 = 0; rw [(idx2_mod t).2.1]
  | ⟨2, _⟩ => show win2_7.index t 2 * 6144 + 1 * n.val = n.val; rw [(idx2_mod t).2.2]; omega

theorem g_blk (c : Dev nD) (t : Fin cfg2.N) (b : Fin 4) (k : Fin 1024) :
    iblk2 (V5 m ρ) c 8 t (ix2 b k) = aG m c (ix2 b k) := by
  rw [aG, ← V5_arg m ρ c (a := main_arg2) (by simp)]
  refine congrArg (V5 m ρ c main_arg2) (funext fun a => Fin.ext ?_)
  match a with
  | ⟨0, _⟩ => show win2_8.index t 0 * 4 + 1 * b.val = b.val; rw [(idx2_all t).2.1.1]; omega
  | ⟨1, _⟩ => show win2_8.index t 1 * 1024 + 1 * k.val = k.val; rw [(idx2_all t).2.1.2]; omega

theorem out_blk (c : Dev nD) (t : Fin cfg2.N) (b k : Fin 1024) :
    iblk2 (V5 m ρ) c 9 t (ix2 b k) = aOut m c (ix2 b k) := by
  rw [← V5_out m ρ c]
  refine congrArg (V5 m ρ c main_v8) (funext fun a => Fin.ext ?_)
  match a with
  | ⟨0, _⟩ => show win2_9.index t 0 * 1024 + 1 * b.val = b.val; rw [(idx2_all t).2.2.1]; omega
  | ⟨1, _⟩ => show win2_9.index t 1 * 1024 + 1 * k.val = k.val; rw [(idx2_all t).2.2.2]; omega

theorem sq_tok (b : Fin 2) (s : Fin 2048) : NaRefRows.sq (tokOf b s) = b :=
  Fin.ext (by show (b.val * 2048 + s.val) / 2048 = b.val; omega)

theorem tk_tok (b : Fin 2) (s : Fin 2048) : tk (tokOf b s) = s :=
  Fin.ext (by show (b.val * 2048 + s.val) % 2048 = s.val; omega)

/-- The keys or values of token `s` of sample `b`. -/
theorem part_tok (c : Dev nD) (cols : Fin 1024 → Fin 3072) (b : Fin 2) (s : Fin 2048) (n : Fin 1024) :
    partArr m c cols (ix2 (tokOf b s) n) = prt m c b cols s n := by
  show prt m c (NaRefRows.sq (tokOf b s)) cols (tk (tokOf b s)) n = _
  rw [sq_tok, tk_tok]

theorem ctx_row (x : Vec Ideal S2x512x16x64 .f32) (b : Fin 2) (s : Fin 512) (n : Fin 1024) :
    ctxArr x (ix2 (ctxOf b s) n) = NaRefRows.ctx x b s n := by
  rw [ctxArr_apply]
  have e1 : (⟨(ctxOf b s).val / 512, by omega⟩ : Fin 2) = b := Fin.ext (by show (b.val * 512 + s.val) / 512 = b.val; omega)
  have e2 : (⟨(ctxOf b s).val % 512, by omega⟩ : Fin 512) = s := Fin.ext (by show (b.val * 512 + s.val) % 512 = s.val; omega)
  rw [e1, e2]

theorem tab_entry (c : Dev nD) (h : Fin 16) (r : Fin 32) (j : Fin 4) (k : Fin 64) (l : Fin 128) :
    flatTab (tabArr m c) (ix3 (entry h r j) k l) = entryAt (NaRefRows.tab (aPad m c) h) (relRow r j) k l := by
  rw [flatTab_apply]
  have hf := first_facts r
  have e1 : (⟨(entry h r j).val / 14, by omega⟩ : Fin 16) = h := Fin.ext (by
    show (14 * h.val + (firstRow r + 7 - r.val) + 2 * j.val) / 14 = h.val
    generalize firstRow r = f at hf
    omega)
  have e2 : (⟨(entry h r j).val % 14, by omega⟩ : Fin 14) = relRow r j := Fin.ext (by
    show (14 * h.val + (firstRow r + 7 - r.val) + 2 * j.val) % 14 = firstRow r + 7 - r.val + 2 * j.val
    generalize firstRow r = f at hf
    omega)
  rw [e1, e2]
  rfl

theorem gated_congr {x x' gt gt' g g' y y' : Fin 1024 → EReal} (hx : x = x') (ht : gt = gt') (hg : g = g') (hy : y = y') (l : Fin 1024) :
    gated x gt g y l = gated x' gt' g' y' l := by
  subst hx ht hg hy; rfl

theorem block_row (c : Dev nD) (hf : Finite m c) (t : Fin cfg2.N) (p : Fin 512) (l : Fin 1024) :
    NaTile.blockOut (NaTile.blkOf (grid2.coords t)) (iblk2 (V5 m ρ) c 0 t) (iblk2 (V5 m ρ) c 1 t) (iblk2 (V5 m ρ) c 2 t) (iblk2 (V5 m ρ) c 3 t)
        (iblk2 (V5 m ρ) c 4 t) (iblk2 (V5 m ρ) c 5 t) (iblk2 (V5 m ρ) c 6 t) (iblk2 (V5 m ρ) c 7 t) (iblk2 (V5 m ρ) c 8 t)
        (iblk2 (V5 m ρ) c 9 t) (ix2 p l)
      = out m c (ix2 (row t p) l) := by
  have hb : smp t = NaRefRows.sq (row t p) := smp_row t p
  have ht : t.val < 8 := t.isLt
  unfold NaTile.blockOut out naRow
  refine gated_congr (funext fun k => ?_) (funext fun k => ?_) (funext fun k => ?_) ?_ l
  · exact (x_blk m ρ c t p k).trans (congrArg (fun r => aX m c (ix2 r k)) (tok_row t p).symm)
  · exact (mod_blk m ρ c t _).trans (congrArg (fun b : Fin 2 => NaRefRows.modAt (aMod m c) b 2048 (by decide) k) hb)
  · exact g_blk m ρ c t 1 k
  refine congrArg₂ proj (funext fun n => ?_) (funext fun n => funext fun l => out_blk m ρ c t n l)
  refine heads_eq _ _ _ _ _ _ _ p (tk (row t p)) ?_ (fun n => ?_) (fun s n => ?_) (fun s n => ?_) (fun s n => ?_) (fun s n => ?_)
    (fun h r j k l => ?_) (isReal_prt m hf _ _) (isReal_prt m hf _ _) (fun _ _ => hf.ck _) (fun _ _ _ => hf.pad _) n
  · rw [blk_of]
    show (t.val * 512 + p.val) % 2048 = t.val % 4 * 512 + p.val
    omega
  · exact q_blk m ρ c t p n
  · exact (k_blk m ρ c t s n).trans ((part_tok m c kCol _ s n).trans (congrArg (fun b => prt m c b kCol s n) hb))
  · exact (v_blk m ρ c t s n).trans ((part_tok m c vCol _ s n).trans (congrArg (fun b => prt m c b vCol s n) hb))
  · exact (ck_blk m ρ c t s n).trans ((ctx_row _ _ s n).trans (congrArg (fun b => NaRefRows.ctx (aCk m c) b s n) hb))
  · exact (cv_blk m ρ c t s n).trans ((ctx_row _ _ s n).trans (congrArg (fun b => NaRefRows.ctx (aCv m c) b s n) hb))
  · exact (tab_blk m ρ c t _ k l).trans (tab_entry m c h r j k l)

theorem flushed_out (c : Dev nD) (hf : Finite m c) (t : Fin cfg2.N) :
    (dat2 (V5 m ρ) c).flushed 10 t = ((cfg2.win 10).blk t).view.read (Elt Ideal) (out m c) := by
  show (cfg2.win 10).cut (grid2.coords t) ((dat2 (V5 m ρ) c).after 10 t) = _
  rw [after2_10]
  funext j
  obtain ⟨p, l, rfl⟩ : ∃ (p : Fin 512) (l : Fin 1024), j = ix2 p l := ⟨j 0, j 1, eq_ix2 j⟩
  have hj : ((cfg2.win 10).blk t).view.read (Elt Ideal) (out m c) (ix2 p l) = out m c (ix2 (row t p) l) := by
    refine congrArg (out m c) (funext fun a => Fin.ext ?_)
    match a with
    | ⟨0, _⟩ => show win2_10.index t 0 * 512 + 1 * p.val = t.val * 512 + p.val; rw [(idx2_rows t).2.2.1]; omega
    | ⟨1, _⟩ => show win2_10.index t 1 * 1024 + 1 * l.val = l.val; rw [(idx2_rows t).2.2.2]; omega
  rw [hj, ← block_row m ρ c hf t p l]
  exact NaTile.out_eq c (grid2.coords t) (ms2_0 t) (hs2_0 t) (ms2_1 t) (hs2_1 t) (ms2_2 t) (hs2_2 t) (ms2_3 t) (hs2_3 t) (ms2_4 t) (hs2_4 t)
    (ms2_5 t) (hs2_5 t) (ms2_6 t) (hs2_6 t) (ms2_7 t) (hs2_7 t) (ms2_8 t) (hs2_8 t) (ms2_9 t) (hs2_9 t) (ms2_10 t) (hs2_10 t) scM2_0
    (Memref.isWhole_whole _) (iblk2 (V5 m ρ) c 0 t) (iblk2 (V5 m ρ) c 1 t) (iblk2 (V5 m ρ) c 2 t) (iblk2 (V5 m ρ) c 3 t)
    (iblk2 (V5 m ρ) c 4 t) (iblk2 (V5 m ρ) c 5 t) (iblk2 (V5 m ρ) c 6 t) (iblk2 (V5 m ρ) c 7 t) (iblk2 (V5 m ρ) c 8 t)
    (iblk2 (V5 m ρ) c 9 t) (ix2 p l)

theorem mem_out (t : Fin cfg2.N) (i : S4096x1024.Idx) :
    i ∈ ((cfg2.win 10).blk t).view.set ↔ t.val * 512 ≤ (i 0 : Nat) ∧ (i 0 : Nat) < t.val * 512 + 512 := by
  show i ∈ ((View.whole main_v9).slice (win2_10.rect t)).set ↔ _
  rw [View.set_slice_whole, Rect.mem_set_unit]
  have h1 : (i 1 : Nat) < 1024 := (i 1).isLt
  refine ⟨fun h => ?_, fun h a => ?_⟩
  · have : win2_10.index t 0 * 512 ≤ (i 0 : Nat) ∧ (i 0 : Nat) < win2_10.index t 0 * 512 + 512 := h 0
    rw [(idx2_rows t).2.2.1] at this; exact this
  · match a with
    | ⟨0, _⟩ => show win2_10.index t 0 * 512 ≤ (i 0 : Nat) ∧ (i 0 : Nat) < win2_10.index t 0 * 512 + 512
                rw [(idx2_rows t).2.2.1]; exact h
    | ⟨1, _⟩ => show win2_10.index t 1 * 1024 ≤ (i 1 : Nat) ∧ (i 1 : Nat) < win2_10.index t 1 * 1024 + 1024
                rw [(idx2_rows t).2.2.2]
                exact ⟨Nat.zero_le _, h1⟩

theorem cover_out (i : S4096x1024.Idx) :
    ∃ t : Fin cfg2.N, (cfg2.win 10).flush t = true ∧ i ∈ ((cfg2.win 10).blk t).view.set := by
  have h0 : (i 0 : Nat) < 4096 := (i 0).isLt
  have hN : cfg2.N = 8 := N_2
  refine ⟨⟨(i 0 : Nat) / 512, by omega⟩, flush2_10 _, ?_⟩
  rw [mem_out]
  dsimp only
  omega

theorem final_out (c : Dev nD) (hf : Finite m c) : (dat2 (V5 m ρ) c).arrAt 10 cfg2.N = out m c :=
  (dat2 (V5 m ρ) c).arrAt_eq_of_cover 10 (out m c) (fun t _ => flushed_out m ρ c hf t) cover_out

end Cert.NaValue

end
-- ==== Proof.NaFfn.lean ====
/-
  THE SAMPLE'S FEED-FORWARD TILE: 512 rows of the feed-forward part of the layer, a row at a time.
-/
module

public import proofs.«01_k».proof.Proof.NaOut

@[expose] public section

set_option maxRecDepth 16384

noncomputable section

namespace Cert.NaFfnTile

open Idealize.ShloMosaic Idealize.ShloMosaic.TcCoe Idealize.SL.Sem
open Idealize.ShloMosaic.Pointwise
open Cert.NaIdeal Cert.NaIdeal.Gen Cert.LayerSpec
open scoped BigOperators

/-- Entry `o + k` of a modulation row: its six parts of 1024 channels begin at the multiples of 1024. -/
abbrev modAt (md : Vec Ideal S1x1x6144 .f32) (o : Nat) (ho : o + 1024 ≤ 6144 := by decide) (k : Fin 1024) : EReal :=
  md (ix3 0 0 ⟨o + k, by omega⟩)

theorem act_apply (x : Vec Ideal S512x1024 .f32) (md : Vec Ideal S1x1x6144 .f32) (g2 : Vec Ideal S1x1024 .f32)
    (wg wu : Vec Ideal S1024x2816 .bf16) (p : Fin 512) (c : Fin 2816) :
    k3_pay5 (F := Ideal) x md g2 wg wu (ix2 p c)
      = ffnAct (normMod (fun k => x (ix2 p k)) (fun k => g2 (ix2 0 k)) (modAt md 3072) (modAt md 4096))
          (fun k c => wg (ix2 k c)) (fun k c => wu (ix2 k c)) c := by
  pointwise [k3_pay5, k3_pay3, k3_pay2]
  rw [div_one_add_exp]
  rfl

theorem res_apply (x : Vec Ideal S512x1024 .f32) (gt : FVec Ideal S1x1024 .f32) (a : FVec Ideal S512x2816 .f32)
    (wd : Vec Ideal S2816x1024 .bf16) (g3 : Vec Ideal S1x1024 .f32) (p : Fin 512) (l : Fin 1024) :
    k3_pay1 (F := Ideal) (k3_pay2 x) gt a wd g3 (ix2 p l)
      = gated (fun k => x (ix2 p k)) (fun k => gt (ix2 0 k)) (fun k => g3 (ix2 0 k))
          (fun l => ∑ c, a (ix2 p c) * wd (ix2 c l)) l := by
  pointwise [k3_pay1, k3_pay2]
  rfl

theorem gt_apply (md : Vec Ideal S1x1x6144 .f32) (l : Fin 1024) :
    k3_pay4 (F := Ideal) md (ix2 0 l) = modAt md 5120 (by decide) l := by
  pointwise [k3_pay4, k3_pay3]
  try rfl

/-- The tile's row `p`: the feed-forward part of the layer on it. -/
theorem tile_apply (x : Vec Ideal S512x1024 .f32) (md : Vec Ideal S1x1x6144 .f32) (g2 g3 : Vec Ideal S1x1024 .f32)
    (wg wu : Vec Ideal S1024x2816 .bf16) (wd : Vec Ideal S2816x1024 .bf16) (p : Fin 512) (l : Fin 1024) :
    k3_pay1 (F := Ideal) (k3_pay2 x) (k3_pay4 md) (k3_pay5 x md g2 wg wu) wd g3 (ix2 p l)
      = ffnRow (fun k => x (ix2 p k)) (fun k => g2 (ix2 0 k)) (fun k => g3 (ix2 0 k))
          (modAt md 3072) (modAt md 4096) (modAt md 5120)
          (fun k c => wg (ix2 k c)) (fun k c => wu (ix2 k c)) (fun c l => wd (ix2 c l)) l := by
  rw [res_apply]
  simp only [act_apply, gt_apply]
  rfl

end Cert.NaFfnTile

end
-- ==== Proof.NaLayer.lean ====
/-
  THE SAMPLE'S SECOND LAYER: the neighbourhood attention's calls and the feed-forward call leave, in row `r` of the result, the
  feed-forward part on the row that the attention leaves, which is what the reference leaves there.
-/
module

public import proofs.«01_k».proof.Defs
public import proofs.«01_k».proof.Proof.NaValue
public import proofs.«01_k».proof.Proof.NaFfn

@[expose] public section

set_option maxRecDepth 16384

noncomputable section

namespace Cert.NaValue

open Idealize.ShloMosaic Idealize.ShloMosaic.TcCoe Idealize.SL.Sem
open Idealize.ShloMosaic.Pointwise Idealize.ShloMosaic.Tactic
open Idealize.ShloMosaic.Pipeline (Dat)
open Cert.NaIdeal Cert.NaIdeal.Gen Cert.LayerSpec Cert.AttnSpec Cert.NaSpec
open Cert.NaRefRows (tk)
open scoped BigOperators

variable (m : (ℓ : Loc nD τ sig) → Buf (Elt Ideal) ℓ) (ρ : Dev nD → PrngReg)

/-- The feed-forward weights, as launched. -/
abbrev aGate (c : Dev nD) : Vec Ideal S1024x2816 .f32 := m ((c : Thread nD τ).loc main_arg8)
abbrev aUp (c : Dev nD) : Vec Ideal S1024x2816 .f32 := m ((c : Thread nD τ).loc main_arg9)
abbrev aDown (c : Dev nD) : Vec Ideal S2816x1024 .f32 := m ((c : Thread nD τ).loc main_arg10)

/-- What the result is shown to hold: the feed-forward part on every row that the attention leaves. -/
def res (c : Dev nD) : Vec Ideal S4096x1024 .f32 := fun i =>
  ffnRow (fun k => out m c (ix2 (i 0) k)) (fun k => aG m c (ix2 2 k)) (fun k => aG m c (ix2 3 k))
    (NaRefRows.modAt (aMod m c) (NaRefRows.sq (i 0)) 3072 (by decide)) (NaRefRows.modAt (aMod m c) (NaRefRows.sq (i 0)) 4096 (by decide))
    (NaRefRows.modAt (aMod m c) (NaRefRows.sq (i 0)) 5120 (by decide))
    (fun k h => aGate m c (ix2 k h)) (fun k h => aUp m c (ix2 k h)) (fun h l => aDown m c (ix2 h l)) (i 1)

theorem V7_arg (c : Dev nD) {a : Ref sig .tc} (ha : a ∈ argRefs) : V7 m ρ c a = m ((c : Thread nD τ).loc a) := W7_args m ρ c a ha

/-- The feed-forward call reads the attention call's array. -/
theorem V7_mid (c : Dev nD) (hf : Finite m c) : V7 m ρ c main_v9 = out m c :=
  (W7_of m ρ c main_v9 (by decide)).trans ((W6_arr m ρ c 10).trans (final_out m ρ c hf))

/-- The weights reach the kernel converted to the narrow format, which changes nothing over the extended reals. -/
theorem V7_gate (c : Dev nD) : V7 m ρ c main_v10 = aGate m c := by
  show StableHlo.after hostOps3 (W6 m ρ c) main_v10 = _
  simp only [hostOps3]
  after_results_simp
  rw [W6_args m ρ c main_arg8 (by simp)]
  rfl

theorem V7_up (c : Dev nD) : V7 m ρ c main_v11 = aUp m c := by
  show StableHlo.after hostOps3 (W6 m ρ c) main_v11 = _
  simp only [hostOps3]
  after_results_simp
  rw [W6_args m ρ c main_arg9 (by simp)]
  rfl

theorem V7_down (c : Dev nD) : V7 m ρ c main_v12 = aDown m c := by
  show StableHlo.after hostOps3 (W6 m ρ c) main_v12 = _
  simp only [hostOps3]
  after_results_simp
  rw [W6_args m ρ c main_arg10 (by simp)]
  rfl

theorem idx3 : ∀ t : Fin cfg3.N, (win3_0.index t 0 = t.val ∧ win3_0.index t 1 = 0)
    ∧ (win3_6.index t 0 = t.val ∧ win3_6.index t 1 = 0) :=
  (by decide +kernel : ∀ t : Fin grid3.N, (win3_0.index t 0 = t.val ∧ win3_0.index t 1 = 0)
    ∧ (win3_6.index t 0 = t.val ∧ win3_6.index t 1 = 0))

theorem idx3_mod : ∀ t : Fin cfg3.N, win3_1.index t 0 = 9 + t.val / 4 ∧ win3_1.index t 1 = 0 ∧ win3_1.index t 2 = 0 :=
  (by decide +kernel : ∀ t : Fin grid3.N, win3_1.index t 0 = 9 + t.val / 4 ∧ win3_1.index t 1 = 0 ∧ win3_1.index t 2 = 0)

theorem idx3_all : ∀ t : Fin cfg3.N, (win3_2.index t 0 = 0 ∧ win3_2.index t 1 = 0) ∧ (win3_3.index t 0 = 0 ∧ win3_3.index t 1 = 0)
    ∧ (win3_4.index t 0 = 0 ∧ win3_4.index t 1 = 0) ∧ (win3_5.index t 0 = 0 ∧ win3_5.index t 1 = 0) :=
  (by decide +kernel : ∀ t : Fin grid3.N, (win3_2.index t 0 = 0 ∧ win3_2.index t 1 = 0) ∧ (win3_3.index t 0 = 0 ∧ win3_3.index t 1 = 0)
    ∧ (win3_4.index t 0 = 0 ∧ win3_4.index t 1 = 0) ∧ (win3_5.index t 0 = 0 ∧ win3_5.index t 1 = 0))

theorem x_blk3 (c : Dev nD) (hf : Finite m c) (t : Fin cfg3.N) (p : Fin 512) (k : Fin 1024) :
    iblk3 (V7 m ρ) c 0 t (ix2 p k) = out m c (ix2 (row t p) k) := by
  rw [← V7_mid m ρ c hf]
  refine congrArg (V7 m ρ c main_v9) (funext fun a => Fin.ext ?_)
  match a with
  | ⟨0, _⟩ => show win3_0.index t 0 * 512 + 1 * p.val = t.val * 512 + p.val; rw [(idx3 t).1.1]; omega
  | ⟨1, _⟩ => show win3_0.index t 1 * 1024 + 1 * k.val = k.val; rw [(idx3 t).1.2]; omega

theorem mod_blk3 (c : Dev nD) (t : Fin cfg3.N) (n : Fin 6144) :
    iblk3 (V7 m ρ) c 1 t (ix3 0 0 n) = aMod m c (ix3 ⟨9 + (smp t).val, by omega⟩ 0 n) := by
  rw [aMod, ← V7_arg m ρ c (a := main_arg1) (by simp)]
  refine congrArg (V7 m ρ c main_arg1) (funext fun a => Fin.ext ?_)
  match a with
  | ⟨0, _⟩ => show win3_1.index t 0 * 1 + 1 * 0 = 9 + t.val / 4; rw [(idx3_mod t).1]; omega
  | ⟨1, _⟩ => show win3_1.index t 1 * 1 + 1 * 0 = 0; rw [(idx3_mod t).2.1]
  | ⟨2, _⟩ => show win3_1.index t 2 * 6144 + 1 * n.val = n.val; rw [(idx3_mod t).2.2]; omega

theorem g_blk3 (c : Dev nD) (t : Fin cfg3.N) (a : Fin 4) (k : Fin 1024) :
    iblk3 (V7 m ρ) c 2 t (ix2 a k) = aG m c (ix2 a k) := by
  rw [aG, ← V7_arg m ρ c (a := main_arg2) (by simp)]
  refine congrArg (V7 m ρ c main_arg2) (funext fun b => Fin.ext ?_)
  match b with
  | ⟨0, _⟩ => show win3_2.index t 0 * 4 + 1 * a.val = a.val; rw [(idx3_all t).1.1]; omega
  | ⟨1, _⟩ => show win3_2.index t 1 * 1024 + 1 * k.val = k.val; rw [(idx3_all t).1.2]; omega

theorem gate_blk3 (c : Dev nD) (t : Fin cfg3.N) (a : Fin 1024) (k : Fin 2816) :
    iblk3 (V7 m ρ) c 3 t (ix2 a k) = aGate m c (ix2 a k) := by
  rw [← V7_gate m ρ]
  refine congrArg (V7 m ρ c main_v10) (funext fun b => Fin.ext ?_)
  match b with
  | ⟨0, _⟩ => show win3_3.index t 0 * 1024 + 1 * a.val = a.val; rw [(idx3_all t).2.1.1]; omega
  | ⟨1, _⟩ => show win3_3.index t 1 * 2816 + 1 * k.val = k.val; rw [(idx3_all t).2.1.2]; omega

theorem up_blk3 (c : Dev nD) (t : Fin cfg3.N) (a : Fin 1024) (k : Fin 2816) :
    iblk3 (V7 m ρ) c 4 t (ix2 a k) = aUp m c (ix2 a k) := by
  rw [← V7_up m ρ]
  refine congrArg (V7 m ρ c main_v11) (funext fun b => Fin.ext ?_)
  match b with
  | ⟨0, _⟩ => show win3_4.index t 0 * 1024 + 1 * a.val = a.val; rw [(idx3_all t).2.2.1.1]; omega
  | ⟨1, _⟩ => show win3_4.index t 1 * 2816 + 1 * k.val = k.val; rw [(idx3_all t).2.2.1.2]; omega

theorem down_blk3 (c : Dev nD) (t : Fin cfg3.N) (a : Fin 2816) (k : Fin 1024) :
    iblk3 (V7 m ρ) c 5 t (ix2 a k) = aDown m c (ix2 a k) := by
  rw [← V7_down m ρ]
  refine congrArg (V7 m ρ c main_v12) (funext fun b => Fin.ext ?_)
  match b with
  | ⟨0, _⟩ => show win3_5.index t 0 * 2816 + 1 * a.val = a.val; rw [(idx3_all t).2.2.2.1]; omega
  | ⟨1, _⟩ => show win3_5.index t 1 * 1024 + 1 * k.val = k.val; rw [(idx3_all t).2.2.2.2]; omega

/-- A row of the gains, loaded by itself. -/
theorem ld_g2 (x : Vec Ideal S4x1024 .f32) (k : Fin 1024) : View.ld x r3_2 (ix2 0 k) = x (ix2 2 k) := by
  refine congrArg x (funext fun a => Fin.ext ?_)
  match a with
  | ⟨0, _⟩ => rfl
  | ⟨1, _⟩ => show 0 + 1 * k.val = k.val; omega

theorem ld_g3 (x : Vec Ideal S4x1024 .f32) (k : Fin 1024) : View.ld x r3_5 (ix2 0 k) = x (ix2 3 k) := by
  refine congrArg x (funext fun a => Fin.ext ?_)
  match a with
  | ⟨0, _⟩ => rfl
  | ⟨1, _⟩ => show 0 + 1 * k.val = k.val; omega

/-- What point `t` writes back is block `t` of `res`. -/
theorem flushed_res (c : Dev nD) (hf : Finite m c) (t : Fin cfg3.N) :
    (dat3 (V7 m ρ) c).flushed 6 t = ((cfg3.win 6).blk t).view.read (Elt Ideal) (res m c) := by
  show (cfg3.win 6).cut (grid3.coords t) ((dat3 (V7 m ρ) c).after 6 t) = _
  rw [after3_6]
  unfold out3_6
  frame_open
  frame_out
  funext j
  obtain ⟨p, l, rfl⟩ : ∃ (p : Fin 512) (l : Fin 1024), j = ix2 p l := ⟨j 0, j 1, eq_ix2 j⟩
  refine (NaFfnTile.tile_apply _ _ _ _ _ _ _ p l).trans ?_
  have hj : ((cfg3.win 6).blk t).view.read (Elt Ideal) (res m c) (ix2 p l) = res m c (ix2 (row t p) l) := by
    refine congrArg (res m c) (funext fun a => Fin.ext ?_)
    match a with
    | ⟨0, _⟩ => show win3_6.index t 0 * 512 + 1 * p.val = t.val * 512 + p.val; rw [(idx3 t).2.1]; omega
    | ⟨1, _⟩ => show win3_6.index t 1 * 1024 + 1 * l.val = l.val; rw [(idx3 t).2.2]; omega
  rw [hj]
  have hb : smp t = NaRefRows.sq (row t p) := smp_row t p
  exact ffnRow_congr (funext fun k => x_blk3 m ρ c hf t p k) (funext fun k => (ld_g2 _ k).trans (g_blk3 m ρ c t 2 k))
    (funext fun k => (ld_g3 _ k).trans (g_blk3 m ρ c t 3 k))
    (funext fun k => (mod_blk3 m ρ c t _).trans (congrArg (fun b : Fin 2 => NaRefRows.modAt (aMod m c) b 3072 (by decide) k) hb))
    (funext fun k => (mod_blk3 m ρ c t _).trans (congrArg (fun b : Fin 2 => NaRefRows.modAt (aMod m c) b 4096 (by decide) k) hb))
    (funext fun k => (mod_blk3 m ρ c t _).trans (congrArg (fun b : Fin 2 => NaRefRows.modAt (aMod m c) b 5120 (by decide) k) hb))
    (funext fun k => funext fun h => gate_blk3 m ρ c t k h)
    (funext fun k => funext fun h => up_blk3 m ρ c t k h) (funext fun k => funext fun h => down_blk3 m ρ c t k h) l

/-- An index of the result is in point `t`'s block when its row is one of the tile's 512. -/
theorem mem_res (t : Fin cfg3.N) (i : S4096x1024.Idx) :
    i ∈ ((cfg3.win 6).blk t).view.set ↔ t.val * 512 ≤ (i 0 : Nat) ∧ (i 0 : Nat) < t.val * 512 + 512 := by
  show i ∈ ((View.whole main_v13).slice (win3_6.rect t)).set ↔ _
  rw [View.set_slice_whole, Rect.mem_set_unit]
  have h1 : (i 1 : Nat) < 1024 := (i 1).isLt
  refine ⟨fun h => ?_, fun h a => ?_⟩
  · have : win3_6.index t 0 * 512 ≤ (i 0 : Nat) ∧ (i 0 : Nat) < win3_6.index t 0 * 512 + 512 := h 0
    rw [(idx3 t).2.1] at this; exact this
  · match a with
    | ⟨0, _⟩ => show win3_6.index t 0 * 512 ≤ (i 0 : Nat) ∧ (i 0 : Nat) < win3_6.index t 0 * 512 + 512
                rw [(idx3 t).2.1]; exact h
    | ⟨1, _⟩ => show win3_6.index t 1 * 1024 ≤ (i 1 : Nat) ∧ (i 1 : Nat) < win3_6.index t 1 * 1024 + 1024
                rw [(idx3 t).2.2]
                exact ⟨Nat.zero_le _, h1⟩

theorem cover_res (i : S4096x1024.Idx) :
    ∃ t : Fin cfg3.N, (cfg3.win 6).flush t = true ∧ i ∈ ((cfg3.win 6).blk t).view.set := by
  have h0 : (i 0 : Nat) < 4096 := (i 0).isLt
  have hN : cfg3.N = 8 := N_3
  refine ⟨⟨(i 0 : Nat) / 512, by omega⟩, flush3_6 _, ?_⟩
  rw [mem_res]
  dsimp only
  omega

theorem final_res (c : Dev nD) (hf : Finite m c) : (dat3 (V7 m ρ) c).arrAt 6 cfg3.N = res m c :=
  (dat3 (V7 m ρ) c).arrAt_eq_of_cover 6 (res m c) (fun t _ => flushed_res m ρ c hf t) cover_res

/-! ### The run -/

section Run

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

local notation "𝕄" => MT nD τ sig Unit (Elt Ideal) ℕ (UR sig nD τ) ℕ

set_option backward.isDefEq.respectTransparency.types false in
/-- Every execution of the four calls ends with the feed-forward call's array as its write-backs leave it, the arguments unchanged. -/
theorem run : θ_run defs (onTc (τ := τ) (main (F := Ideal))) ⟨m, fun _ => 0, ρ⟩ (fun r => (∀ c : Dev nD,
      r.2.mem ((c.tc : Thread nD τ).loc main_v13) = (dat3 (V7 m ρ) c).arrAt 6 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨(h c _ (mem_uc main_v13 (by decide))).trans (W8_arr m ρ c 6),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩), funext fun g => hz g (.inr (no_unscoped g.2))⟩)

end Run

theorem frame_ref : Cert.quiescent_NaRefIdeal := fun m ρ _ =>
  (θ_run Cert.NaRefIdeal.defs _ _).mono (fun r h => ⟨fun c => (h c).2,
      Idealize.ShloMosaic.sem_eq_zero_of_no_sems (by decide) r.2⟩)
    (Cert.NaRefIdeal.Value.run (F := Ideal) m ρ)

/-- Over the extended reals and on finite arguments the four calls and the reference leave the same array. -/
theorem algebraic [Cert.Pre_na_finite.Facts] : Cert.algebraic_NaIdeal_NaRefIdeal_pre_na_finite := by
  intro m ρ m' ρ' hpre hagree
  refine ⟨fun c => res m c, ?_, ?_⟩
  · exact (θ_run Cert.NaIdeal.defs _ _).mono (fun _ h c => ⟨(h.1 c).1.trans (final_res m ρ c (finite_of_pre m hpre c)), (h.1 c).2⟩)
      (run m ρ)
  refine (θ_run Cert.NaRefIdeal.defs _ _).mono (fun _ h c => ⟨(h c).1.trans ?_, (h c).2⟩)
    (Cert.NaRefIdeal.Value.run (F := Ideal) m' ρ')
  rw [Cert.NaRefIdeal.Read.val_main_v209_eq]
  show Cert.NaRefIdeal.Read.val_main_v209 (F := Ideal) (m' ((c.tc : Thread Cert.NaRefIdeal.nD Cert.NaRefIdeal.τ).loc Cert.NaRefIdeal.main_arg0))
    (m' ((c.tc : Thread Cert.NaRefIdeal.nD Cert.NaRefIdeal.τ).loc Cert.NaRefIdeal.main_arg1))
    (m' ((c.tc : Thread Cert.NaRefIdeal.nD Cert.NaRefIdeal.τ).loc Cert.NaRefIdeal.main_arg2))
    (m' ((c.tc : Thread Cert.NaRefIdeal.nD Cert.NaRefIdeal.τ).loc Cert.NaRefIdeal.main_arg3))
    (m' ((c.tc : Thread Cert.NaRefIdeal.nD Cert.NaRefIdeal.τ).loc Cert.NaRefIdeal.main_arg4))
    (m' ((c.tc : Thread Cert.NaRefIdeal.nD Cert.NaRefIdeal.τ).loc Cert.NaRefIdeal.main_arg5))
    (m' ((c.tc : Thread Cert.NaRefIdeal.nD Cert.NaRefIdeal.τ).loc Cert.NaRefIdeal.main_arg6))
    (m' ((c.tc : Thread Cert.NaRefIdeal.nD Cert.NaRefIdeal.τ).loc Cert.NaRefIdeal.main_arg7))
    (m' ((c.tc : Thread Cert.NaRefIdeal.nD Cert.NaRefIdeal.τ).loc Cert.NaRefIdeal.main_arg8))
    (m' ((c.tc : Thread Cert.NaRefIdeal.nD Cert.NaRefIdeal.τ).loc Cert.NaRefIdeal.main_arg9))
    (m' ((c.tc : Thread Cert.NaRefIdeal.nD Cert.NaRefIdeal.τ).loc Cert.NaRefIdeal.main_arg10)) = res m c
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  funext i
  obtain ⟨r, l, rfl⟩ : ∃ (r : Fin 4096) (l : Fin 1024), i = ix2 r l := ⟨i 0, i 1, eq_ix2 i⟩
  exact NaRefRows.row_apply _ _ _ _ _ _ _ _ _ _ _ r l

end Cert.NaValue

end
-- ==== Proof.FourierSpec.lean ====
/-
  THE FOURIER MIXING OF A SEQUENCE, ROW BY ROW, over the extended reals: products of a token's channels with a cosine and a sine
  table inside each group of 256 channels, their mixture over the sequence's tokens, and the gated residual of its projection.
-/
module

public import proofs.«01_k».proof.Proof.AttnSpec

@[expose] public section

set_option maxRecDepth 16384

noncomputable section

namespace Cert.FourierSpec

open Idealize.ShloMosaic
open Cert.LayerSpec Cert.AttnSpec
open scoped BigOperators

/-- Channel `c` of the group that channel `n` belongs to, and the place of `n` in it. -/
abbrev grpCol (n : Fin 1024) (c : Fin 256) : Fin 1024 := ⟨n.val / 256 * 256 + c.val, by omega⟩
abbrev place (n : Fin 1024) : Fin 256 := ⟨n.val % 256, by omega⟩

/-- A row's group of channels times a table, at channel `n`. -/
def chanSum (f : Fin 1024 → EReal) (w : Fin 256 → Fin 256 → EReal) (n : Fin 1024) : EReal :=
  ∑ c, f (grpCol n c) * w c (place n)

/-- The real part of the two transforms of a sequence, at token `p`. -/
def mixRow (H : Fin 256 → Fin 1024 → EReal) (cg sg cp sp : Fin 256 → Fin 256 → EReal) (p : Fin 256) (n : Fin 1024) : EReal :=
  (∑ t, cp p t * chanSum (H t) cg n) - ∑ t, sp p t * chanSum (H t) sg n

/-- The Fourier part of the layer on token `p` of the sequence `X`. -/
def fourierRow (X : Fin 256 → Fin 1024 → EReal) (g0 g1 sh sc gt : Fin 1024 → EReal) (cg sg cp sp : Fin 256 → Fin 256 → EReal)
    (wo : Fin 1024 → Fin 1024 → EReal) (p : Fin 256) : Fin 1024 → EReal :=
  gated (X p) gt g1 (proj (mixRow (fun t => normMod (X t) g0 sh sc) cg sg cp sp p) wo)

theorem fourierRow_congr {X X' : Fin 256 → Fin 1024 → EReal} {g0 g0' g1 g1' sh sh' sc sc' gt gt' : Fin 1024 → EReal}
    {cg cg' sg sg' cp cp' sp sp' : Fin 256 → Fin 256 → EReal} {wo wo' : Fin 1024 → Fin 1024 → EReal} {p p' : Fin 256}
    (hX : X = X') (h0 : g0 = g0') (h1 : g1 = g1') (hsh : sh = sh') (hsc : sc = sc') (hgt : gt = gt') (hcg : cg = cg')
    (hsg : sg = sg') (hcp : cp = cp') (hsp : sp = sp') (hwo : wo = wo') (hp : p = p') (l : Fin 1024) :
    fourierRow X g0 g1 sh sc gt cg sg cp sp wo p l = fourierRow X' g0' g1' sh' sc' gt' cg' sg' cp' sp' wo' p' l := by
  subst hX h0 h1 hsh hsc hgt hcg hsg hcp hsp hwo hp; rfl

end Cert.FourierSpec

end
-- ==== Proof.FourierTile.lean ====
/-
  THE FOURIER CALLS' TILES: the four groups of channels that the first call's body stores one after the other are one array,
  for the cosine table and for the sine table, and the second call's body leaves the gated residual of the mixture's projection.
-/
module

public import proofs.«01_k».proof.Proof.FourierSpec
public import proofs.«01_k».proof.Proof.Gen.FourierIdeal.Frame
public import Idealize.ShloMosaic.Lib.Pointwise
public import Idealize.ShloMosaic.Lib.Pipeline.Value
public import Idealize.ShloMosaic.Lib.Pipeline.ValueKit.Acc
public import Idealize.ShloMosaic.Lib.Pipeline.ReadBack

@[expose] public section

set_option maxRecDepth 16384

noncomputable section

namespace Cert.FourierTile

open Idealize.ShloMosaic Idealize.ShloMosaic.TcCoe Idealize.SL.Sem
open Idealize.ShloMosaic.Pointwise
open Cert.FourierIdeal Cert.FourierIdeal.Gen Cert.LayerSpec Cert.AttnSpec Cert.FourierSpec
open scoped BigOperators

/-- Entry `o + k` of a modulation row. -/
abbrev modAt (md : Vec Ideal S1x1x6144 .f32) (o : Nat) (ho : o + 1024 ≤ 6144) (k : Fin 1024) : EReal :=
  md (ix3 0 0 ⟨o + k, by omega⟩)

abbrev shift (md : Vec Ideal S1x1x6144 .f32) (k : Fin 1024) : EReal := md (ix3 0 0 ⟨k.val, by omega⟩)

theorem h_apply (x : Vec Ideal S512x1024 .f32) (md : Vec Ideal S1x1x6144 .f32) (g : Vec Ideal S1x1024 .f32) (p : Fin 512) (k : Fin 1024) :
    k0_pay9 (F := Ideal) x md g (ix2 p k)
      = normMod (fun k => x (ix2 p k)) (fun k => g (ix2 0 k)) (shift md) (modAt md 1024 (by decide)) k := by
  pointwise [k0_pay9]
  rfl

/-- A tile's rows times the joint table's columns from `o` on, group by group. -/
def prods (h : Vec Ideal S512x1024 .bf16) (cs : Vec Ideal S256x512 .bf16) (o : Nat) (ho : o + 256 ≤ 512) : Vec Ideal S512x1024 .bf16 := fun i =>
  chanSum (fun k => h (ix2 (i 0) k)) (fun k c => cs (ix2 k ⟨o + c.val, by omega⟩)) (i 1)

/-- A stored group of channels is a block of the whole. -/
theorem group_piece (h : Vec Ideal S512x1024 .bf16) (cs : Vec Ideal S256x512 .bf16) {o : Nat} (ho : o + 256 ≤ 512) (f : Vec Ideal S512x256 .bf16)
    {c0 : Nat} (hc : c0 % 256 = 0) (hb : c0 + 256 ≤ 1024)
    (hf : ∀ (p : Fin 512) (c : Fin 256), f (ix2 p c)
      = ∑ k : Fin 256, h (ix2 p (⟨c0 + k.val, by omega⟩ : Fin 1024)) * cs (ix2 k (⟨o + c.val, by omega⟩ : Fin 512)))
    (inb : ∀ a, (![0, c0] : Fin 2 → Nat) a + (![512, 256] : Fin 2 → Nat) a ≤ S512x1024.size a) (x : S512x256.Idx) :
    f x = prods h cs o ho ((Rect.unit (s := S512x1024) ![0, c0] ![512, 256] inb).emb x) := by
  obtain ⟨p, l, rfl⟩ : ∃ (p : Fin 512) (l : Fin 256), x = ix2 p l := ⟨x 0, x 1, eq_ix2 x⟩
  have he : (Rect.unit (s := S512x1024) ![0, c0] ![512, 256] inb).emb (ix2 p l)
      = ix2 p (⟨c0 + l.val, by omega⟩ : Fin 1024) := by
    refine funext fun a => Fin.ext ?_
    match a with
    | ⟨0, _⟩ => show 0 + 1 * p.val = p.val; omega
    | ⟨1, _⟩ => show c0 + 1 * l.val = c0 + l.val; omega
  rw [hf, he]
  unfold prods chanSum
  refine Finset.sum_congr rfl fun k _ => congrArg₂ (· * ·) ?_ ?_
  · exact congrArg (fun n => h (ix2 p n)) (Fin.ext (show c0 + k.val = (c0 + l.val) / 256 * 256 + k.val by omega))
  · exact congrArg (fun n => cs (ix2 k n)) (Fin.ext (show o + l.val = o + (c0 + l.val) % 256 by omega))

section Groups

variable (x : Vec Ideal S512x1024 .f32) (md : Vec Ideal S1x1x6144 .f32) (g : Vec Ideal S1x1024 .f32) (cs : Vec Ideal S256x512 .bf16)
  (h : Vec Ideal S512x1024 .bf16)

theorem cos0 (p : Fin 512) (c : Fin 256) : k0_pay12 (F := Ideal) x md g cs (ix2 p c)
    = ∑ k : Fin 256, k0_pay9 (F := Ideal) x md g (ix2 p (⟨0 + k.val, by omega⟩ : Fin 1024)) * cs (ix2 k (⟨0 + c.val, by omega⟩ : Fin 512)) := by
  pointwise [k0_pay12, k0_pay11, k0_pay10]

theorem sin0 (p : Fin 512) (c : Fin 256) : k0_pay13 (F := Ideal) x md g cs (ix2 p c)
    = ∑ k : Fin 256, k0_pay9 (F := Ideal) x md g (ix2 p (⟨0 + k.val, by omega⟩ : Fin 1024)) * cs (ix2 k (⟨256 + c.val, by omega⟩ : Fin 512)) := by
  pointwise [k0_pay13, k0_pay11, k0_pay10]

theorem cos1 (p : Fin 512) (c : Fin 256) : k0_pay1 (F := Ideal) (k0_pay15 x md g cs) (ix2 p c)
    = ∑ k : Fin 256, k0_pay9 (F := Ideal) x md g (ix2 p (⟨256 + k.val, by omega⟩ : Fin 1024)) * cs (ix2 k (⟨0 + c.val, by omega⟩ : Fin 512)) := by
  pointwise [k0_pay1, k0_pay15, k0_pay14, k0_pay10]

theorem sin1 (p : Fin 512) (c : Fin 256) : k0_pay2 (F := Ideal) (k0_pay14 x md g cs) (ix2 p c)
    = ∑ k : Fin 256, k0_pay9 (F := Ideal) x md g (ix2 p (⟨256 + k.val, by omega⟩ : Fin 1024)) * cs (ix2 k (⟨256 + c.val, by omega⟩ : Fin 512)) := by
  pointwise [k0_pay2, k0_pay14, k0_pay10]

theorem cos2 (p : Fin 512) (c : Fin 256) : k0_pay4 (F := Ideal) h (k0_pay10 cs) (ix2 p c)
    = ∑ k : Fin 256, h (ix2 p (⟨512 + k.val, by omega⟩ : Fin 1024)) * cs (ix2 k (⟨0 + c.val, by omega⟩ : Fin 512)) := by
  pointwise [k0_pay4, k0_pay3, k0_pay10]

theorem sin2 (p : Fin 512) (c : Fin 256) : k0_pay5 (F := Ideal) h (k0_pay10 cs) (ix2 p c)
    = ∑ k : Fin 256, h (ix2 p (⟨512 + k.val, by omega⟩ : Fin 1024)) * cs (ix2 k (⟨256 + c.val, by omega⟩ : Fin 512)) := by
  pointwise [k0_pay5, k0_pay3, k0_pay10]

theorem cos3 (p : Fin 512) (c : Fin 256) : k0_pay7 (F := Ideal) h (k0_pay10 cs) (ix2 p c)
    = ∑ k : Fin 256, h (ix2 p (⟨768 + k.val, by omega⟩ : Fin 1024)) * cs (ix2 k (⟨0 + c.val, by omega⟩ : Fin 512)) := by
  pointwise [k0_pay7, k0_pay6, k0_pay10]

theorem sin3 (p : Fin 512) (c : Fin 256) : k0_pay8 (F := Ideal) h (k0_pay10 cs) (ix2 p c)
    = ∑ k : Fin 256, h (ix2 p (⟨768 + k.val, by omega⟩ : Fin 1024)) * cs (ix2 k (⟨256 + c.val, by omega⟩ : Fin 512)) := by
  pointwise [k0_pay8, k0_pay6, k0_pay10]

end Groups

section Blocks

variable (x0 : Vec Ideal S512x1024 .f32) (x1 : Vec Ideal S1x1x6144 .f32) (x2 : Vec Ideal S4x1024 .f32) (x3 : Vec Ideal S256x512 .bf16)

theorem ld_x (x : Vec Ideal S512x1024 .f32) : View.ld x r0_0 = x :=
  View.ld_unit_zero (funext fun a => by fin_cases a <;> rfl) _ x

theorem ld_mod (x : Vec Ideal S1x1x6144 .f32) : View.ld x r0_1 = x :=
  View.ld_unit_zero (funext fun a => by fin_cases a <;> rfl) _ x

theorem ld_tab (x : Vec Ideal S256x512 .bf16) : View.ld x r0_3 = x :=
  View.ld_unit_zero (funext fun a => by fin_cases a <;> rfl) _ x

/-- The tile's normalised and modulated rows. -/
abbrev hRow : Vec Ideal S512x1024 .bf16 := k0_pay9 (F := Ideal) (View.ld x0 r0_0) (View.ld x1 r0_1) (View.ld x2 r0_2)

theorem cos_block : out0_4 (F := Ideal) x0 x1 x2 x3 = prods (hRow x0 x1 x2) (View.ld x3 r0_3) 0 (by decide) := by
  funext y
  have hc := fun p0 p1 p2 p3 => cover0_4 (F := Ideal) p0 p1 p2 p3 y
  unfold_out out0_4
  refine View.canon_apply_of_pieces (prods (hRow x0 x1 x2) (View.ld x3 r0_3) 0 (by decide)) _ (View.PiecesOf.mem ?_) _ (hc _ _ _ _)
  exact ⟨group_piece _ _ _ _ (c0 := 768) (by decide) (by decide) (cos3 _ _) (by decide),
    group_piece _ _ _ _ (c0 := 512) (by decide) (by decide) (cos2 _ _) (by decide),
    group_piece _ _ _ _ (c0 := 256) (by decide) (by decide) (cos1 _ _ _ _) (by decide),
    group_piece _ _ _ _ (c0 := 0) (by decide) (by decide) (cos0 _ _ _ _) (by decide), trivial⟩

theorem sin_block : out0_5 (F := Ideal) x0 x1 x2 x3 = prods (hRow x0 x1 x2) (View.ld x3 r0_3) 256 (by decide) := by
  funext y
  have hc := fun p0 p1 p2 p3 => cover0_5 (F := Ideal) p0 p1 p2 p3 y
  unfold_out out0_5
  refine View.canon_apply_of_pieces (prods (hRow x0 x1 x2) (View.ld x3 r0_3) 256 (by decide)) _ (View.PiecesOf.mem ?_) _ (hc _ _ _ _)
  exact ⟨group_piece _ _ _ _ (c0 := 768) (by decide) (by decide) (sin3 _ _) (by decide),
    group_piece _ _ _ _ (c0 := 512) (by decide) (by decide) (sin2 _ _) (by decide),
    group_piece _ _ _ _ (c0 := 256) (by decide) (by decide) (sin1 _ _ _ _) (by decide),
    group_piece _ _ _ _ (c0 := 0) (by decide) (by decide) (sin0 _ _ _ _) (by decide), trivial⟩

end Blocks

/-- What the second call's body leaves, at an index. -/
theorem res_apply (cp : Vec Ideal S256x256 .bf16) (xc : Vec Ideal S256x1024 .bf16) (sp : Vec Ideal S256x256 .bf16) (xs : Vec Ideal S256x1024 .bf16)
    (w : Vec Ideal S1024x1024 .bf16) (md : Vec Ideal S1x1x6144 .f32) (x : Vec Ideal S256x1024 .f32) (g1 : Vec Ideal S1x1024 .f32)
    (p : Fin 256) (l : Fin 1024) :
    k1_pay1 (F := Ideal) cp xc sp xs w md x g1 (ix2 p l)
      = gated (fun k => x (ix2 p k)) (modAt md 2048 (by decide)) (fun k => g1 (ix2 0 k))
          (proj (fun n => (∑ t, cp (ix2 p t) * xc (ix2 t n)) - ∑ t, sp (ix2 p t) * xs (ix2 t n)) (fun n l => w (ix2 n l))) l := by
  pointwise [k1_pay1]
  rfl

end Cert.FourierTile

end
-- ==== Proof.FourierRef.lean ====
/-
  THE FOURIER REFERENCE, ROW BY ROW: row `r` of its result is the Fourier part of the layer on token `r % 256` of sequence
  `r / 256`.
-/
module

public import proofs.«01_k».proof.Proof.FourierSpec
public import proofs.«01_k».proof.Proof.Gen.FourierRefIdeal.Read

@[expose] public section

set_option maxRecDepth 16384

noncomputable section

namespace Cert.FourierRefRows

open Idealize.ShloMosaic Idealize.ShloMosaic.TcCoe Idealize.SL.Sem
open Idealize.ShloMosaic.Pointwise
open Cert.FourierRefIdeal Cert.FourierRefIdeal.Read Cert.LayerSpec Cert.AttnSpec Cert.FourierSpec

variable (x : Vec Ideal S8192x1024 .f32) (md : Vec Ideal S16x1x6144 .f32) (g : Vec Ideal S4x1024 .f32)
  (cg sg cp sp : Vec Ideal S256x256 .f32) (wo : Vec Ideal S1024x1024 .f32)

/-- Entry `o + k` of the prompt's modulation row (row 0). -/
abbrev modAt (o : Nat) (ho : o + 1024 ≤ 6144) (k : Fin 1024) : EReal :=
  md (ix3 0 0 ⟨o + k, by omega⟩)

abbrev shift (k : Fin 1024) : EReal := md (ix3 0 0 ⟨k.val, by omega⟩)

/-- Row of token `p` of sequence `b`; the sequence of a row, and its token there. -/
abbrev row (b : Fin 32) (p : Fin 256) : Fin 8192 := ⟨b.val * 256 + p.val, by omega⟩
abbrev sq (r : Fin 8192) : Fin 32 := ⟨r.val / 256, by omega⟩
abbrev tk (r : Fin 8192) : Fin 256 := ⟨r.val % 256, by omega⟩

/-- The tokens of the sequence that row `r` belongs to. -/
abbrev seqOf (r : Fin 8192) (p : Fin 256) (k : Fin 1024) : EReal := x (ix2 (row (sq r) p) k)

theorem h_apply (b : Fin 32) (p : Fin 256) (k : Fin 1024) :
    val_main_v30 (F := Ideal) x md g (ix3 b p k)
      = normMod (fun k => x (ix2 (row b p) k)) (fun k => g (ix2 0 k)) (shift md) (modAt md 1024 (by decide)) k := by
  pointwise [val_main_v30, val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v5, val_main_v4, val_main_v3, val_main_v2,
    val_main_v1, val_main_v0, val_main_cst, val_main_cst_0, val_main_cst_1, val_main_cst_2]
  rfl

theorem re_apply (b : Fin 32) (t : Fin 256) (j : Fin 4) (c : Fin 256) :
    val_main_v32 (F := Ideal) x md g cg (ix4 b t j c)
      = ∑ k : Fin 256, val_main_v30 (F := Ideal) x md g (ix3 b t ⟨j.val * 256 + k.val, by omega⟩) * cg (ix2 k c) := by
  pointwise [val_main_v32, val_main_v31]

theorem im_apply (b : Fin 32) (t : Fin 256) (j : Fin 4) (c : Fin 256) :
    val_main_v33 (F := Ideal) x md g sg (ix4 b t j c)
      = ∑ k : Fin 256, val_main_v30 (F := Ideal) x md g (ix3 b t ⟨j.val * 256 + k.val, by omega⟩) * sg (ix2 k c) := by
  pointwise [val_main_v33, val_main_v31]

theorem mix_apply (b : Fin 32) (p : Fin 256) (n : Fin 1024) :
    val_main_v39 (F := Ideal) x md g cg sg cp sp (ix3 b p n)
      = (∑ t, val_main_v32 (F := Ideal) x md g cg (ix4 b t (⟨n.val / 256, by omega⟩ : Fin 4) (place n)) * cp (ix2 p t))
        - ∑ t, val_main_v33 (F := Ideal) x md g sg (ix4 b t (⟨n.val / 256, by omega⟩ : Fin 4) (place n)) * sp (ix2 p t) := by
  pointwise [val_main_v39, val_main_v38, val_main_v37, val_main_v36, val_main_v35, val_main_v34]

theorem res_apply (r : Fin 8192) (l : Fin 1024) :
    val_main_v59 (F := Ideal) x md g cg sg cp sp wo (ix2 r l)
      = gated (fun k => x (ix2 r k)) (modAt md 2048 (by decide)) (fun k => g (ix2 1 k))
          (proj (fun n => val_main_v39 (F := Ideal) x md g cg sg cp sp (ix3 (sq r) (tk r) n)) (fun n l => wo (ix2 n l))) l := by
  pointwise [val_main_v59, val_main_v58, val_main_v57, val_main_v56, val_main_v55, val_main_v54, val_main_v53, val_main_v52, val_main_v51, val_main_v50,
    val_main_v49, val_main_v48, val_main_v47, val_main_v46, val_main_v45, val_main_v44, val_main_v43, val_main_v42, val_main_v41,
    val_main_v40, val_main_v6, val_main_v3, val_main_v2, val_main_v1, val_main_v0, val_main_cst_3, val_main_cst_4, val_main_cst_5]
  rfl

/-- A row of the reference's result: the Fourier part of the layer on it. -/
theorem row_apply (r : Fin 8192) (l : Fin 1024) :
    val_main_v59 (F := Ideal) x md g cg sg cp sp wo (ix2 r l)
      = fourierRow (seqOf x r) (fun k => g (ix2 0 k)) (fun k => g (ix2 1 k)) (shift md) (modAt md 1024 (by decide))
          (modAt md 2048 (by decide)) (fun k c => cg (ix2 k c)) (fun k c => sg (ix2 k c)) (fun p t => cp (ix2 p t))
          (fun p t => sp (ix2 p t)) (fun n l => wo (ix2 n l)) (tk r) l := by
  have hr : row (sq r) (tk r) = r := Fin.ext (Nat.div_add_mod' r.val 256)
  rw [res_apply]
  simp only [mix_apply, re_apply, im_apply, h_apply]
  unfold fourierRow mixRow chanSum seqOf
  simp only [hr, mul_comm (cp _), mul_comm (sp _)]

end Cert.FourierRefRows

end
-- ==== Proof.FourierValue.lean ====
/-
  THE PROMPT'S FIRST LAYER, ITS FOURIER PART: the two calls leave, in row `r` of the result, the Fourier part of the layer on token
  `r % 256` of sequence `r / 256`, which is what the reference leaves there.
-/
module

public import proofs.«01_k».proof.Defs
public import proofs.«01_k».proof.Proof.FourierTile
public import proofs.«01_k».proof.Proof.FourierRef
public import proofs.«01_k».proof.Proof.Gen.FourierRefIdeal.Run
public import Idealize.ShloMosaic.Lib.Pipeline.Value
public import Idealize.ShloMosaic.Lib.Pipeline.ValueKit.Acc
public import Idealize.ShloMosaic.Lib.Pipeline.ReadBack
public import Idealize.ShloMosaic.Lib.Quiescent

@[expose] public section

set_option maxRecDepth 16384

noncomputable section

namespace Cert.FourierValue

open Idealize.ShloMosaic Idealize.ShloMosaic.TcCoe Idealize.SL.Sem
open Idealize.ShloMosaic.Pointwise Idealize.ShloMosaic.Tactic
open Idealize.ShloMosaic.Pipeline (Dat)
open Cert.FourierIdeal Cert.FourierIdeal.Gen Cert.LayerSpec Cert.AttnSpec Cert.FourierSpec
open Cert.FourierRefRows (tk)
open scoped BigOperators

variable (m : (ℓ : Loc nD τ sig) → Buf (Elt Ideal) ℓ) (ρ : Dev nD → PrngReg)

/-- The arguments, as launched. -/
abbrev aX (c : Dev nD) : Vec Ideal S8192x1024 .f32 := m ((c : Thread nD τ).loc main_arg0)
abbrev aMod (c : Dev nD) : Vec Ideal S16x1x6144 .f32 := m ((c : Thread nD τ).loc main_arg1)
abbrev aG (c : Dev nD) : Vec Ideal S4x1024 .f32 := m ((c : Thread nD τ).loc main_arg2)
abbrev aCosG (c : Dev nD) : Vec Ideal S256x256 .f32 := m ((c : Thread nD τ).loc main_arg3)
abbrev aSinG (c : Dev nD) : Vec Ideal S256x256 .f32 := m ((c : Thread nD τ).loc main_arg4)
abbrev aCosP (c : Dev nD) : Vec Ideal S256x256 .f32 := m ((c : Thread nD τ).loc main_arg5)
abbrev aSinP (c : Dev nD) : Vec Ideal S256x256 .f32 := m ((c : Thread nD τ).loc main_arg6)
abbrev aOut (c : Dev nD) : Vec Ideal S1024x1024 .f32 := m ((c : Thread nD τ).loc main_arg7)

/-- The normalised and modulated row of a token. -/
abbrev hVal (c : Dev nD) (r : Fin 8192) : Fin 1024 → EReal :=
  normMod (fun k => aX m c (ix2 r k)) (fun k => aG m c (ix2 0 k)) (FourierRefRows.shift (aMod m c))
    (FourierRefRows.modAt (aMod m c) 1024 (by decide))

/-- What the first call leaves: every token's groups of channels times a table. -/
def cosArr (c : Dev nD) : Vec Ideal S8192x1024 .bf16 := fun i => chanSum (hVal m c (i 0)) (fun k d => aCosG m c (ix2 k d)) (i 1)
def sinArr (c : Dev nD) : Vec Ideal S8192x1024 .bf16 := fun i => chanSum (hVal m c (i 0)) (fun k d => aSinG m c (ix2 k d)) (i 1)

/-- What the result is shown to hold. -/
def res (c : Dev nD) : Vec Ideal S8192x1024 .f32 := fun i =>
  fourierRow (FourierRefRows.seqOf (aX m c) (i 0)) (fun k => aG m c (ix2 0 k)) (fun k => aG m c (ix2 1 k)) (FourierRefRows.shift (aMod m c))
    (FourierRefRows.modAt (aMod m c) 1024 (by decide)) (FourierRefRows.modAt (aMod m c) 2048 (by decide))
    (fun k d => aCosG m c (ix2 k d)) (fun k d => aSinG m c (ix2 k d)) (fun p t => aCosP m c (ix2 p t)) (fun p t => aSinP m c (ix2 p t))
    (fun n l => aOut m c (ix2 n l)) (tk (i 0)) (i 1)

/-! ### The first call -/

theorem V1_arg (c : Dev nD) {a : Ref sig .tc} (ha : a ∈ argRefs) : V1 m ρ c a = m ((c : Thread nD τ).loc a) := W1_args m ρ c a ha

/-- The two tables of the channels, side by side. -/
theorem V1_tab (c : Dev nD) : V1 m ρ c main_v1
    = truncf (F := Ideal) .bf16 (concatenate S256x512 1 [⟨S256x256, aCosG m c⟩, ⟨S256x256, aSinG m c⟩] concatenates_S256x256_S256x256_S256x512_d1) bitsLt_bf16_f32 := by
  show StableHlo.after hostOps0 (fun b => m (c, b)) main_v1 = _
  simp only [hostOps0]
  after_results_simp

theorem tab_cos (c : Dev nD) (k d : Fin 256) : V1 m ρ c main_v1 (ix2 k (⟨0 + d.val, by omega⟩ : Fin 512)) = aCosG m c (ix2 k d) := by
  rw [V1_tab]
  pointwise

theorem tab_sin (c : Dev nD) (k d : Fin 256) : V1 m ρ c main_v1 (ix2 k (⟨256 + d.val, by omega⟩ : Fin 512)) = aSinG m c (ix2 k d) := by
  rw [V1_tab]
  pointwise

/-- Row `p` of tile `t`. -/
abbrev row (t : Fin 16) (p : Fin 512) : Fin 8192 := ⟨t.val * 512 + p.val, by omega⟩

theorem idx0 : ∀ t : Fin cfg0.N, (win0_0.index t 0 = t.val ∧ win0_0.index t 1 = 0)
    ∧ (win0_1.index t 0 = 0 ∧ win0_1.index t 1 = 0 ∧ win0_1.index t 2 = 0)
    ∧ (win0_2.index t 0 = 0 ∧ win0_2.index t 1 = 0) ∧ (win0_3.index t 0 = 0 ∧ win0_3.index t 1 = 0) :=
  (by decide +kernel : ∀ t : Fin grid0.N, (win0_0.index t 0 = t.val ∧ win0_0.index t 1 = 0)
    ∧ (win0_1.index t 0 = 0 ∧ win0_1.index t 1 = 0 ∧ win0_1.index t 2 = 0)
    ∧ (win0_2.index t 0 = 0 ∧ win0_2.index t 1 = 0) ∧ (win0_3.index t 0 = 0 ∧ win0_3.index t 1 = 0))

theorem idx0_out : ∀ t : Fin cfg0.N, (win0_4.index t 0 = t.val ∧ win0_4.index t 1 = 0)
    ∧ (win0_5.index t 0 = t.val ∧ win0_5.index t 1 = 0) :=
  (by decide +kernel : ∀ t : Fin grid0.N, (win0_4.index t 0 = t.val ∧ win0_4.index t 1 = 0)
    ∧ (win0_5.index t 0 = t.val ∧ win0_5.index t 1 = 0))

theorem x_blk0 (c : Dev nD) (t : Fin cfg0.N) (p : Fin 512) (k : Fin 1024) :
    iblk0 (V1 m ρ) c 0 t (ix2 p k) = aX m c (ix2 (row t p) k) := by
  rw [aX, ← V1_arg m ρ c (a := main_arg0) (by simp)]
  refine congrArg (V1 m ρ c main_arg0) (funext fun a => Fin.ext ?_)
  match a with
  | ⟨0, _⟩ => show win0_0.index t 0 * 512 + 1 * p.val = t.val * 512 + p.val; rw [(idx0 t).1.1]; omega
  | ⟨1, _⟩ => show win0_0.index t 1 * 1024 + 1 * k.val = k.val; rw [(idx0 t).1.2]; omega

theorem mod_blk0 (c : Dev nD) (t : Fin cfg0.N) (n : Fin 6144) :
    iblk0 (V1 m ρ) c 1 t (ix3 0 0 n) = aMod m c (ix3 0 0 n) := by
  rw [aMod, ← V1_arg m ρ c (a := main_arg1) (by simp)]
  refine congrArg (V1 m ρ c main_arg1) (funext fun a => Fin.ext ?_)
  match a with
  | ⟨0, _⟩ => show win0_1.index t 0 * 1 + 1 * 0 = 0; rw [(idx0 t).2.1.1]
  | ⟨1, _⟩ => show win0_1.index t 1 * 1 + 1 * 0 = 0; rw [(idx0 t).2.1.2.1]
  | ⟨2, _⟩ => show win0_1.index t 2 * 6144 + 1 * n.val = n.val; rw [(idx0 t).2.1.2.2]; omega

theorem g_blk0 (c : Dev nD) (t : Fin cfg0.N) (a : Fin 4) (k : Fin 1024) :
    iblk0 (V1 m ρ) c 2 t (ix2 a k) = aG m c (ix2 a k) := by
  rw [aG, ← V1_arg m ρ c (a := main_arg2) (by simp)]
  refine congrArg (V1 m ρ c main_arg2) (funext fun b => Fin.ext ?_)
  match b with
  | ⟨0, _⟩ => show win0_2.index t 0 * 4 + 1 * a.val = a.val; rw [(idx0 t).2.2.1.1]; omega
  | ⟨1, _⟩ => show win0_2.index t 1 * 1024 + 1 * k.val = k.val; rw [(idx0 t).2.2.1.2]; omega

theorem tab_blk0 (c : Dev nD) (t : Fin cfg0.N) (k : Fin 256) (d : Fin 512) :
    iblk0 (V1 m ρ) c 3 t (ix2 k d) = V1 m ρ c main_v1 (ix2 k d) := by
  refine congrArg (V1 m ρ c main_v1) (funext fun b => Fin.ext ?_)
  match b with
  | ⟨0, _⟩ => show win0_3.index t 0 * 256 + 1 * k.val = k.val; rw [(idx0 t).2.2.2.1]; omega
  | ⟨1, _⟩ => show win0_3.index t 1 * 512 + 1 * d.val = d.val; rw [(idx0 t).2.2.2.2]; omega

/-- A row of the gains, loaded by itself. -/
theorem ld_g {o : Nat} (inb : ∀ a, (![o, 0] : Fin 2 → Nat) a + (![1, 1024] : Fin 2 → Nat) a ≤ S4x1024.size a) (x : Vec Ideal S4x1024 .f32)
    (a : Fin 4) (ha : a.val = o) (k : Fin 1024) : View.ld x (Rect.unit ![o, 0] ![1, 1024] inb) (ix2 0 k) = x (ix2 a k) := by
  refine congrArg x (funext fun b => Fin.ext ?_)
  match b with
  | ⟨0, _⟩ => show o + 1 * 0 = a.val; omega
  | ⟨1, _⟩ => show 0 + 1 * k.val = k.val; omega

theorem normMod_congr {x x' g g' sh sh' sc sc' : Fin 1024 → EReal} (hx : x = x') (hg : g = g') (hsh : sh = sh') (hsc : sc = sc') (k : Fin 1024) :
    normMod x g sh sc k = normMod x' g' sh' sc' k := by
  subst hx hg hsh hsc; rfl

theorem chanSum_congr {f f' : Fin 1024 → EReal} {w w' : Fin 256 → Fin 256 → EReal} (hf : f = f') (hw : w = w') (n : Fin 1024) :
    chanSum f w n = chanSum f' w' n := by
  subst hf hw; rfl

/-- A tile's normalised and modulated row is that of its token. -/
theorem h_row (c : Dev nD) (t : Fin cfg0.N) (p : Fin 512) (k : Fin 1024) :
    FourierTile.hRow (iblk0 (V1 m ρ) c 0 t) (iblk0 (V1 m ρ) c 1 t) (iblk0 (V1 m ρ) c 2 t) (ix2 p k) = hVal m c (row t p) k := by
  refine (FourierTile.h_apply _ _ _ p k).trans (normMod_congr (funext fun k => ?_) (funext fun k => ?_) (funext fun k => ?_) (funext fun k => ?_) k)
  · exact (congrFun (FourierTile.ld_x _) _).trans (x_blk0 m ρ c t p k)
  · exact (ld_g _ _ 0 rfl k).trans (g_blk0 m ρ c t 0 k)
  · exact (congrFun (FourierTile.ld_mod _) _).trans (mod_blk0 m ρ c t _)
  · exact (congrFun (FourierTile.ld_mod _) _).trans (mod_blk0 m ρ c t _)

theorem flushed_cos (c : Dev nD) (t : Fin cfg0.N) :
    (dat0 (V1 m ρ) c).flushed 4 t = ((cfg0.win 4).blk t).view.read (Elt Ideal) (cosArr m c) := by
  show (cfg0.win 4).cut (grid0.coords t) ((dat0 (V1 m ρ) c).after 4 t) = _
  rw [after0_4, FourierTile.cos_block]
  funext j
  obtain ⟨p, l, rfl⟩ : ∃ (p : Fin 512) (l : Fin 1024), j = ix2 p l := ⟨j 0, j 1, eq_ix2 j⟩
  have hj : ((cfg0.win 4).blk t).view.read (Elt Ideal) (cosArr m c) (ix2 p l) = cosArr m c (ix2 (row t p) l) := by
    refine congrArg (cosArr m c) (funext fun a => Fin.ext ?_)
    match a with
    | ⟨0, _⟩ => show win0_4.index t 0 * 512 + 1 * p.val = t.val * 512 + p.val; rw [(idx0_out t).1.1]; omega
    | ⟨1, _⟩ => show win0_4.index t 1 * 1024 + 1 * l.val = l.val; rw [(idx0_out t).1.2]; omega
  rw [hj]
  exact chanSum_congr (funext fun k => h_row m ρ c t p k)
    (funext fun k => funext fun d => (congrFun (FourierTile.ld_tab _) _).trans ((tab_blk0 m ρ c t k _).trans (tab_cos m ρ c k d))) l

theorem mem_cos (t : Fin cfg0.N) (i : S8192x1024.Idx) :
    i ∈ ((cfg0.win 4).blk t).view.set ↔ t.val * 512 ≤ (i 0 : Nat) ∧ (i 0 : Nat) < t.val * 512 + 512 := by
  show i ∈ ((View.whole main_v2_0).slice (win0_4.rect t)).set ↔ _
  rw [View.set_slice_whole, Rect.mem_set_unit]
  have h1 : (i 1 : Nat) < 1024 := (i 1).isLt
  refine ⟨fun h => ?_, fun h a => ?_⟩
  · have : win0_4.index t 0 * 512 ≤ (i 0 : Nat) ∧ (i 0 : Nat) < win0_4.index t 0 * 512 + 512 := h 0
    rw [(idx0_out t).1.1] at this; exact this
  · match a with
    | ⟨0, _⟩ => show win0_4.index t 0 * 512 ≤ (i 0 : Nat) ∧ (i 0 : Nat) < win0_4.index t 0 * 512 + 512
                rw [(idx0_out t).1.1]; exact h
    | ⟨1, _⟩ => show win0_4.index t 1 * 1024 ≤ (i 1 : Nat) ∧ (i 1 : Nat) < win0_4.index t 1 * 1024 + 1024
                rw [(idx0_out t).1.2]
                exact ⟨Nat.zero_le _, h1⟩

theorem cover_cos (i : S8192x1024.Idx) :
    ∃ t : Fin cfg0.N, (cfg0.win 4).flush t = true ∧ i ∈ ((cfg0.win 4).blk t).view.set := by
  have h0 : (i 0 : Nat) < 8192 := (i 0).isLt
  have hN : cfg0.N = 16 := N_0
  refine ⟨⟨(i 0 : Nat) / 512, by omega⟩, flush0_4 _, ?_⟩
  rw [mem_cos]
  dsimp only
  omega

theorem final_cos (c : Dev nD) : (dat0 (V1 m ρ) c).arrAt 4 cfg0.N = cosArr m c :=
  (dat0 (V1 m ρ) c).arrAt_eq_of_cover 4 (cosArr m c) (fun t _ => flushed_cos m ρ c t) cover_cos

theorem flushed_sin (c : Dev nD) (t : Fin cfg0.N) :
    (dat0 (V1 m ρ) c).flushed 5 t = ((cfg0.win 5).blk t).view.read (Elt Ideal) (sinArr m c) := by
  show (cfg0.win 5).cut (grid0.coords t) ((dat0 (V1 m ρ) c).after 5 t) = _
  rw [after0_5, FourierTile.sin_block]
  funext j
  obtain ⟨p, l, rfl⟩ : ∃ (p : Fin 512) (l : Fin 1024), j = ix2 p l := ⟨j 0, j 1, eq_ix2 j⟩
  have hj : ((cfg0.win 5).blk t).view.read (Elt Ideal) (sinArr m c) (ix2 p l) = sinArr m c (ix2 (row t p) l) := by
    refine congrArg (sinArr m c) (funext fun a => Fin.ext ?_)
    match a with
    | ⟨0, _⟩ => show win0_5.index t 0 * 512 + 1 * p.val = t.val * 512 + p.val; rw [(idx0_out t).2.1]; omega
    | ⟨1, _⟩ => show win0_5.index t 1 * 1024 + 1 * l.val = l.val; rw [(idx0_out t).2.2]; omega
  rw [hj]
  exact chanSum_congr (funext fun k => h_row m ρ c t p k)
    (funext fun k => funext fun d => (congrFun (FourierTile.ld_tab _) _).trans ((tab_blk0 m ρ c t k _).trans (tab_sin m ρ c k d))) l

theorem mem_sin (t : Fin cfg0.N) (i : S8192x1024.Idx) :
    i ∈ ((cfg0.win 5).blk t).view.set ↔ t.val * 512 ≤ (i 0 : Nat) ∧ (i 0 : Nat) < t.val * 512 + 512 := by
  show i ∈ ((View.whole main_v2_1).slice (win0_5.rect t)).set ↔ _
  rw [View.set_slice_whole, Rect.mem_set_unit]
  have h1 : (i 1 : Nat) < 1024 := (i 1).isLt
  refine ⟨fun h => ?_, fun h a => ?_⟩
  · have : win0_5.index t 0 * 512 ≤ (i 0 : Nat) ∧ (i 0 : Nat) < win0_5.index t 0 * 512 + 512 := h 0
    rw [(idx0_out t).2.1] at this; exact this
  · match a with
    | ⟨0, _⟩ => show win0_5.index t 0 * 512 ≤ (i 0 : Nat) ∧ (i 0 : Nat) < win0_5.index t 0 * 512 + 512
                rw [(idx0_out t).2.1]; exact h
    | ⟨1, _⟩ => show win0_5.index t 1 * 1024 ≤ (i 1 : Nat) ∧ (i 1 : Nat) < win0_5.index t 1 * 1024 + 1024
                rw [(idx0_out t).2.2]
                exact ⟨Nat.zero_le _, h1⟩

theorem cover_sin (i : S8192x1024.Idx) :
    ∃ t : Fin cfg0.N, (cfg0.win 5).flush t = true ∧ i ∈ ((cfg0.win 5).blk t).view.set := by
  have h0 : (i 0 : Nat) < 8192 := (i 0).isLt
  have hN : cfg0.N = 16 := N_0
  refine ⟨⟨(i 0 : Nat) / 512, by omega⟩, flush0_5 _, ?_⟩
  rw [mem_sin]
  dsimp only
  omega

theorem final_sin (c : Dev nD) : (dat0 (V1 m ρ) c).arrAt 5 cfg0.N = sinArr m c :=
  (dat0 (V1 m ρ) c).arrAt_eq_of_cover 5 (sinArr m c) (fun t _ => flushed_sin m ρ c t) cover_sin

/-! ### The second call -/

theorem V3_arg (c : Dev nD) {a : Ref sig .tc} (ha : a ∈ argRefs) : V3 m ρ c a = m ((c : Thread nD τ).loc a) := W3_args m ρ c a ha

theorem V3_cos (c : Dev nD) : V3 m ρ c main_v2_0 = cosArr m c :=
  (W3_of m ρ c main_v2_0 (by decide)).trans ((W2_arr m ρ c 4).trans (final_cos m ρ c))

theorem V3_sin (c : Dev nD) : V3 m ρ c main_v2_1 = sinArr m c :=
  (W3_of m ρ c main_v2_1 (by decide)).trans ((W2_arr m ρ c 5).trans (final_sin m ρ c))

/-- The tables of the sequence and the weights reach the kernel converted to the narrow format, which changes nothing over the
extended reals. -/
theorem V3_cosP (c : Dev nD) : V3 m ρ c main_v3 = aCosP m c := by
  show StableHlo.after hostOps1 (W2 m ρ c) main_v3 = _
  simp only [hostOps1]
  after_results_simp
  rw [W2_args m ρ c main_arg5 (by simp)]
  rfl

theorem V3_sinP (c : Dev nD) : V3 m ρ c main_v4 = aSinP m c := by
  show StableHlo.after hostOps1 (W2 m ρ c) main_v4 = _
  simp only [hostOps1]
  after_results_simp
  rw [W2_args m ρ c main_arg6 (by simp)]
  rfl

theorem V3_out (c : Dev nD) : V3 m ρ c main_v5 = aOut m c := by
  show StableHlo.after hostOps1 (W2 m ρ c) main_v5 = _
  simp only [hostOps1]
  after_results_simp
  rw [W2_args m ρ c main_arg7 (by simp)]
  rfl

theorem idx1 : ∀ t : Fin cfg1.N, (win1_2.index t 0 = t.val ∧ win1_2.index t 1 = 0) ∧ (win1_3.index t 0 = t.val ∧ win1_3.index t 1 = 0)
    ∧ (win1_4.index t 0 = t.val ∧ win1_4.index t 1 = 0) ∧ (win1_8.index t 0 = t.val ∧ win1_8.index t 1 = 0) :=
  (by decide +kernel : ∀ t : Fin grid1.N, (win1_2.index t 0 = t.val ∧ win1_2.index t 1 = 0) ∧ (win1_3.index t 0 = t.val ∧ win1_3.index t 1 = 0)
    ∧ (win1_4.index t 0 = t.val ∧ win1_4.index t 1 = 0) ∧ (win1_8.index t 0 = t.val ∧ win1_8.index t 1 = 0))

theorem idx1_mod : ∀ t : Fin cfg1.N, win1_5.index t 0 = 0 ∧ win1_5.index t 1 = 0 ∧ win1_5.index t 2 = 0 :=
  (by decide +kernel : ∀ t : Fin grid1.N, win1_5.index t 0 = 0 ∧ win1_5.index t 1 = 0 ∧ win1_5.index t 2 = 0)

theorem idx1_all : ∀ t : Fin cfg1.N, (win1_0.index t 0 = 0 ∧ win1_0.index t 1 = 0) ∧ (win1_1.index t 0 = 0 ∧ win1_1.index t 1 = 0)
    ∧ (win1_6.index t 0 = 0 ∧ win1_6.index t 1 = 0) ∧ (win1_7.index t 0 = 0 ∧ win1_7.index t 1 = 0) :=
  (by decide +kernel : ∀ t : Fin grid1.N, (win1_0.index t 0 = 0 ∧ win1_0.index t 1 = 0) ∧ (win1_1.index t 0 = 0 ∧ win1_1.index t 1 = 0)
    ∧ (win1_6.index t 0 = 0 ∧ win1_6.index t 1 = 0) ∧ (win1_7.index t 0 = 0 ∧ win1_7.index t 1 = 0))

/-- Token `p` of sequence `t`, as a row. -/
abbrev tok (t : Fin 32) (p : Fin 256) : Fin 8192 := FourierRefRows.row t p

theorem cos_blk1 (c : Dev nD) (t : Fin cfg1.N) (a : Fin 256) (k : Fin 1024) :
    iblk1 (V3 m ρ) c 2 t (ix2 a k) = cosArr m c (ix2 (tok t a) k) := by
  rw [← V3_cos m ρ]
  refine congrArg (V3 m ρ c main_v2_0) (funext fun b => Fin.ext ?_)
  match b with
  | ⟨0, _⟩ => show win1_2.index t 0 * 256 + 1 * a.val = t.val * 256 + a.val; rw [(idx1 t).1.1]; omega
  | ⟨1, _⟩ => show win1_2.index t 1 * 1024 + 1 * k.val = k.val; rw [(idx1 t).1.2]; omega

theorem sin_blk1 (c : Dev nD) (t : Fin cfg1.N) (a : Fin 256) (k : Fin 1024) :
    iblk1 (V3 m ρ) c 3 t (ix2 a k) = sinArr m c (ix2 (tok t a) k) := by
  rw [← V3_sin m ρ]
  refine congrArg (V3 m ρ c main_v2_1) (funext fun b => Fin.ext ?_)
  match b with
  | ⟨0, _⟩ => show win1_3.index t 0 * 256 + 1 * a.val = t.val * 256 + a.val; rw [(idx1 t).2.1.1]; omega
  | ⟨1, _⟩ => show win1_3.index t 1 * 1024 + 1 * k.val = k.val; rw [(idx1 t).2.1.2]; omega

theorem x_blk1 (c : Dev nD) (t : Fin cfg1.N) (a : Fin 256) (k : Fin 1024) :
    iblk1 (V3 m ρ) c 4 t (ix2 a k) = aX m c (ix2 (tok t a) k) := by
  rw [aX, ← V3_arg m ρ c (a := main_arg0) (by simp)]
  refine congrArg (V3 m ρ c main_arg0) (funext fun b => Fin.ext ?_)
  match b with
  | ⟨0, _⟩ => show win1_4.index t 0 * 256 + 1 * a.val = t.val * 256 + a.val; rw [(idx1 t).2.2.1.1]; omega
  | ⟨1, _⟩ => show win1_4.index t 1 * 1024 + 1 * k.val = k.val; rw [(idx1 t).2.2.1.2]; omega

theorem cosP_blk1 (c : Dev nD) (t : Fin cfg1.N) (a : Fin 256) (k : Fin 256) :
    iblk1 (V3 m ρ) c 0 t (ix2 a k) = aCosP m c (ix2 a k) := by
  rw [← V3_cosP m ρ]
  refine congrArg (V3 m ρ c main_v3) (funext fun b => Fin.ext ?_)
  match b with
  | ⟨0, _⟩ => show win1_0.index t 0 * 256 + 1 * a.val = a.val; rw [(idx1_all t).1.1]; omega
  | ⟨1, _⟩ => show win1_0.index t 1 * 256 + 1 * k.val = k.val; rw [(idx1_all t).1.2]; omega

theorem sinP_blk1 (c : Dev nD) (t : Fin cfg1.N) (a : Fin 256) (k : Fin 256) :
    iblk1 (V3 m ρ) c 1 t (ix2 a k) = aSinP m c (ix2 a k) := by
  rw [← V3_sinP m ρ]
  refine congrArg (V3 m ρ c main_v4) (funext fun b => Fin.ext ?_)
  match b with
  | ⟨0, _⟩ => show win1_1.index t 0 * 256 + 1 * a.val = a.val; rw [(idx1_all t).2.1.1]; omega
  | ⟨1, _⟩ => show win1_1.index t 1 * 256 + 1 * k.val = k.val; rw [(idx1_all t).2.1.2]; omega

theorem g_blk1 (c : Dev nD) (t : Fin cfg1.N) (a : Fin 4) (k : Fin 1024) :
    iblk1 (V3 m ρ) c 6 t (ix2 a k) = aG m c (ix2 a k) := by
  rw [aG, ← V3_arg m ρ c (a := main_arg2) (by simp)]
  refine congrArg (V3 m ρ c main_arg2) (funext fun b => Fin.ext ?_)
  match b with
  | ⟨0, _⟩ => show win1_6.index t 0 * 4 + 1 * a.val = a.val; rw [(idx1_all t).2.2.1.1]; omega
  | ⟨1, _⟩ => show win1_6.index t 1 * 1024 + 1 * k.val = k.val; rw [(idx1_all t).2.2.1.2]; omega

theorem out_blk1 (c : Dev nD) (t : Fin cfg1.N) (a : Fin 1024) (k : Fin 1024) :
    iblk1 (V3 m ρ) c 7 t (ix2 a k) = aOut m c (ix2 a k) := by
  rw [← V3_out m ρ]
  refine congrArg (V3 m ρ c main_v5) (funext fun b => Fin.ext ?_)
  match b with
  | ⟨0, _⟩ => show win1_7.index t 0 * 1024 + 1 * a.val = a.val; rw [(idx1_all t).2.2.2.1]; omega
  | ⟨1, _⟩ => show win1_7.index t 1 * 1024 + 1 * k.val = k.val; rw [(idx1_all t).2.2.2.2]; omega

theorem mod_blk1 (c : Dev nD) (t : Fin cfg1.N) (n : Fin 6144) :
    iblk1 (V3 m ρ) c 5 t (ix3 0 0 n) = aMod m c (ix3 0 0 n) := by
  rw [aMod, ← V3_arg m ρ c (a := main_arg1) (by simp)]
  refine congrArg (V3 m ρ c main_arg1) (funext fun a => Fin.ext ?_)
  match a with
  | ⟨0, _⟩ => show win1_5.index t 0 * 1 + 1 * 0 = 0; rw [(idx1_mod t).1]
  | ⟨1, _⟩ => show win1_5.index t 1 * 1 + 1 * 0 = 0; rw [(idx1_mod t).2.1]
  | ⟨2, _⟩ => show win1_5.index t 2 * 6144 + 1 * n.val = n.val; rw [(idx1_mod t).2.2]; omega

theorem gated_congr {x x' gt gt' g g' y y' : Fin 1024 → EReal} (hx : x = x') (ht : gt = gt') (hg : g = g') (hy : y = y') (l : Fin 1024) :
    gated x gt g y l = gated x' gt' g' y' l := by
  subst hx ht hg hy; rfl

theorem proj_congr {f f' : Fin 1024 → EReal} {w w' : Fin 1024 → Fin 1024 → EReal} (hf : f = f') (hw : w = w') (n : Fin 1024) :
    proj f w n = proj f' w' n := by
  subst hf hw; rfl

theorem sq_tok (t : Fin 32) (p : Fin 256) : FourierRefRows.sq (tok t p) = t :=
  Fin.ext (by show (t.val * 256 + p.val) / 256 = t.val; omega)

theorem tk_tok (t : Fin 32) (p : Fin 256) : tk (tok t p) = p :=
  Fin.ext (by show (t.val * 256 + p.val) % 256 = p.val; omega)

/-- A row of `res`, by its sequence and its token. -/
theorem res_tok (c : Dev nD) (t : Fin 32) (p : Fin 256) (l : Fin 1024) :
    res m c (ix2 (tok t p) l)
      = gated (fun k => aX m c (ix2 (tok t p) k)) (FourierRefRows.modAt (aMod m c) 2048 (by decide)) (fun k => aG m c (ix2 1 k))
          (proj (fun n => (∑ s, aCosP m c (ix2 p s) * cosArr m c (ix2 (tok t s) n)) - ∑ s, aSinP m c (ix2 p s) * sinArr m c (ix2 (tok t s) n))
            (fun n l => aOut m c (ix2 n l))) l := by
  show fourierRow (fun s k => aX m c (ix2 (tok (FourierRefRows.sq (tok t p)) s) k)) _ _ _ _ _ _ _ _ _ _ (tk (tok t p)) l = _
  rw [sq_tok, tk_tok]
  rfl

/-- What point `t` writes back is block `t` of `res`. -/
theorem flushed_res (c : Dev nD) (t : Fin cfg1.N) :
    (dat1 (V3 m ρ) c).flushed 8 t = ((cfg1.win 8).blk t).view.read (Elt Ideal) (res m c) := by
  show (cfg1.win 8).cut (grid1.coords t) ((dat1 (V3 m ρ) c).after 8 t) = _
  rw [after1_8]
  unfold out1_8
  frame_open
  frame_out
  funext j
  obtain ⟨p, l, rfl⟩ : ∃ (p : Fin 256) (l : Fin 1024), j = ix2 p l := ⟨j 0, j 1, eq_ix2 j⟩
  refine (FourierTile.res_apply _ _ _ _ _ _ _ _ p l).trans ?_
  have hj : ((cfg1.win 8).blk t).view.read (Elt Ideal) (res m c) (ix2 p l) = res m c (ix2 (tok t p) l) := by
    refine congrArg (res m c) (funext fun a => Fin.ext ?_)
    match a with
    | ⟨0, _⟩ => show win1_8.index t 0 * 256 + 1 * p.val = t.val * 256 + p.val; rw [(idx1 t).2.2.2.1]; omega
    | ⟨1, _⟩ => show win1_8.index t 1 * 1024 + 1 * l.val = l.val; rw [(idx1 t).2.2.2.2]; omega
  rw [hj]
  refine Eq.trans ?_ (res_tok m c t p l).symm
  refine gated_congr (funext fun k => x_blk1 m ρ c t p k) (funext fun k => mod_blk1 m ρ c t _)
    (funext fun k => (ld_g _ _ 1 rfl k).trans (g_blk1 m ρ c t 1 k)) (funext fun l => proj_congr (funext fun n => ?_) (funext fun n => funext fun l => out_blk1 m ρ c t n l) l) l
  refine congrArg₂ (· - ·) (Finset.sum_congr rfl fun s _ => ?_) (Finset.sum_congr rfl fun s _ => ?_)
  · exact congrArg₂ (· * ·) (cosP_blk1 m ρ c t p s) (cos_blk1 m ρ c t s n)
  · exact congrArg₂ (· * ·) (sinP_blk1 m ρ c t p s) (sin_blk1 m ρ c t s n)

/-- An index of the result is in point `t`'s block when its row is one of the sequence's 256. -/
theorem mem_res (t : Fin cfg1.N) (i : S8192x1024.Idx) :
    i ∈ ((cfg1.win 8).blk t).view.set ↔ t.val * 256 ≤ (i 0 : Nat) ∧ (i 0 : Nat) < t.val * 256 + 256 := by
  show i ∈ ((View.whole main_v6).slice (win1_8.rect t)).set ↔ _
  rw [View.set_slice_whole, Rect.mem_set_unit]
  have h1 : (i 1 : Nat) < 1024 := (i 1).isLt
  refine ⟨fun h => ?_, fun h a => ?_⟩
  · have : win1_8.index t 0 * 256 ≤ (i 0 : Nat) ∧ (i 0 : Nat) < win1_8.index t 0 * 256 + 256 := h 0
    rw [(idx1 t).2.2.2.1] at this; exact this
  · match a with
    | ⟨0, _⟩ => show win1_8.index t 0 * 256 ≤ (i 0 : Nat) ∧ (i 0 : Nat) < win1_8.index t 0 * 256 + 256
                rw [(idx1 t).2.2.2.1]; exact h
    | ⟨1, _⟩ => show win1_8.index t 1 * 1024 ≤ (i 1 : Nat) ∧ (i 1 : Nat) < win1_8.index t 1 * 1024 + 1024
                rw [(idx1 t).2.2.2.2]
                exact ⟨Nat.zero_le _, h1⟩

theorem cover_res (i : S8192x1024.Idx) :
    ∃ t : Fin cfg1.N, (cfg1.win 8).flush t = true ∧ i ∈ ((cfg1.win 8).blk t).view.set := by
  have h0 : (i 0 : Nat) < 8192 := (i 0).isLt
  have hN : cfg1.N = 32 := N_1
  refine ⟨⟨(i 0 : Nat) / 256, by omega⟩, flush1_8 _, ?_⟩
  rw [mem_res]
  dsimp only
  omega

theorem final_res (c : Dev nD) : (dat1 (V3 m ρ) c).arrAt 8 cfg1.N = res m c :=
  (dat1 (V3 m ρ) c).arrAt_eq_of_cover 8 (res m c) (fun t _ => flushed_res m ρ c t) cover_res

/-! ### The run -/

section Run

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

local notation "𝕄" => MT nD τ sig Unit (Elt Ideal) ℕ (UR sig nD τ) ℕ

set_option backward.isDefEq.respectTransparency.types false in
/-- Every execution of the two calls ends with the second call's array as its write-backs leave it, the arguments unchanged. -/
theorem run : θ_run defs (onTc (τ := τ) (main (F := Ideal))) ⟨m, fun _ => 0, ρ⟩ (fun r => (∀ c : Dev nD,
      r.2.mem ((c.tc : Thread nD τ).loc main_v6) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v6 (by decide))).trans (W4_arr m ρ c 8),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩), funext fun g => hz g (.inr (no_unscoped g.2))⟩)

end Run

theorem frame_ref : Cert.quiescent_FourierRefIdeal := fun m ρ _ =>
  (θ_run Cert.FourierRefIdeal.defs _ _).mono (fun r h => ⟨fun c => (h c).2,
      Idealize.ShloMosaic.sem_eq_zero_of_no_sems (by decide) r.2⟩)
    (Cert.FourierRefIdeal.Value.run (F := Ideal) m ρ)

/-- Over the extended reals the two calls and the reference leave the same array. -/
theorem algebraic : Cert.algebraic_FourierIdeal_FourierRefIdeal := by
  intro m ρ m' ρ' _ hagree
  refine ⟨fun c => res m c, ?_, ?_⟩
  · exact (θ_run Cert.FourierIdeal.defs _ _).mono (fun _ h c => ⟨(h.1 c).1.trans (final_res m ρ c), (h.1 c).2⟩)
      (run m ρ)
  refine (θ_run Cert.FourierRefIdeal.defs _ _).mono (fun _ h c => ⟨(h c).1.trans ?_, (h c).2⟩)
    (Cert.FourierRefIdeal.Value.run (F := Ideal) m' ρ')
  rw [Cert.FourierRefIdeal.Read.val_main_v59_eq]
  show Cert.FourierRefIdeal.Read.val_main_v59 (F := Ideal) (m' ((c.tc : Thread Cert.FourierRefIdeal.nD Cert.FourierRefIdeal.τ).loc Cert.FourierRefIdeal.main_arg0))
    (m' ((c.tc : Thread Cert.FourierRefIdeal.nD Cert.FourierRefIdeal.τ).loc Cert.FourierRefIdeal.main_arg1))
    (m' ((c.tc : Thread Cert.FourierRefIdeal.nD Cert.FourierRefIdeal.τ).loc Cert.FourierRefIdeal.main_arg2))
    (m' ((c.tc : Thread Cert.FourierRefIdeal.nD Cert.FourierRefIdeal.τ).loc Cert.FourierRefIdeal.main_arg3))
    (m' ((c.tc : Thread Cert.FourierRefIdeal.nD Cert.FourierRefIdeal.τ).loc Cert.FourierRefIdeal.main_arg4))
    (m' ((c.tc : Thread Cert.FourierRefIdeal.nD Cert.FourierRefIdeal.τ).loc Cert.FourierRefIdeal.main_arg5))
    (m' ((c.tc : Thread Cert.FourierRefIdeal.nD Cert.FourierRefIdeal.τ).loc Cert.FourierRefIdeal.main_arg6))
    (m' ((c.tc : Thread Cert.FourierRefIdeal.nD Cert.FourierRefIdeal.τ).loc Cert.FourierRefIdeal.main_arg7)) = res m c
  rw [(hagree c).1, (hagree c).2.1, (hagree c).2.2.1, (hagree c).2.2.2.1, (hagree c).2.2.2.2.1, (hagree c).2.2.2.2.2.1, (hagree c).2.2.2.2.2.2.1, (hagree c).2.2.2.2.2.2.2]
  funext i
  obtain ⟨r, l, rfl⟩ : ∃ (r : Fin 8192) (l : Fin 1024), i = ix2 r l := ⟨i 0, i 1, eq_ix2 i⟩
  exact FourierRefRows.row_apply _ _ _ _ _ _ _ _ r l

end Cert.FourierValue

end
-- ==== Proof.lean ====
/-
  The proof of `Cert.Claim`: the frames of the feed-forward call, of the prompt's attention call, of the
  neighbourhood attention's calls, of the prompt's Fourier calls and of their references, and the equality of each with its reference over the extended reals.
-/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.AttnIdeal.Value
public import proofs.«01_k».proof.Proof.Gen.Na
public import proofs.«01_k».proof.Proof.Gen.Na.Skeleton
public import proofs.«01_k».proof.Proof.Gen.Na.Loops
public import proofs.«01_k».proof.Proof.Gen.Na.Launch
public import proofs.«01_k».proof.Proof.Gen.Na.Points
public import proofs.«01_k».proof.Proof.Gen.Na.Frame
public import proofs.«01_k».proof.Proof.Gen.NaIdeal
public import proofs.«01_k».proof.Proof.Gen.NaIdeal.Skeleton
public import proofs.«01_k».proof.Proof.Gen.NaIdeal.Loops
public import proofs.«01_k».proof.Proof.Gen.NaIdeal.Launch
public import proofs.«01_k».proof.Proof.Gen.NaIdeal.Points
public import proofs.«01_k».proof.Proof.Gen.NaIdeal.Frame
public import proofs.«01_k».proof.Proof.Gen.NaRefIdeal
public import proofs.«01_k».proof.Proof.Gen.NaRefIdeal.Run
public import proofs.«01_k».proof.Proof.Gen.NaRefIdeal.Read
public import proofs.«01_k».proof.Proof.Gen.Fourier
public import proofs.«01_k».proof.Proof.Gen.Fourier.Skeleton
public import proofs.«01_k».proof.Proof.Gen.Fourier.Launch
public import proofs.«01_k».proof.Proof.Gen.Fourier.Points
public import proofs.«01_k».proof.Proof.Gen.Fourier.Frame
public import proofs.«01_k».proof.Proof.Gen.FourierIdeal
public import proofs.«01_k».proof.Proof.Gen.FourierIdeal.Skeleton
public import proofs.«01_k».proof.Proof.Gen.FourierIdeal.Launch
public import proofs.«01_k».proof.Proof.Gen.FourierIdeal.Points
public import proofs.«01_k».proof.Proof.Gen.FourierIdeal.Frame
public import proofs.«01_k».proof.Proof.Gen.FourierRefIdeal
public import proofs.«01_k».proof.Proof.Gen.FourierRefIdeal.Run
public import proofs.«01_k».proof.Proof.Gen.FourierRefIdeal.Read
public import proofs.«01_k».proof.Proof.FfnValue
public import proofs.«01_k».proof.Proof.AttnValue
public import proofs.«01_k».proof.Proof.NaLayer
public import proofs.«01_k».proof.Proof.FourierValue
public import Idealize.ShloMosaic.Adequacy
public import Idealize.ShloMosaic.Init

@[expose] public section

noncomputable section

namespace Cert.Proof

open Idealize.ShloMosaic Idealize.SL.Sem Cert.Ffn

/-- The shapes the preconditions state: the scalar spreads over each array, and each array folds to the scalar. -/
theorem pre_facts : Cert.Pre_attn_finite.Facts where
  bcast_S_S8192x1024 := by decide
  reducesTo_S8192x1024_S_d0_1 := by decide
  h_S_ := by decide
  bcast_S_S16x1x6144 := by decide
  reducesTo_S16x1x6144_S_d0_1_2 := by decide
  bcast_S_S4x1024 := by decide
  reducesTo_S4x1024_S_d0_1 := by decide
  bcast_S_S1024x3072 := by decide
  reducesTo_S1024x3072_S_d0_1 := by decide

theorem na_pre_facts : Cert.Pre_na_finite.Facts where
  bcast_S_S4096x1024 := by decide
  reducesTo_S4096x1024_S_d0_1 := by decide
  h_S_ := by decide
  bcast_S_S16x1x6144 := by decide
  reducesTo_S16x1x6144_S_d0_1_2 := by decide
  bcast_S_S4x1024 := by decide
  reducesTo_S4x1024_S_d0_1 := by decide
  bcast_S_S1024x3072 := by decide
  reducesTo_S1024x3072_S_d0_1 := by decide
  bcast_S_S2x512x16x64 := by decide
  reducesTo_S2x512x16x64_S_d0_1_2_3 := by decide
  bcast_S_S16x15x128 := by decide
  reducesTo_S16x15x128_S_d0_1_2 := by decide

theorem claim : Cert.Claim := ⟨Cert.Ffn.Gen.facts, Cert.FfnIdeal.Gen.facts, Cert.FfnRefIdeal.Gen.facts,
  Cert.Attn.Gen.facts, Cert.AttnIdeal.Gen.facts, Cert.AttnRefIdeal.Gen.facts,
  Cert.Na.Gen.facts, Cert.NaIdeal.Gen.facts, Cert.NaRefIdeal.Gen.facts,
  Cert.Fourier.Gen.facts, Cert.FourierIdeal.Gen.facts, Cert.FourierRefIdeal.Gen.facts, pre_facts, na_pre_facts,
  fun m ρ _ => Cert.Ffn.Gen.frame m ρ, fun m ρ _ => Cert.FfnIdeal.Gen.frame m ρ, Cert.FfnValue.frame_ref,
  fun m ρ _ => Cert.Attn.Gen.frame m ρ, fun m ρ _ => Cert.AttnIdeal.Gen.frame m ρ, fun m ρ _ => Cert.AttnIdeal.Gen.frame m ρ,
  Cert.AttnValue.frame_ref, fun m ρ _ => Cert.AttnValue.frame_ref m ρ trivial,
  fun m ρ _ => Cert.Na.Gen.frame m ρ, fun m ρ _ => Cert.NaIdeal.Gen.frame m ρ, fun m ρ _ => Cert.NaIdeal.Gen.frame m ρ,
  Cert.NaValue.frame_ref, fun m ρ _ => Cert.NaValue.frame_ref m ρ trivial,
  fun m ρ _ => Cert.Fourier.Gen.frame m ρ, fun m ρ _ => Cert.FourierIdeal.Gen.frame m ρ, Cert.FourierValue.frame_ref,
  trivial, Cert.FfnValue.algebraic, trivial, @Cert.AttnValue.algebraic pre_facts,
  trivial, @Cert.NaValue.algebraic na_pre_facts,
  trivial, Cert.FourierValue.algebraic⟩

end Cert.Proof

end
